-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def Pre_ChartIdeal (m : (ℓ : Loc Cert.ChartIdeal.nD Cert.ChartIdeal.τ Cert.ChartIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ChartIdeal [hChartIdeal : Cert.ChartIdeal.Facts] : Prop :=
  ∀ (m : (ℓ : Loc Cert.ChartIdeal.nD Cert.ChartIdeal.τ Cert.ChartIdeal.sig) → Buf (Elt Ideal) ℓ) (g : Dev Cert.ChartIdeal.nD → PrngReg), Pre_ChartIdeal m →
    θ_run (Cert.ChartIdeal.defs (F := Ideal)) (onTc (τ := Cert.ChartIdeal.τ) (Cert.ChartIdeal.main (F := Ideal))) ⟨m, fun _ => 0, g⟩ (fun r => (∀ c : Dev Cert.ChartIdeal.nD,
      r.2.mem ((c.tc : Thread Cert.ChartIdeal.nD Cert.ChartIdeal.τ).loc Cert.ChartIdeal.main_arg0) = m ((c.tc : Thread Cert.ChartIdeal.nD Cert.ChartIdeal.τ).loc Cert.ChartIdeal.main_arg0))
      ∧ r.2.sem = fun _ => 0)

def preserves_Kernel_KernelIdeal : Prop :=
  IdealRules.named_const.Statement Cert.KernelIdeal.κ "inv_pi" .f32 0x3EA2F983#32 ((4194304 / 13176795 : ℝ) : EReal)
  ∧ IdealRules.named_const.Statement Cert.KernelIdeal.κ "two_over_pi" .f32 0x3F22F983#32 ((8388608 / 13176795 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v377)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v377) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81_10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def holds_ChartIdeal_near_arctan [hChartIdeal : Cert.ChartIdeal.Facts] [hPost_near_arctan : Cert.Post_near_arctan.Facts] : Prop :=
  ∀ (m : (ℓ : Loc Cert.ChartIdeal.nD Cert.ChartIdeal.τ Cert.ChartIdeal.sig) → Buf (Elt Ideal) ℓ) (g : Dev Cert.ChartIdeal.nD → PrngReg), Pre_ChartIdeal m →
    θ_run (Cert.ChartIdeal.defs (F := Ideal)) (onTc (τ := Cert.ChartIdeal.τ) (Cert.ChartIdeal.main (F := Ideal))) ⟨m, fun _ => 0, g⟩ (fun r => ∀ c : Dev Cert.ChartIdeal.nD,
      r.2.mem ((c.tc : Thread Cert.ChartIdeal.nD Cert.ChartIdeal.τ).loc Cert.ChartIdeal.main_arg0) = m ((c.tc : Thread Cert.ChartIdeal.nD Cert.ChartIdeal.τ).loc Cert.ChartIdeal.main_arg0)
      ∧ (Cert.Post_near_arctan.fn (F := Ideal) (m ((c.tc : Thread Cert.ChartIdeal.nD Cert.ChartIdeal.τ).loc Cert.ChartIdeal.main_arg0)) (r.2.mem ((c.tc : Thread Cert.ChartIdeal.nD Cert.ChartIdeal.τ).loc Cert.ChartIdeal.main_v72))) = (fun _ => 1#1))

def Claim : Prop :=
  ∃ (hKernel : Cert.Kernel.Facts) (hKernelIdeal : Cert.KernelIdeal.Facts) (hReferenceIdeal : Cert.ReferenceIdeal.Facts) (hChartIdeal : Cert.ChartIdeal.Facts) (hPre_tame : Cert.Pre_tame.Facts) (hPost_near_arctan : Cert.Post_near_arctan.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_ChartIdeal (hChartIdeal := hChartIdeal)
    ∧ preserves_Kernel_KernelIdeal
    ∧ algebraic_KernelIdeal_ReferenceIdeal_pre_tame (hKernelIdeal := hKernelIdeal) (hReferenceIdeal := hReferenceIdeal) (hPre_tame := hPre_tame)
    ∧ holds_ChartIdeal_near_arctan (hChartIdeal := hChartIdeal) (hPost_near_arctan := hPost_near_arctan)
-- ==== Post_near_arctan.lean ====
abbrev S262144x3 : Shape := ⟨2, ![262144, 3]⟩
abbrev S_ : Shape := ⟨0, ![]⟩
abbrev S262144 : Shape := ⟨1, ![262144]⟩
abbrev S262144x1 : Shape := ⟨2, ![262144, 1]⟩

class Facts : Prop where
  bcast_S_S262144x3 : S_.BroadcastsInDim S262144x3 (![] : Fin 0 → Fin S262144x3.rank)
  reducesTo_S262144x3_S262144_d1 : S262144x3.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)

variable [Facts]

def fn_clip {F : FTy → Type} [FloatOps F] (arg0 : FVec F S262144 .f32) (arg1 : FVec F S_ .f32) : FVec F S262144 .f32 :=
  let v0 : FVec F S_ .f32 := id arg1
  let v1 : FVec F S262144 .f32 := broadcastInDim S262144 ![] bcast_S_S262144 v0
  let v2 : FVec F S262144 .f32 := maximumf v1 arg0
  v2

def fn_where {F : FTy → Type} [FloatOps F] (arg0 : IVec S262144x1 1) (arg1 : FVec F S262144x3 .f32) (arg2 : FVec F S_ .f32) : FVec F S262144x3 .f32 :=
  let v0 : FVec F S_ .f32 := id arg2
  let v1 : IVec S262144x3 1 := broadcastInDim S262144x3 ![0, 1] bcast_S262144x1_S262144x3_0_1 arg0
  let v2 : FVec F S262144x3 .f32 := broadcastInDim S262144x3 ![] bcast_S_S262144x3 v0
  let v3 : FVec F S262144x3 .f32 := select v1 arg1 v2
  v3

def fn_part1 {F : FTy → Type} [FloatOps F] (main_arg1 : FVec F S262144x3 .f32) (main_v5 : IVec S262144 1) (main_v15 : FVec F S262144x3 .f32) (main_v16 : FVec F S262144x3 .f32) : IVec S262144x3 1 :=
  let main_v17 : FVec F S262144x3 .f32 := Host.divf main_v15 main_v16
  let main_v18 : IVec S262144x1 1 := broadcastInDim S262144x1 ![0] bcast_S262144_S262144x1_0 main_v5
  let main_cst_6 : FVec F S_ .f32 := constant S_ .f32 0x00000000#32
  let main_v19 : FVec F S262144x3 .f32 := fn_where (F := F) main_v18 main_v17 main_cst_6
  let main_v20 : FVec F S262144x3 .f32 := subf main_arg1 main_v19
  let main_v21 : FVec F S262144x3 .f32 := Host.absf main_v20
  let main_cst_7 : FVec F S_ .f32 := constant S_ .f32 0x33D6BF95#32
  let main_v22 : FVec F S262144x3 .f32 := broadcastInDim S262144x3 ![] bcast_S_S262144x3 main_cst_7
  let main_v23 : IVec S262144x3 1 := cmpf .ole main_v21 main_v22
  main_v23

def fn {F : FTy → Type} [FloatOps F] (main_arg0 : FVec F S262144x3 .f32) (main_arg1 : FVec F S262144x3 .f32) : IVec S262144x3 1 :=
  let main_cst : FVec F S_ .f32 := constant S_ .f32 0x40490FDB#32
  let main_v0 : FVec F S262144x3 .f32 := broadcastInDim S262144x3 ![] bcast_S_S262144x3 main_cst
  let main_v1 : FVec F S262144x3 .f32 := Host.divf main_arg0 main_v0
  let main_v2 : FVec F S262144x3 .f32 := mulf main_v1 main_v1
  let main_cst_0 : FVec F S_ .f32 := constant S_ .f32 0x00000000#32
  let main_v3 : FVec F S262144 .f32 := (fun x v => Host.reduceAdd x v reducesTo_S262144x3_S262144_d1 h_S_) main_v2 main_cst_0
  let main_cst_1 : FVec F S_ .f32 := constant S_ .f32 0x3F800000#32
  let main_v4 : FVec F S262144 .f32 := broadcastInDim S262144 ![] bcast_S_S262144 main_cst_1
  let main_v5 : IVec S262144 1 := cmpf .olt main_v3 main_v4
  let main_cst_2 : FVec F S_ .f32 := constant S_ .f32 0x3F800000#32
  let main_v6 : FVec F S262144 .f32 := broadcastInDim S262144 ![] bcast_S_S262144 main_cst_2
  let main_v7 : FVec F S262144 .f32 := subf main_v6 main_v3
  let main_cst_3 : FVec F S_ .f32 := constant S_ .f32 0x2B8CBCCC#32
  let main_v8 : FVec F S262144 .f32 := fn_clip (F := F) main_v7 main_cst_3
  let main_v9 : FVec F S262144 .f32 := Host.sqrt main_v8
  let main_cst_4 : FVec F S_ .f32 := constant S_ .f32 0x3F800000#32
  let main_v10 : FVec F S262144 .f32 := broadcastInDim S262144 ![] bcast_S_S262144 main_cst_4
  let main_v11 : FVec F S262144 .f32 := Host.divf main_v10 main_v9
  let main_v12 : FVec F S262144x1 .f32 := broadcastInDim S262144x1 ![0] bcast_S262144_S262144x1_0 main_v11
  let main_v13 : FVec F S262144x3 .f32 := broadcastInDim S262144x3 ![0, 1] bcast_S262144x1_S262144x3_0_1 main_v12
  let main_v14 : FVec F S262144x3 .f32 := mulf main_v1 main_v13
  let main_v15 : FVec F S262144x3 .f32 := Host.atan main_v14
  let main_cst_5 : FVec F S_ .f32 := constant S_ .f32 0x3FC90FDB#32
  let main_v16 : FVec F S262144x3 .f32 := broadcastInDim S262144x3 ![] bcast_S_S262144x3 main_cst_5
  fn_part1 (F := F) main_arg1 main_v5 main_v15 main_v16
-- ==== Pre_tame.lean ====
abbrev S262144x6 : Shape := ⟨2, ![262144, 6]⟩
abbrev S8x3x128 : Shape := ⟨3, ![8, 3, 128]⟩
abbrev S8x128 : Shape := ⟨2, ![8, 128]⟩
abbrev S8x128x128 : Shape := ⟨3, ![8, 128, 128]⟩
abbrev S8x128x120 : Shape := ⟨3, ![8, 128, 120]⟩
abbrev S8x120 : Shape := ⟨2, ![8, 120]⟩
abbrev S8x6 : Shape := ⟨2, ![8, 6]⟩
abbrev S7x6 : Shape := ⟨2, ![7, 6]⟩
abbrev S_ : Shape := ⟨0, ![]⟩
abbrev S8x128x1 : Shape := ⟨3, ![8, 128, 1]⟩

class Facts : Prop where
  reducesTo_S8x3x128_S8x128_d1 : S8x3x128.ReducesTo [1] S8x128
  h_S_ : 0 < S_.numel
  bcast_S8x128_S8x128x1_0_1 : S8x128.BroadcastsInDim S8x128x1 (![0, 1] : Fin 2 → Fin S8x128x1.rank)
  bcast_S8x128x1_S8x128x128_0_1_2 : S8x128x1.BroadcastsInDim S8x128x128 (![0, 1, 2] : Fin 3 → Fin S8x128x128.rank)
  reducesTo_S8x128x128_S8x128_d1 : S8x128x128.ReducesTo [1] S8x128
  bcast_S8x128x1_S8x128x120_0_1_2 : S8x128x1.BroadcastsInDim S8x128x120 (![0, 1, 2] : Fin 3 → Fin S8x128x120.rank)
  reducesTo_S8x128x120_S8x120_d1 : S8x128x120.ReducesTo [1] S8x120
  bcast_S_S8x3x128 : S_.BroadcastsInDim S8x3x128 (![] : Fin 0 → Fin S8x3x128.rank)
  bcast_S_S8x128 : S_.BroadcastsInDim S8x128 (![] : Fin 0 → Fin S8x128.rank)
  bcast_S_S8x128x128 : S_.BroadcastsInDim S8x128x128 (![] : Fin 0 → Fin S8x128x128.rank)
  bcast_S_S8x128x120 : S_.BroadcastsInDim S8x128x120 (![] : Fin 0 → Fin S8x128x120.rank)
  bcast_S_S8x120 : S_.BroadcastsInDim S8x120 (![] : Fin 0 → Fin S8x120.rank)

variable [Facts]

def fn_part1 {F : FTy → Type} [FloatOps F] (main_arg2 : FVec F S8x128 .f32) (main_arg3 : FVec F S8x128x128 .f32) (main_arg4 : FVec F S8x128 .f32) (main_arg5 : FVec F S8x128x120 .f32) (main_arg6 : FVec F S8x120 .f32) (main_v17 : FVec F S8x120 .f32) (main_v18 : FVec F S8x3x128 .f32) (main_v19 : FVec F S8x3x128 .f32) : IVec S8x3x128 1 × IVec S8x128 1 × IVec S8x128x128 1 × IVec S8x128 1 × IVec S8x128x120 1 × IVec S8x120 1 × IVec S8x120 1 :=
  let main_v20 : IVec S8x3x128 1 := cmpf .olt main_v18 main_v19
  let main_v21 : FVec F S8x128 .f32 := Host.absf main_arg2
  let main_cst_3 : FVec F S_ .f32 := constant S_ .f32 0x7F800000#32
  let main_v22 : FVec F S8x128 .f32 := broadcastInDim S8x128 ![] bcast_S_S8x128 main_cst_3
  let main_v23 : IVec S8x128 1 := cmpf .olt main_v21 main_v22
  let main_v24 : FVec F S8x128x128 .f32 := Host.absf main_arg3
  let main_cst_4 : FVec F S_ .f32 := constant S_ .f32 0x7F800000#32
  let main_v25 : FVec F S8x128x128 .f32 := broadcastInDim S8x128x128 ![] bcast_S_S8x128x128 main_cst_4
  let main_v26 : IVec S8x128x128 1 := cmpf .olt main_v24 main_v25
  let main_v27 : FVec F S8x128 .f32 := Host.absf main_arg4
  let main_cst_5 : FVec F S_ .f32 := constant S_ .f32 0x7F800000#32
  let main_v28 : FVec F S8x128 .f32 := broadcastInDim S8x128 ![] bcast_S_S8x128 main_cst_5
  let main_v29 : IVec S8x128 1 := cmpf .olt main_v27 main_v28
  let main_v30 : FVec F S8x128x120 .f32 := Host.absf main_arg5
  let main_cst_6 : FVec F S_ .f32 := constant S_ .f32 0x7F800000#32
  let main_v31 : FVec F S8x128x120 .f32 := broadcastInDim S8x128x120 ![] bcast_S_S8x128x120 main_cst_6
  let main_v32 : IVec S8x128x120 1 := cmpf .olt main_v30 main_v31
  let main_v33 : FVec F S8x120 .f32 := Host.absf main_arg6
  let main_cst_7 : FVec F S_ .f32 := constant S_ .f32 0x7F800000#32
  let main_v34 : FVec F S8x120 .f32 := broadcastInDim S8x120 ![] bcast_S_S8x120 main_cst_7
  let main_v35 : IVec S8x120 1 := cmpf .olt main_v33 main_v34
  let main_cst_8 : FVec F S_ .f32 := constant S_ .f32 0x42700000#32
  let main_v36 : FVec F S8x120 .f32 := broadcastInDim S8x120 ![] bcast_S_S8x120 main_cst_8
  let main_v37 : IVec S8x120 1 := cmpf .ole main_v17 main_v36
  (main_v20, main_v23, main_v26, main_v29, main_v32, main_v35, main_v37)

def fn {F : FTy → Type} [FloatOps F] (main_arg0 : FVec F S262144x6 .f32) (main_arg1 : FVec F S8x3x128 .f32) (main_arg2 : FVec F S8x128 .f32) (main_arg3 : FVec F S8x128x128 .f32) (main_arg4 : FVec F S8x128 .f32) (main_arg5 : FVec F S8x128x120 .f32) (main_arg6 : FVec F S8x120 .f32) (main_arg7 : IVec S8x6 32) (main_arg8 : IVec S7x6 32) : IVec S8x3x128 1 × IVec S8x128 1 × IVec S8x128x128 1 × IVec S8x128 1 × IVec S8x128x120 1 × IVec S8x120 1 × IVec S8x120 1 :=
  let main_v0 : FVec F S8x3x128 .f32 := Host.absf main_arg1
  let main_cst : FVec F S_ .f32 := constant S_ .f32 0x00000000#32
  let main_v1 : FVec F S8x128 .f32 := (fun x v => Host.reduceAdd x v reducesTo_S8x3x128_S8x128_d1 h_S_) main_v0 main_cst
  let main_v2 : FVec F S8x128 .f32 := Host.absf main_arg2
  let main_v3 : FVec F S8x128 .f32 := addf main_v1 main_v2
  let main_v4 : FVec F S8x128x1 .f32 := broadcastInDim S8x128x1 ![0, 1] bcast_S8x128_S8x128x1_0_1 main_v3
  let main_v5 : FVec F S8x128x128 .f32 := Host.absf main_arg3
  let main_v6 : FVec F S8x128x128 .f32 := broadcastInDim S8x128x128 ![0, 1, 2] bcast_S8x128x1_S8x128x128_0_1_2 main_v4
  let main_v7 : FVec F S8x128x128 .f32 := mulf main_v6 main_v5
  let main_cst_0 : FVec F S_ .f32 := constant S_ .f32 0x00000000#32
  let main_v8 : FVec F S8x128 .f32 := (fun x v => Host.reduceAdd x v reducesTo_S8x128x128_S8x128_d1 h_S_) main_v7 main_cst_0
  let main_v9 : FVec F S8x128 .f32 := Host.absf main_arg4
  let main_v10 : FVec F S8x128 .f32 := addf main_v8 main_v9
  let main_v11 : FVec F S8x128x1 .f32 := broadcastInDim S8x128x1 ![0, 1] bcast_S8x128_S8x128x1_0_1 main_v10
  let main_v12 : FVec F S8x128x120 .f32 := Host.absf main_arg5
  let main_v13 : FVec F S8x128x120 .f32 := broadcastInDim S8x128x120 ![0, 1, 2] bcast_S8x128x1_S8x128x120_0_1_2 main_v11
  let main_v14 : FVec F S8x128x120 .f32 := mulf main_v13 main_v12
  let main_cst_1 : FVec F S_ .f32 := constant S_ .f32 0x00000000#32
  let main_v15 : FVec F S8x120 .f32 := (fun x v => Host.reduceAdd x v reducesTo_S8x128x120_S8x120_d1 h_S_) main_v14 main_cst_1
  let main_v16 : FVec F S8x120 .f32 := Host.absf main_arg6
  let main_v17 : FVec F S8x120 .f32 := addf main_v15 main_v16
  let main_v18 : FVec F S8x3x128 .f32 := Host.absf main_arg1
  let main_cst_2 : FVec F S_ .f32 := constant S_ .f32 0x7F800000#32
  let main_v19 : FVec F S8x3x128 .f32 := broadcastInDim S8x3x128 ![] bcast_S_S8x3x128 main_cst_2
  fn_part1 (F := F) main_arg2 main_arg3 main_arg4 main_arg5 main_arg6 main_v17 main_v18 main_v19
-- ==== Kernel.lean ====
abbrev S262144x6 : Shape := ⟨2, ![262144, 6]⟩
abbrev S8x3x128 : Shape := ⟨3, ![8, 3, 128]⟩
abbrev S8x128 : Shape := ⟨2, ![8, 128]⟩
abbrev S8x128x128 : Shape := ⟨3, ![8, 128, 128]⟩
abbrev S8x128x120 : Shape := ⟨3, ![8, 128, 120]⟩
abbrev S8x120 : Shape := ⟨2, ![8, 120]⟩
abbrev S8x6 : Shape := ⟨2, ![8, 6]⟩
abbrev S7x6 : Shape := ⟨2, ![7, 6]⟩
abbrev S120 : Shape := ⟨1, ![120]⟩
abbrev S120x1 : Shape := ⟨2, ![120, 1]⟩
abbrev S6x120 : Shape := ⟨2, ![6, 120]⟩
abbrev S6x128 : Shape := ⟨2, ![6, 128]⟩
abbrev S6x6 : Shape := ⟨2, ![6, 6]⟩
abbrev S_ : Shape := ⟨0, ![]⟩
abbrev S1x6 : Shape := ⟨2, ![1, 6]⟩
abbrev S6 : Shape := ⟨1, ![6]⟩
abbrev S6x1 : Shape := ⟨2, ![6, 1]⟩
abbrev S6x3 : Shape := ⟨2, ![6, 3]⟩
abbrev S1x3x128 : Shape := ⟨3, ![1, 3, 128]⟩
abbrev S3x128 : Shape := ⟨2, ![3, 128]⟩
abbrev S128x6 : Shape := ⟨2, ![128, 6]⟩
abbrev S6x3x40 : Shape := ⟨3, ![6, 3, 40]⟩
abbrev S120x6 : Shape := ⟨2, ![120, 6]⟩
abbrev S3x6 : Shape := ⟨2, ![3, 6]⟩
abbrev S5x6 : Shape := ⟨2, ![5, 6]⟩
abbrev S1x128x6 : Shape := ⟨3, ![1, 128, 6]⟩
abbrev S8x128x6 : Shape := ⟨3, ![8, 128, 6]⟩
abbrev S8x128x1 : Shape := ⟨3, ![8, 128, 1]⟩
abbrev S4096x6 : Shape := ⟨2, ![4096, 6]⟩
abbrev S6x4096 : Shape := ⟨2, ![6, 4096]⟩
abbrev S3x4096 : Shape := ⟨2, ![3, 4096]⟩
abbrev S4096 : Shape := ⟨1, ![4096]⟩
abbrev S1x4096 : Shape := ⟨2, ![1, 4096]⟩
abbrev S128x4096 : Shape := ⟨2, ![128, 4096]⟩
abbrev S1x128x1 : Shape := ⟨3, ![1, 128, 1]⟩
abbrev S128x1 : Shape := ⟨2, ![128, 1]⟩
abbrev S1x128x128 : Shape := ⟨3, ![1, 128, 128]⟩
abbrev S128x128 : Shape := ⟨2, ![128, 128]⟩
abbrev S120x4096 : Shape := ⟨2, ![120, 4096]⟩

abbrev nBuf : Space → Nat
  | .hbm => 459
  | .vmem => 15
  | .smem => 0
  | _ => 0

abbrev hbmTy0_0 (i : Nat) : BufTy := match i % 128 with
  | 0 => ⟨S262144x6, .f32⟩
  | 1 => ⟨S8x3x128, .f32⟩
  | 2 => ⟨S8x128, .f32⟩
  | 3 => ⟨S8x128x128, .f32⟩
  | 4 => ⟨S8x128, .f32⟩
  | 5 => ⟨S8x128x120, .f32⟩
  | 6 => ⟨S8x120, .f32⟩
  | 7 => ⟨S8x6, .i32⟩
  | 8 => ⟨S7x6, .i32⟩
  | 9 => ⟨S120, .f32⟩
  | 10 => ⟨S120x1, .f32⟩
  | 11 => ⟨S6x120, .f32⟩
  | 12 => ⟨S6x128, .f32⟩
  | 13 => ⟨S6x6, .i32⟩
  | 14 => ⟨S6x6, .i32⟩
  | 15 => ⟨S_, .i32⟩
  | 16 => ⟨S6x6, .i32⟩
  | 17 => ⟨S6x6, .i32⟩
  | 18 => ⟨S6x6, .i1⟩
  | 19 => ⟨S6x6, .f32⟩
  | 20 => ⟨S8x6, .i32⟩
  | 21 => ⟨S8x6, .i32⟩
  | 22 => ⟨S8x6, .i32⟩
  | 23 => ⟨S1x6, .i32⟩
  | 24 => ⟨S6, .i32⟩
  | 25 => ⟨S_, .i32⟩
  | 26 => ⟨S6, .i32⟩
  | 27 => ⟨S6, .i1⟩
  | 28 => ⟨S_, .i32⟩
  | 29 => ⟨S6, .i32⟩
  | 30 => ⟨S6, .i32⟩
  | 31 => ⟨S6, .i32⟩
  | 32 => ⟨S6x1, .i32⟩
  | 33 => ⟨S6x6, .f32⟩
  | 34 => ⟨S6x6, .f32⟩
  | 35 => ⟨S1x6, .i32⟩
  | 36 => ⟨S6, .i32⟩
  | 37 => ⟨S1x6, .i32⟩
  | 38 => ⟨S6, .i32⟩
  | 39 => ⟨S_, .i32⟩
  | 40 => ⟨S6, .i32⟩
  | 41 => ⟨S6, .i1⟩
  | 42 => ⟨S_, .i32⟩
  | 43 => ⟨S6, .i32⟩
  | 44 => ⟨S6, .i32⟩
  | 45 => ⟨S6, .i32⟩
  | 46 => ⟨S6x1, .i32⟩
  | 47 => ⟨S6, .i32⟩
  | 48 => ⟨S1x6, .i32⟩
  | 49 => ⟨S6, .i32⟩
  | 50 => ⟨S_, .i32⟩
  | 51 => ⟨S6, .i32⟩
  | 52 => ⟨S6, .i1⟩
  | 53 => ⟨S_, .i32⟩
  | 54 => ⟨S6, .i32⟩
  | 55 => ⟨S6, .i32⟩
  | 56 => ⟨S6, .i32⟩
  | 57 => ⟨S6x1, .i32⟩
  | 58 => ⟨S6, .i32⟩
  | 59 => ⟨S_, .i32⟩
  | 60 => ⟨S6, .i32⟩
  | 61 => ⟨S6, .i1⟩
  | 62 => ⟨S_, .i32⟩
  | 63 => ⟨S6, .i32⟩
  | 64 => ⟨S6, .i32⟩
  | 65 => ⟨S6, .i32⟩
  | 66 => ⟨S6x1, .i32⟩
  | 67 => ⟨S6x6, .f32⟩
  | 68 => ⟨S6x6, .f32⟩
  | 69 => ⟨S1x6, .i32⟩
  | 70 => ⟨S6, .i32⟩
  | 71 => ⟨S1x6, .i32⟩
  | 72 => ⟨S6, .i32⟩
  | 73 => ⟨S_, .i32⟩
  | 74 => ⟨S6, .i32⟩
  | 75 => ⟨S6, .i1⟩
  | 76 => ⟨S_, .i32⟩
  | 77 => ⟨S6, .i32⟩
  | 78 => ⟨S6, .i32⟩
  | 79 => ⟨S6, .i32⟩
  | 80 => ⟨S6x1, .i32⟩
  | 81 => ⟨S6, .i32⟩
  | 82 => ⟨S1x6, .i32⟩
  | 83 => ⟨S6, .i32⟩
  | 84 => ⟨S_, .i32⟩
  | 85 => ⟨S6, .i32⟩
  | 86 => ⟨S6, .i1⟩
  | 87 => ⟨S_, .i32⟩
  | 88 => ⟨S6, .i32⟩
  | 89 => ⟨S6, .i32⟩
  | 90 => ⟨S6, .i32⟩
  | 91 => ⟨S6x1, .i32⟩
  | 92 => ⟨S6, .i32⟩
  | 93 => ⟨S_, .i32⟩
  | 94 => ⟨S6, .i32⟩
  | 95 => ⟨S6, .i1⟩
  | 96 => ⟨S_, .i32⟩
  | 97 => ⟨S6, .i32⟩
  | 98 => ⟨S6, .i32⟩
  | 99 => ⟨S6, .i32⟩
  | 100 => ⟨S6x1, .i32⟩
  | 101 => ⟨S6x6, .f32⟩
  | 102 => ⟨S6x6, .f32⟩
  | 103 => ⟨S1x6, .i32⟩
  | 104 => ⟨S6, .i32⟩
  | 105 => ⟨S1x6, .i32⟩
  | 106 => ⟨S6, .i32⟩
  | 107 => ⟨S_, .i32⟩
  | 108 => ⟨S6, .i32⟩
  | 109 => ⟨S6, .i1⟩
  | 110 => ⟨S_, .i32⟩
  | 111 => ⟨S6, .i32⟩
  | 112 => ⟨S6, .i32⟩
  | 113 => ⟨S6, .i32⟩
  | 114 => ⟨S6x1, .i32⟩
  | 115 => ⟨S6, .i32⟩
  | 116 => ⟨S1x6, .i32⟩
  | 117 => ⟨S6, .i32⟩
  | 118 => ⟨S_, .i32⟩
  | 119 => ⟨S6, .i32⟩
  | 120 => ⟨S6, .i1⟩
  | 121 => ⟨S_, .i32⟩
  | 122 => ⟨S6, .i32⟩
  | 123 => ⟨S6, .i32⟩
  | 124 => ⟨S6, .i32⟩
  | 125 => ⟨S6x1, .i32⟩
  | 126 => ⟨S6, .i32⟩
  | 127 => ⟨S_, .i32⟩
  | _ => ⟨S262144x6, .f32⟩

abbrev hbmTy0_1 (i : Nat) : BufTy := match i % 128 with
  | 0 => ⟨S6, .i32⟩
  | 1 => ⟨S6, .i1⟩
  | 2 => ⟨S_, .i32⟩
  | 3 => ⟨S6, .i32⟩
  | 4 => ⟨S6, .i32⟩
  | 5 => ⟨S6, .i32⟩
  | 6 => ⟨S6x1, .i32⟩
  | 7 => ⟨S6x6, .f32⟩
  | 8 => ⟨S6x6, .f32⟩
  | 9 => ⟨S1x6, .i32⟩
  | 10 => ⟨S6, .i32⟩
  | 11 => ⟨S1x6, .i32⟩
  | 12 => ⟨S6, .i32⟩
  | 13 => ⟨S_, .i32⟩
  | 14 => ⟨S6, .i32⟩
  | 15 => ⟨S6, .i1⟩
  | 16 => ⟨S_, .i32⟩
  | 17 => ⟨S6, .i32⟩
  | 18 => ⟨S6, .i32⟩
  | 19 => ⟨S6, .i32⟩
  | 20 => ⟨S6x1, .i32⟩
  | 21 => ⟨S6, .i32⟩
  | 22 => ⟨S1x6, .i32⟩
  | 23 => ⟨S6, .i32⟩
  | 24 => ⟨S_, .i32⟩
  | 25 => ⟨S6, .i32⟩
  | 26 => ⟨S6, .i1⟩
  | 27 => ⟨S_, .i32⟩
  | 28 => ⟨S6, .i32⟩
  | 29 => ⟨S6, .i32⟩
  | 30 => ⟨S6, .i32⟩
  | 31 => ⟨S6x1, .i32⟩
  | 32 => ⟨S6, .i32⟩
  | 33 => ⟨S_, .i32⟩
  | 34 => ⟨S6, .i32⟩
  | 35 => ⟨S6, .i1⟩
  | 36 => ⟨S_, .i32⟩
  | 37 => ⟨S6, .i32⟩
  | 38 => ⟨S6, .i32⟩
  | 39 => ⟨S6, .i32⟩
  | 40 => ⟨S6x1, .i32⟩
  | 41 => ⟨S6x6, .f32⟩
  | 42 => ⟨S6x6, .f32⟩
  | 43 => ⟨S1x6, .i32⟩
  | 44 => ⟨S6, .i32⟩
  | 45 => ⟨S1x6, .i32⟩
  | 46 => ⟨S6, .i32⟩
  | 47 => ⟨S_, .i32⟩
  | 48 => ⟨S6, .i32⟩
  | 49 => ⟨S6, .i1⟩
  | 50 => ⟨S_, .i32⟩
  | 51 => ⟨S6, .i32⟩
  | 52 => ⟨S6, .i32⟩
  | 53 => ⟨S6, .i32⟩
  | 54 => ⟨S6x1, .i32⟩
  | 55 => ⟨S6, .i32⟩
  | 56 => ⟨S1x6, .i32⟩
  | 57 => ⟨S6, .i32⟩
  | 58 => ⟨S_, .i32⟩
  | 59 => ⟨S6, .i32⟩
  | 60 => ⟨S6, .i1⟩
  | 61 => ⟨S_, .i32⟩
  | 62 => ⟨S6, .i32⟩
  | 63 => ⟨S6, .i32⟩
  | 64 => ⟨S6, .i32⟩
  | 65 => ⟨S6x1, .i32⟩
  | 66 => ⟨S6, .i32⟩
  | 67 => ⟨S_, .i32⟩
  | 68 => ⟨S6, .i32⟩
  | 69 => ⟨S6, .i1⟩
  | 70 => ⟨S_, .i32⟩
  | 71 => ⟨S6, .i32⟩
  | 72 => ⟨S6, .i32⟩
  | 73 => ⟨S6, .i32⟩
  | 74 => ⟨S6x1, .i32⟩
  | 75 => ⟨S6x6, .f32⟩
  | 76 => ⟨S6x6, .f32⟩
  | 77 => ⟨S1x6, .i32⟩
  | 78 => ⟨S6, .i32⟩
  | 79 => ⟨S1x6, .i32⟩
  | 80 => ⟨S6, .i32⟩
  | 81 => ⟨S_, .i32⟩
  | 82 => ⟨S6, .i32⟩
  | 83 => ⟨S6, .i1⟩
  | 84 => ⟨S_, .i32⟩
  | 85 => ⟨S6, .i32⟩
  | 86 => ⟨S6, .i32⟩
  | 87 => ⟨S6, .i32⟩
  | 88 => ⟨S6x1, .i32⟩
  | 89 => ⟨S6, .i32⟩
  | 90 => ⟨S1x6, .i32⟩
  | 91 => ⟨S6, .i32⟩
  | 92 => ⟨S_, .i32⟩
  | 93 => ⟨S6, .i32⟩
  | 94 => ⟨S6, .i1⟩
  | 95 => ⟨S_, .i32⟩
  | 96 => ⟨S6, .i32⟩
  | 97 => ⟨S6, .i32⟩
  | 98 => ⟨S6, .i32⟩
  | 99 => ⟨S6x1, .i32⟩
  | 100 => ⟨S6, .i32⟩
  | 101 => ⟨S_, .i32⟩
  | 102 => ⟨S6, .i32⟩
  | 103 => ⟨S6, .i1⟩
  | 104 => ⟨S_, .i32⟩
  | 105 => ⟨S6, .i32⟩
  | 106 => ⟨S6, .i32⟩
  | 107 => ⟨S6, .i32⟩
  | 108 => ⟨S6x1, .i32⟩
  | 109 => ⟨S6x6, .f32⟩
  | 110 => ⟨S6x6, .f32⟩
  | 111 => ⟨S1x6, .i32⟩
  | 112 => ⟨S6, .i32⟩
  | 113 => ⟨S1x6, .i32⟩
  | 114 => ⟨S6, .i32⟩
  | 115 => ⟨S_, .i32⟩
  | 116 => ⟨S6, .i32⟩
  | 117 => ⟨S6, .i1⟩
  | 118 => ⟨S_, .i32⟩
  | 119 => ⟨S6, .i32⟩
  | 120 => ⟨S6, .i32⟩
  | 121 => ⟨S6, .i32⟩
  | 122 => ⟨S6x1, .i32⟩
  | 123 => ⟨S6, .i32⟩
  | 124 => ⟨S1x6, .i32⟩
  | 125 => ⟨S6, .i32⟩
  | 126 => ⟨S_, .i32⟩
  | 127 => ⟨S6, .i32⟩
  | _ => ⟨S262144x6, .f32⟩

abbrev hbmTy0_2 (i : Nat) : BufTy := match i % 128 with
  | 0 => ⟨S6, .i1⟩
  | 1 => ⟨S_, .i32⟩
  | 2 => ⟨S6, .i32⟩
  | 3 => ⟨S6, .i32⟩
  | 4 => ⟨S6, .i32⟩
  | 5 => ⟨S6x1, .i32⟩
  | 6 => ⟨S6, .i32⟩
  | 7 => ⟨S_, .i32⟩
  | 8 => ⟨S6, .i32⟩
  | 9 => ⟨S6, .i1⟩
  | 10 => ⟨S_, .i32⟩
  | 11 => ⟨S6, .i32⟩
  | 12 => ⟨S6, .i32⟩
  | 13 => ⟨S6, .i32⟩
  | 14 => ⟨S6x1, .i32⟩
  | 15 => ⟨S6x6, .f32⟩
  | 16 => ⟨S6x6, .f32⟩
  | 17 => ⟨S1x6, .i32⟩
  | 18 => ⟨S6, .i32⟩
  | 19 => ⟨S_, .i32⟩
  | 20 => ⟨S6, .i32⟩
  | 21 => ⟨S6, .i1⟩
  | 22 => ⟨S_, .i32⟩
  | 23 => ⟨S6, .i32⟩
  | 24 => ⟨S6, .i32⟩
  | 25 => ⟨S6, .i32⟩
  | 26 => ⟨S6x1, .i32⟩
  | 27 => ⟨S6x6, .f32⟩
  | 28 => ⟨S6x6, .f32⟩
  | 29 => ⟨S6x3, .f32⟩
  | 30 => ⟨S1x3x128, .f32⟩
  | 31 => ⟨S3x128, .f32⟩
  | 32 => ⟨S6x128, .f32⟩
  | 33 => ⟨S128x6, .f32⟩
  | 34 => ⟨S6x3, .f32⟩
  | 35 => ⟨S6x3x40, .f32⟩
  | 36 => ⟨S6x120, .f32⟩
  | 37 => ⟨S_, .f32⟩
  | 38 => ⟨S6x120, .f32⟩
  | 39 => ⟨S6x120, .f32⟩
  | 40 => ⟨S120x6, .f32⟩
  | 41 => ⟨S6x3, .f32⟩
  | 42 => ⟨S3x6, .f32⟩
  | 43 => ⟨S_, .f32⟩
  | 44 => ⟨S5x6, .f32⟩
  | 45 => ⟨S128x6, .f32⟩
  | 46 => ⟨S6x3, .f32⟩
  | 47 => ⟨S1x3x128, .f32⟩
  | 48 => ⟨S3x128, .f32⟩
  | 49 => ⟨S6x128, .f32⟩
  | 50 => ⟨S128x6, .f32⟩
  | 51 => ⟨S6x3, .f32⟩
  | 52 => ⟨S6x3x40, .f32⟩
  | 53 => ⟨S6x120, .f32⟩
  | 54 => ⟨S_, .f32⟩
  | 55 => ⟨S6x120, .f32⟩
  | 56 => ⟨S6x120, .f32⟩
  | 57 => ⟨S120x6, .f32⟩
  | 58 => ⟨S6x3, .f32⟩
  | 59 => ⟨S3x6, .f32⟩
  | 60 => ⟨S_, .f32⟩
  | 61 => ⟨S5x6, .f32⟩
  | 62 => ⟨S128x6, .f32⟩
  | 63 => ⟨S6x3, .f32⟩
  | 64 => ⟨S1x3x128, .f32⟩
  | 65 => ⟨S3x128, .f32⟩
  | 66 => ⟨S6x128, .f32⟩
  | 67 => ⟨S128x6, .f32⟩
  | 68 => ⟨S6x3, .f32⟩
  | 69 => ⟨S6x3x40, .f32⟩
  | 70 => ⟨S6x120, .f32⟩
  | 71 => ⟨S_, .f32⟩
  | 72 => ⟨S6x120, .f32⟩
  | 73 => ⟨S6x120, .f32⟩
  | 74 => ⟨S120x6, .f32⟩
  | 75 => ⟨S6x3, .f32⟩
  | 76 => ⟨S3x6, .f32⟩
  | 77 => ⟨S_, .f32⟩
  | 78 => ⟨S5x6, .f32⟩
  | 79 => ⟨S128x6, .f32⟩
  | 80 => ⟨S6x3, .f32⟩
  | 81 => ⟨S1x3x128, .f32⟩
  | 82 => ⟨S3x128, .f32⟩
  | 83 => ⟨S6x128, .f32⟩
  | 84 => ⟨S128x6, .f32⟩
  | 85 => ⟨S6x3, .f32⟩
  | 86 => ⟨S6x3x40, .f32⟩
  | 87 => ⟨S6x120, .f32⟩
  | 88 => ⟨S_, .f32⟩
  | 89 => ⟨S6x120, .f32⟩
  | 90 => ⟨S6x120, .f32⟩
  | 91 => ⟨S120x6, .f32⟩
  | 92 => ⟨S6x3, .f32⟩
  | 93 => ⟨S3x6, .f32⟩
  | 94 => ⟨S_, .f32⟩
  | 95 => ⟨S5x6, .f32⟩
  | 96 => ⟨S128x6, .f32⟩
  | 97 => ⟨S6x3, .f32⟩
  | 98 => ⟨S1x3x128, .f32⟩
  | 99 => ⟨S3x128, .f32⟩
  | 100 => ⟨S6x128, .f32⟩
  | 101 => ⟨S128x6, .f32⟩
  | 102 => ⟨S6x3, .f32⟩
  | 103 => ⟨S6x3x40, .f32⟩
  | 104 => ⟨S6x120, .f32⟩
  | 105 => ⟨S_, .f32⟩
  | 106 => ⟨S6x120, .f32⟩
  | 107 => ⟨S6x120, .f32⟩
  | 108 => ⟨S120x6, .f32⟩
  | 109 => ⟨S6x3, .f32⟩
  | 110 => ⟨S3x6, .f32⟩
  | 111 => ⟨S_, .f32⟩
  | 112 => ⟨S5x6, .f32⟩
  | 113 => ⟨S128x6, .f32⟩
  | 114 => ⟨S6x3, .f32⟩
  | 115 => ⟨S1x3x128, .f32⟩
  | 116 => ⟨S3x128, .f32⟩
  | 117 => ⟨S6x128, .f32⟩
  | 118 => ⟨S128x6, .f32⟩
  | 119 => ⟨S6x3, .f32⟩
  | 120 => ⟨S6x3x40, .f32⟩
  | 121 => ⟨S6x120, .f32⟩
  | 122 => ⟨S_, .f32⟩
  | 123 => ⟨S6x120, .f32⟩
  | 124 => ⟨S6x120, .f32⟩
  | 125 => ⟨S120x6, .f32⟩
  | 126 => ⟨S6x3, .f32⟩
  | 127 => ⟨S3x6, .f32⟩
  | _ => ⟨S262144x6, .f32⟩

abbrev hbmTy0_3 (i : Nat) : BufTy := match i % 128 with
  | 0 => ⟨S_, .f32⟩
  | 1 => ⟨S5x6, .f32⟩
  | 2 => ⟨S128x6, .f32⟩
  | 3 => ⟨S6x3, .f32⟩
  | 4 => ⟨S1x3x128, .f32⟩
  | 5 => ⟨S3x128, .f32⟩
  | 6 => ⟨S6x128, .f32⟩
  | 7 => ⟨S128x6, .f32⟩
  | 8 => ⟨S6x3, .f32⟩
  | 9 => ⟨S6x3x40, .f32⟩
  | 10 => ⟨S6x120, .f32⟩
  | 11 => ⟨S_, .f32⟩
  | 12 => ⟨S6x120, .f32⟩
  | 13 => ⟨S6x120, .f32⟩
  | 14 => ⟨S120x6, .f32⟩
  | 15 => ⟨S6x3, .f32⟩
  | 16 => ⟨S3x6, .f32⟩
  | 17 => ⟨S_, .f32⟩
  | 18 => ⟨S5x6, .f32⟩
  | 19 => ⟨S128x6, .f32⟩
  | 20 => ⟨S6x3, .f32⟩
  | 21 => ⟨S1x3x128, .f32⟩
  | 22 => ⟨S3x128, .f32⟩
  | 23 => ⟨S6x128, .f32⟩
  | 24 => ⟨S128x6, .f32⟩
  | 25 => ⟨S6x3, .f32⟩
  | 26 => ⟨S6x3x40, .f32⟩
  | 27 => ⟨S6x120, .f32⟩
  | 28 => ⟨S_, .f32⟩
  | 29 => ⟨S6x120, .f32⟩
  | 30 => ⟨S6x120, .f32⟩
  | 31 => ⟨S120x6, .f32⟩
  | 32 => ⟨S6x3, .f32⟩
  | 33 => ⟨S3x6, .f32⟩
  | 34 => ⟨S_, .f32⟩
  | 35 => ⟨S5x6, .f32⟩
  | 36 => ⟨S128x6, .f32⟩
  | 37 => ⟨S1x128x6, .f32⟩
  | 38 => ⟨S1x128x6, .f32⟩
  | 39 => ⟨S1x128x6, .f32⟩
  | 40 => ⟨S1x128x6, .f32⟩
  | 41 => ⟨S1x128x6, .f32⟩
  | 42 => ⟨S1x128x6, .f32⟩
  | 43 => ⟨S1x128x6, .f32⟩
  | 44 => ⟨S1x128x6, .f32⟩
  | 45 => ⟨S8x128x6, .f32⟩
  | 46 => ⟨S8x128x6, .bf16⟩
  | 47 => ⟨S1x128x6, .f32⟩
  | 48 => ⟨S1x128x6, .f32⟩
  | 49 => ⟨S1x128x6, .f32⟩
  | 50 => ⟨S1x128x6, .f32⟩
  | 51 => ⟨S1x128x6, .f32⟩
  | 52 => ⟨S1x128x6, .f32⟩
  | 53 => ⟨S1x128x6, .f32⟩
  | 54 => ⟨S1x128x6, .f32⟩
  | 55 => ⟨S8x128x6, .f32⟩
  | 56 => ⟨S8x128x1, .f32⟩
  | 57 => ⟨S8x128x1, .bf16⟩
  | 58 => ⟨S8x128x1, .f32⟩
  | 59 => ⟨S8x128x1, .bf16⟩
  | 60 => ⟨S_, .i32⟩
  | 61 => ⟨S_, .f32⟩
  | 62 => ⟨S8x128, .f32⟩
  | 63 => ⟨S8x128x1, .f32⟩
  | 64 => ⟨S8x128x1, .bf16⟩
  | 65 => ⟨S8x128x128, .f32⟩
  | 66 => ⟨S8x128x128, .bf16⟩
  | 67 => ⟨S_, .i32⟩
  | 68 => ⟨S_, .f32⟩
  | 69 => ⟨S8x128x128, .f32⟩
  | 70 => ⟨S8x128x128, .f32⟩
  | 71 => ⟨S8x128x128, .bf16⟩
  | 72 => ⟨S6x120, .bf16⟩
  | 73 => ⟨S6x128, .bf16⟩
  | 74 => ⟨S262144x6, .f32⟩
  | _ => ⟨S262144x6, .f32⟩

abbrev hbmTy (i : Nat) : BufTy := match i / 128 with
  | 0 => hbmTy0_0 i
  | 1 => hbmTy0_1 i
  | 2 => hbmTy0_2 i
  | 3 => hbmTy0_3 i
  | _ => ⟨S262144x6, .f32⟩

abbrev bufTy : (tb : Table) → Fin (tcTables nBuf tb) → BufTy
  | .hbm, ⟨i, _⟩ => hbmTy i
  | .local _ .vmem, ⟨0, _⟩ => ⟨S4096x6, .f32⟩
  | .local _ .vmem, ⟨1, _⟩ => ⟨S4096x6, .f32⟩
  | .local _ .vmem, ⟨2, _⟩ => ⟨S8x128x6, .bf16⟩
  | .local _ .vmem, ⟨3, _⟩ => ⟨S8x128x6, .f32⟩
  | .local _ .vmem, ⟨4, _⟩ => ⟨S8x128x1, .bf16⟩
  | .local _ .vmem, ⟨5, _⟩ => ⟨S8x128x128, .bf16⟩
  | .local _ .vmem, ⟨6, _⟩ => ⟨S8x128x1, .bf16⟩
  | .local _ .vmem, ⟨7, _⟩ => ⟨S8x128x128, .bf16⟩
  | .local _ .vmem, ⟨8, _⟩ => ⟨S8x128x1, .bf16⟩
  | .local _ .vmem, ⟨9, _⟩ => ⟨S120x1, .f32⟩
  | .local _ .vmem, ⟨10, _⟩ => ⟨S6x120, .bf16⟩
  | .local _ .vmem, ⟨11, _⟩ => ⟨S6x128, .bf16⟩
  | .local _ .vmem, ⟨12, _⟩ => ⟨S6x6, .f32⟩
  | .local _ .vmem, ⟨13, _⟩ => ⟨S4096x6, .f32⟩
  | .local _ .vmem, ⟨14, _⟩ => ⟨S4096x6, .f32⟩
  | _, _ => ⟨S262144x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_v1_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_16 : Ref sig .tc := ⟨.hbm, 107, rfl⟩
abbrev main_v78 : Ref sig .tc := ⟨.hbm, 108, rfl⟩
abbrev main_v79 : Ref sig .tc := ⟨.hbm, 109, rfl⟩
abbrev main_c_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_18 : Ref sig .tc := ⟨.hbm, 118, rfl⟩
abbrev main_v87 : Ref sig .tc := ⟨.hbm, 119, rfl⟩
abbrev main_v88 : Ref sig .tc := ⟨.hbm, 120, rfl⟩
abbrev main_c_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_20 : Ref sig .tc := ⟨.hbm, 127, rfl⟩
abbrev main_v94 : Ref sig .tc := ⟨.hbm, 128, rfl⟩
abbrev main_v95 : Ref sig .tc := ⟨.hbm, 129, rfl⟩
abbrev main_c_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_22 : Ref sig .tc := ⟨.hbm, 141, rfl⟩
abbrev main_v106 : Ref sig .tc := ⟨.hbm, 142, rfl⟩
abbrev main_v107 : Ref sig .tc := ⟨.hbm, 143, rfl⟩
abbrev main_c_23 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_24 : Ref sig .tc := ⟨.hbm, 152, rfl⟩
abbrev main_v115 : Ref sig .tc := ⟨.hbm, 153, rfl⟩
abbrev main_v116 : Ref sig .tc := ⟨.hbm, 154, rfl⟩
abbrev main_c_25 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_26 : Ref sig .tc := ⟨.hbm, 161, rfl⟩
abbrev main_v122 : Ref sig .tc := ⟨.hbm, 162, rfl⟩
abbrev main_v123 : Ref sig .tc := ⟨.hbm, 163, rfl⟩
abbrev main_c_27 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_c_28 : Ref sig .tc := ⟨.hbm, 175, rfl⟩
abbrev main_v134 : Ref sig .tc := ⟨.hbm, 176, rfl⟩
abbrev main_v135 : Ref sig .tc := ⟨.hbm, 177, rfl⟩
abbrev main_c_29 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_c_30 : Ref sig .tc := ⟨.hbm, 186, rfl⟩
abbrev main_v143 : Ref sig .tc := ⟨.hbm, 187, rfl⟩
abbrev main_v144 : Ref sig .tc := ⟨.hbm, 188, rfl⟩
abbrev main_c_31 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_c_32 : Ref sig .tc := ⟨.hbm, 195, rfl⟩
abbrev main_v150 : Ref sig .tc := ⟨.hbm, 196, rfl⟩
abbrev main_v151 : Ref sig .tc := ⟨.hbm, 197, rfl⟩
abbrev main_c_33 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_c_34 : Ref sig .tc := ⟨.hbm, 209, rfl⟩
abbrev main_v162 : Ref sig .tc := ⟨.hbm, 210, rfl⟩
abbrev main_v163 : Ref sig .tc := ⟨.hbm, 211, rfl⟩
abbrev main_c_35 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_36 : Ref sig .tc := ⟨.hbm, 220, rfl⟩
abbrev main_v171 : Ref sig .tc := ⟨.hbm, 221, rfl⟩
abbrev main_v172 : Ref sig .tc := ⟨.hbm, 222, rfl⟩
abbrev main_c_37 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_c_38 : Ref sig .tc := ⟨.hbm, 229, rfl⟩
abbrev main_v178 : Ref sig .tc := ⟨.hbm, 230, rfl⟩
abbrev main_v179 : Ref sig .tc := ⟨.hbm, 231, rfl⟩
abbrev main_c_39 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_c_40 : Ref sig .tc := ⟨.hbm, 243, rfl⟩
abbrev main_v190 : Ref sig .tc := ⟨.hbm, 244, rfl⟩
abbrev main_v191 : Ref sig .tc := ⟨.hbm, 245, rfl⟩
abbrev main_c_41 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_c_42 : Ref sig .tc := ⟨.hbm, 254, rfl⟩
abbrev main_v199 : Ref sig .tc := ⟨.hbm, 255, rfl⟩
abbrev main_v200 : Ref sig .tc := ⟨.hbm, 256, rfl⟩
abbrev main_c_43 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_c_44 : Ref sig .tc := ⟨.hbm, 263, rfl⟩
abbrev main_v206 : Ref sig .tc := ⟨.hbm, 264, rfl⟩
abbrev main_v207 : Ref sig .tc := ⟨.hbm, 265, rfl⟩
abbrev main_c_45 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_c_46 : Ref sig .tc := ⟨.hbm, 275, rfl⟩
abbrev main_v216 : Ref sig .tc := ⟨.hbm, 276, rfl⟩
abbrev main_v217 : Ref sig .tc := ⟨.hbm, 277, rfl⟩
abbrev main_c_47 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_cst_48 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_49 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_cst_50 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_cst_51 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_cst_52 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_cst_53 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_cst_54 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_cst_55 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_cst_56 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_cst_57 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_cst_58 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_cst_59 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_cst_60 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_cst_61 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_cst_62 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_cst_63 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_c_64 : Ref sig .tc := ⟨.hbm, 444, rfl⟩
abbrev main_call1_v0 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_c_65 : Ref sig .tc := ⟨.hbm, 451, rfl⟩
abbrev main_call2_v0 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x6 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S120x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x6 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_pi" => some ((4194304 / 13176795 : ℝ) : EReal)
  | "two_over_pi" => some ((8388608 / 13176795 : ℝ) : EReal)
  | _ => none
-- ==== ReferenceIdeal.lean ====
abbrev S262144x6 : Shape := ⟨2, ![262144, 6]⟩
abbrev S8x3x128 : Shape := ⟨3, ![8, 3, 128]⟩
abbrev S8x128 : Shape := ⟨2, ![8, 128]⟩
abbrev S8x128x128 : Shape := ⟨3, ![8, 128, 128]⟩
abbrev S8x128x120 : Shape := ⟨3, ![8, 128, 120]⟩
abbrev S8x120 : Shape := ⟨2, ![8, 120]⟩
abbrev S8x6 : Shape := ⟨2, ![8, 6]⟩
abbrev S7x6 : Shape := ⟨2, ![7, 6]⟩
abbrev S262144x3 : Shape := ⟨2, ![262144, 3]⟩
abbrev S_ : Shape := ⟨0, ![]⟩
abbrev S262144 : Shape := ⟨1, ![262144]⟩
abbrev S262144x1 : Shape := ⟨2, ![262144, 1]⟩
abbrev S6 : Shape := ⟨1, ![6]⟩
abbrev S1x6 : Shape := ⟨2, ![1, 6]⟩
abbrev S1x3x128 : Shape := ⟨3, ![1, 3, 128]⟩
abbrev S3x128 : Shape := ⟨2, ![3, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x120 : Shape := ⟨3, ![1, 128, 120]⟩
abbrev S128x120 : Shape := ⟨2, ![128, 120]⟩
abbrev S1x120 : Shape := ⟨2, ![1, 120]⟩
abbrev S120 : Shape := ⟨1, ![120]⟩
abbrev S6x1 : Shape := ⟨2, ![6, 1]⟩
abbrev S262144x128 : Shape := ⟨2, ![262144, 128]⟩
abbrev S262144x120 : Shape := ⟨2, ![262144, 120]⟩
abbrev S262144x3x40 : Shape := ⟨3, ![262144, 3, 40]⟩
abbrev S262144x3x1 : Shape := ⟨3, ![262144, 3, 1]⟩
abbrev S262144x3x1x1 : Shape := ⟨4, ![262144, 3, 1, 1]⟩

abbrev nBuf : Space → Nat
  | .hbm => 299
  | .vmem => 0
  | .smem => 0
  | _ => 0

abbrev hbmTy0_0 (i : Nat) : BufTy := match i % 128 with
  | 0 => ⟨S262144x6, .f32⟩
  | 1 => ⟨S8x3x128, .f32⟩
  | 2 => ⟨S8x128, .f32⟩
  | 3 => ⟨S8x128x128, .f32⟩
  | 4 => ⟨S8x128, .f32⟩
  | 5 => ⟨S8x128x120, .f32⟩
  | 6 => ⟨S8x120, .f32⟩
  | 7 => ⟨S8x6, .i32⟩
  | 8 => ⟨S7x6, .i32⟩
  | 9 => ⟨S8x6, .i32⟩
  | 10 => ⟨S8x6, .i32⟩
  | 11 => ⟨S8x6, .i32⟩
  | 12 => ⟨S262144x3, .f32⟩
  | 13 => ⟨S_, .f32⟩
  | 14 => ⟨S_, .f32⟩
  | 15 => ⟨S_, .f32⟩
  | 16 => ⟨S262144x3, .f32⟩
  | 17 => ⟨S262144x3, .f32⟩
  | 18 => ⟨S_, .f32⟩
  | 19 => ⟨S262144x3, .f32⟩
  | 20 => ⟨S262144x3, .f32⟩
  | 21 => ⟨S262144x3, .f32⟩
  | 22 => ⟨S_, .f32⟩
  | 23 => ⟨S262144x3, .f32⟩
  | 24 => ⟨S262144x3, .f32⟩
  | 25 => ⟨S262144x3, .f32⟩
  | 26 => ⟨S_, .f32⟩
  | 27 => ⟨S262144, .f32⟩
  | 28 => ⟨S_, .f32⟩
  | 29 => ⟨S262144, .f32⟩
  | 30 => ⟨S262144, .i1⟩
  | 31 => ⟨S_, .f32⟩
  | 32 => ⟨S262144, .f32⟩
  | 33 => ⟨S262144, .f32⟩
  | 34 => ⟨S_, .f32⟩
  | 35 => ⟨S_, .f32⟩
  | 36 => ⟨S262144, .f32⟩
  | 37 => ⟨S262144, .f32⟩
  | 38 => ⟨S262144, .f32⟩
  | 39 => ⟨S_, .f32⟩
  | 40 => ⟨S262144, .f32⟩
  | 41 => ⟨S262144, .f32⟩
  | 42 => ⟨S262144x1, .f32⟩
  | 43 => ⟨S262144x3, .f32⟩
  | 44 => ⟨S262144x3, .f32⟩
  | 45 => ⟨S262144x3, .f32⟩
  | 46 => ⟨S_, .f32⟩
  | 47 => ⟨S262144x3, .f32⟩
  | 48 => ⟨S262144x3, .i1⟩
  | 49 => ⟨S_, .f32⟩
  | 50 => ⟨S262144x3, .f32⟩
  | 51 => ⟨S262144x3, .f32⟩
  | 52 => ⟨S262144x3, .f32⟩
  | 53 => ⟨S262144x3, .f32⟩
  | 54 => ⟨S_, .f32⟩
  | 55 => ⟨S262144x3, .f32⟩
  | 56 => ⟨S262144x3, .f32⟩
  | 57 => ⟨S_, .f32⟩
  | 58 => ⟨S262144x3, .f32⟩
  | 59 => ⟨S262144x3, .f32⟩
  | 60 => ⟨S262144x3, .f32⟩
  | 61 => ⟨S262144x3, .f32⟩
  | 62 => ⟨S_, .f32⟩
  | 63 => ⟨S262144x3, .f32⟩
  | 64 => ⟨S262144x3, .f32⟩
  | 65 => ⟨S262144x3, .f32⟩
  | 66 => ⟨S262144x3, .f32⟩
  | 67 => ⟨S_, .f32⟩
  | 68 => ⟨S262144x3, .f32⟩
  | 69 => ⟨S262144x3, .f32⟩
  | 70 => ⟨S262144x3, .f32⟩
  | 71 => ⟨S262144x3, .f32⟩
  | 72 => ⟨S_, .f32⟩
  | 73 => ⟨S262144x3, .f32⟩
  | 74 => ⟨S262144x3, .f32⟩
  | 75 => ⟨S262144x3, .f32⟩
  | 76 => ⟨S262144x3, .f32⟩
  | 77 => ⟨S_, .f32⟩
  | 78 => ⟨S262144x3, .f32⟩
  | 79 => ⟨S262144x3, .f32⟩
  | 80 => ⟨S262144x3, .f32⟩
  | 81 => ⟨S262144x3, .f32⟩
  | 82 => ⟨S_, .f32⟩
  | 83 => ⟨S262144x3, .f32⟩
  | 84 => ⟨S262144x3, .f32⟩
  | 85 => ⟨S262144x3, .f32⟩
  | 86 => ⟨S262144x3, .f32⟩
  | 87 => ⟨S_, .f32⟩
  | 88 => ⟨S262144x3, .f32⟩
  | 89 => ⟨S262144x3, .f32⟩
  | 90 => ⟨S262144x3, .f32⟩
  | 91 => ⟨S262144x3, .f32⟩
  | 92 => ⟨S_, .f32⟩
  | 93 => ⟨S262144x3, .f32⟩
  | 94 => ⟨S262144x3, .f32⟩
  | 95 => ⟨S262144x3, .f32⟩
  | 96 => ⟨S262144x3, .f32⟩
  | 97 => ⟨S_, .f32⟩
  | 98 => ⟨S262144x3, .f32⟩
  | 99 => ⟨S262144x3, .f32⟩
  | 100 => ⟨S_, .f32⟩
  | 101 => ⟨S262144x3, .f32⟩
  | 102 => ⟨S262144x3, .i1⟩
  | 103 => ⟨S262144x3, .f32⟩
  | 104 => ⟨S_, .f32⟩
  | 105 => ⟨S262144x3, .f32⟩
  | 106 => ⟨S262144x3, .f32⟩
  | 107 => ⟨S262144x3, .f32⟩
  | 108 => ⟨S262144x3, .f32⟩
  | 109 => ⟨S_, .f32⟩
  | 110 => ⟨S262144x3, .f32⟩
  | 111 => ⟨S262144x3, .i1⟩
  | 112 => ⟨S262144x3, .f32⟩
  | 113 => ⟨S262144x3, .f32⟩
  | 114 => ⟨S_, .f32⟩
  | 115 => ⟨S262144x3, .f32⟩
  | 116 => ⟨S262144x3, .f32⟩
  | 117 => ⟨S262144x1, .i1⟩
  | 118 => ⟨S_, .f32⟩
  | 119 => ⟨S_, .f32⟩
  | 120 => ⟨S262144x3, .i1⟩
  | 121 => ⟨S262144x3, .f32⟩
  | 122 => ⟨S262144x3, .f32⟩
  | 123 => ⟨S262144x6, .f32⟩
  | 124 => ⟨S6, .i32⟩
  | 125 => ⟨S1x6, .i32⟩
  | 126 => ⟨S8x6, .i32⟩
  | 127 => ⟨S_, .i32⟩
  | _ => ⟨S262144x6, .f32⟩

abbrev hbmTy0_1 (i : Nat) : BufTy := match i % 128 with
  | 0 => ⟨S8x3x128, .f32⟩
  | 1 => ⟨S8x128, .f32⟩
  | 2 => ⟨S8x128x128, .f32⟩
  | 3 => ⟨S8x128, .f32⟩
  | 4 => ⟨S8x128x120, .f32⟩
  | 5 => ⟨S8x120, .f32⟩
  | 6 => ⟨S8x6, .i32⟩
  | 7 => ⟨S8x6, .i32⟩
  | 8 => ⟨S8x6, .i32⟩
  | 9 => ⟨S_, .i32⟩
  | 10 => ⟨S262144x6, .f32⟩
  | 11 => ⟨S_, .i32⟩
  | 12 => ⟨S_, .i1⟩
  | 13 => ⟨S_, .i32⟩
  | 14 => ⟨S_, .i32⟩
  | 15 => ⟨S1x3x128, .f32⟩
  | 16 => ⟨S3x128, .f32⟩
  | 17 => ⟨S_, .i32⟩
  | 18 => ⟨S1x128, .f32⟩
  | 19 => ⟨S128, .f32⟩
  | 20 => ⟨S_, .i32⟩
  | 21 => ⟨S_, .i32⟩
  | 22 => ⟨S1x128x128, .f32⟩
  | 23 => ⟨S128x128, .f32⟩
  | 24 => ⟨S_, .i32⟩
  | 25 => ⟨S1x128, .f32⟩
  | 26 => ⟨S128, .f32⟩
  | 27 => ⟨S_, .i32⟩
  | 28 => ⟨S_, .i32⟩
  | 29 => ⟨S1x128x120, .f32⟩
  | 30 => ⟨S128x120, .f32⟩
  | 31 => ⟨S_, .i32⟩
  | 32 => ⟨S1x120, .f32⟩
  | 33 => ⟨S120, .f32⟩
  | 34 => ⟨S_, .i32⟩
  | 35 => ⟨S1x6, .i32⟩
  | 36 => ⟨S6, .i32⟩
  | 37 => ⟨S_, .i32⟩
  | 38 => ⟨S1x6, .i32⟩
  | 39 => ⟨S6, .i32⟩
  | 40 => ⟨S_, .i32⟩
  | 41 => ⟨S1x6, .i32⟩
  | 42 => ⟨S6, .i32⟩
  | 43 => ⟨S_, .i32⟩
  | 44 => ⟨S6, .i32⟩
  | 45 => ⟨S6, .i1⟩
  | 46 => ⟨S_, .i32⟩
  | 47 => ⟨S6, .i32⟩
  | 48 => ⟨S6, .i32⟩
  | 49 => ⟨S6, .i32⟩
  | 50 => ⟨S6x1, .i32⟩
  | 51 => ⟨S262144x6, .f32⟩
  | 52 => ⟨S_, .i32⟩
  | 53 => ⟨S6, .i32⟩
  | 54 => ⟨S6, .i1⟩
  | 55 => ⟨S_, .i32⟩
  | 56 => ⟨S6, .i32⟩
  | 57 => ⟨S6, .i32⟩
  | 58 => ⟨S6, .i32⟩
  | 59 => ⟨S6x1, .i32⟩
  | 60 => ⟨S262144x6, .f32⟩
  | 61 => ⟨S262144x3, .f32⟩
  | 62 => ⟨S262144x3, .f32⟩
  | 63 => ⟨S262144x128, .f32⟩
  | 64 => ⟨S1x128, .f32⟩
  | 65 => ⟨S262144x128, .f32⟩
  | 66 => ⟨S262144x128, .f32⟩
  | 67 => ⟨S_, .f32⟩
  | 68 => ⟨S262144x128, .f32⟩
  | 69 => ⟨S262144x128, .f32⟩
  | 70 => ⟨S262144x128, .f32⟩
  | 71 => ⟨S1x128, .f32⟩
  | 72 => ⟨S262144x128, .f32⟩
  | 73 => ⟨S262144x128, .f32⟩
  | 74 => ⟨S_, .f32⟩
  | 75 => ⟨S262144x128, .f32⟩
  | 76 => ⟨S262144x128, .f32⟩
  | 77 => ⟨S262144x120, .f32⟩
  | 78 => ⟨S1x120, .f32⟩
  | 79 => ⟨S262144x120, .f32⟩
  | 80 => ⟨S262144x120, .f32⟩
  | 81 => ⟨S262144x3x40, .f32⟩
  | 82 => ⟨S_, .f32⟩
  | 83 => ⟨S262144x3, .f32⟩
  | 84 => ⟨S262144x3, .f32⟩
  | 85 => ⟨S_, .f32⟩
  | 86 => ⟨S262144x3, .f32⟩
  | 87 => ⟨S262144x3, .f32⟩
  | 88 => ⟨S_, .f32⟩
  | 89 => ⟨S_, .f32⟩
  | 90 => ⟨S_, .f32⟩
  | 91 => ⟨S262144x3, .f32⟩
  | 92 => ⟨S262144x3, .f32⟩
  | 93 => ⟨S_, .f32⟩
  | 94 => ⟨S262144x3, .f32⟩
  | 95 => ⟨S262144x3, .f32⟩
  | 96 => ⟨S_, .f32⟩
  | 97 => ⟨S262144x3, .f32⟩
  | 98 => ⟨S_, .f32⟩
  | 99 => ⟨S262144x3, .f32⟩
  | 100 => ⟨S262144x3, .f32⟩
  | 101 => ⟨S262144x3x1, .f32⟩
  | 102 => ⟨S262144x3x40, .f32⟩
  | 103 => ⟨S262144x3x40, .f32⟩
  | 104 => ⟨S262144x3x40, .f32⟩
  | 105 => ⟨S_, .f32⟩
  | 106 => ⟨S262144x3, .f32⟩
  | 107 => ⟨S262144x3x1, .f32⟩
  | 108 => ⟨S262144x3x40, .f32⟩
  | 109 => ⟨S262144x3x40, .f32⟩
  | 110 => ⟨S_, .f32⟩
  | 111 => ⟨S_, .f32⟩
  | 112 => ⟨S262144x3x40, .f32⟩
  | 113 => ⟨S_, .f32⟩
  | 114 => ⟨S262144x3, .f32⟩
  | 115 => ⟨S262144x3, .f32⟩
  | 116 => ⟨S262144x3, .f32⟩
  | 117 => ⟨S262144x3, .i32⟩
  | 118 => ⟨S_, .i32⟩
  | 119 => ⟨S_, .i32⟩
  | 120 => ⟨S_, .i32⟩
  | 121 => ⟨S262144x3, .i32⟩
  | 122 => ⟨S262144x3, .i32⟩
  | 123 => ⟨S_, .i32⟩
  | 124 => ⟨S262144x3, .i32⟩
  | 125 => ⟨S262144x3, .i32⟩
  | 126 => ⟨S262144x3x1, .i32⟩
  | 127 => ⟨S_, .i32⟩
  | _ => ⟨S262144x6, .f32⟩

abbrev hbmTy0_2 (i : Nat) : BufTy := match i % 128 with
  | 0 => ⟨S262144x3x1, .i32⟩
  | 1 => ⟨S262144x3x1, .i1⟩
  | 2 => ⟨S_, .i32⟩
  | 3 => ⟨S262144x3x1, .i32⟩
  | 4 => ⟨S262144x3x1, .i32⟩
  | 5 => ⟨S262144x3x1, .i32⟩
  | 6 => ⟨S262144x3x1x1, .i32⟩
  | 7 => ⟨S262144x3x1, .f32⟩
  | 8 => ⟨S262144x3, .f32⟩
  | 9 => ⟨S262144x3x1, .i32⟩
  | 10 => ⟨S_, .i32⟩
  | 11 => ⟨S262144x3x1, .i32⟩
  | 12 => ⟨S262144x3x1, .i1⟩
  | 13 => ⟨S_, .i32⟩
  | 14 => ⟨S262144x3x1, .i32⟩
  | 15 => ⟨S262144x3x1, .i32⟩
  | 16 => ⟨S262144x3x1, .i32⟩
  | 17 => ⟨S262144x3x1x1, .i32⟩
  | 18 => ⟨S262144x3x1, .f32⟩
  | 19 => ⟨S262144x3, .f32⟩
  | 20 => ⟨S262144x3, .f32⟩
  | 21 => ⟨S262144x3, .f32⟩
  | 22 => ⟨S262144x3, .f32⟩
  | 23 => ⟨S262144x3, .f32⟩
  | 24 => ⟨S262144x3, .f32⟩
  | 25 => ⟨S_, .f32⟩
  | 26 => ⟨S262144x3, .f32⟩
  | 27 => ⟨S262144x3, .f32⟩
  | 28 => ⟨S_, .f32⟩
  | 29 => ⟨S262144x3, .f32⟩
  | 30 => ⟨S262144x3, .f32⟩
  | 31 => ⟨S262144x6, .f32⟩
  | 32 => ⟨S_, .i32⟩
  | 33 => ⟨S6, .i32⟩
  | 34 => ⟨S6, .i1⟩
  | 35 => ⟨S_, .i32⟩
  | 36 => ⟨S6, .i32⟩
  | 37 => ⟨S6, .i32⟩
  | 38 => ⟨S6, .i32⟩
  | 39 => ⟨S6x1, .i32⟩
  | 40 => ⟨S262144x6, .f32⟩
  | 41 => ⟨S_, .i32⟩
  | 42 => ⟨S_, .i32⟩
  | _ => ⟨S262144x6, .f32⟩

abbrev hbmTy (i : Nat) : BufTy := match i / 128 with
  | 0 => hbmTy0_0 i
  | 1 => hbmTy0_1 i
  | 2 => hbmTy0_2 i
  | _ => ⟨S262144x6, .f32⟩

abbrev bufTy : (tb : Table) → Fin (tcTables nBuf tb) → BufTy
  | .hbm, ⟨i, _⟩ => hbmTy i
  | _, _ => ⟨S262144x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1_0 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_cst_5 : Ref sig .tc := ⟨.hbm, 34, rfl⟩
abbrev main_call2_v0 : Ref sig .tc := ⟨.hbm, 35, rfl⟩
abbrev main_call2_v1 : Ref sig .tc := ⟨.hbm, 36, rfl⟩
abbrev main_v12 : Ref sig .tc := ⟨.hbm, 37, rfl⟩
abbrev main_v13 : Ref sig .tc := ⟨.hbm, 38, rfl⟩
abbrev main_cst_6 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_7 : Ref sig .tc := ⟨.hbm, 46, rfl⟩
abbrev main_v20 : Ref sig .tc := ⟨.hbm, 47, rfl⟩
abbrev main_v21 : Ref sig .tc := ⟨.hbm, 48, rfl⟩
abbrev main_cst_8 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_9 : Ref sig .tc := ⟨.hbm, 54, rfl⟩
abbrev main_v26 : Ref sig .tc := ⟨.hbm, 55, rfl⟩
abbrev main_v27 : Ref sig .tc := ⟨.hbm, 56, rfl⟩
abbrev main_cst_10 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_12 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_14 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_17 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_18 : Ref sig .tc := ⟨.hbm, 97, rfl⟩
abbrev main_v60 : Ref sig .tc := ⟨.hbm, 98, rfl⟩
abbrev main_v61 : Ref sig .tc := ⟨.hbm, 99, rfl⟩
abbrev main_cst_19 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_20 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_21 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_22 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_23 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c : Ref sig .tc := ⟨.hbm, 127, rfl⟩
abbrev main_v81_0 : Ref sig .tc := ⟨.hbm, 128, rfl⟩
abbrev main_v81_1 : Ref sig .tc := ⟨.hbm, 129, rfl⟩
abbrev main_v81_2 : Ref sig .tc := ⟨.hbm, 130, rfl⟩
abbrev main_v81_3 : Ref sig .tc := ⟨.hbm, 131, rfl⟩
abbrev main_v81_4 : Ref sig .tc := ⟨.hbm, 132, rfl⟩
abbrev main_v81_5 : Ref sig .tc := ⟨.hbm, 133, rfl⟩
abbrev main_v81_6 : Ref sig .tc := ⟨.hbm, 134, rfl⟩
abbrev main_v81_7 : Ref sig .tc := ⟨.hbm, 135, rfl⟩
abbrev main_v81_8 : Ref sig .tc := ⟨.hbm, 136, rfl⟩
abbrev main_v81_9 : Ref sig .tc := ⟨.hbm, 137, rfl⟩
abbrev main_v81_10 : Ref sig .tc := ⟨.hbm, 138, rfl⟩
abbrev main_while0c_c_34 : Ref sig .tc := ⟨.hbm, 139, rfl⟩
abbrev main_while0c_v82 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_v0 : Ref sig .tc := ⟨.hbm, 143, rfl⟩
abbrev main_while0b_v82 : Ref sig .tc := ⟨.hbm, 144, rfl⟩
abbrev main_while0b_call8_c : Ref sig .tc := ⟨.hbm, 145, rfl⟩
abbrev main_while0b_call8_v0 : Ref sig .tc := ⟨.hbm, 146, rfl⟩
abbrev main_while0b_v83 : Ref sig .tc := ⟨.hbm, 147, rfl⟩
abbrev main_while0b_call9_c : Ref sig .tc := ⟨.hbm, 148, rfl⟩
abbrev main_while0b_call9_c_0 : Ref sig .tc := ⟨.hbm, 149, rfl⟩
abbrev main_while0b_call9_v0 : Ref sig .tc := ⟨.hbm, 150, rfl⟩
abbrev main_while0b_v84 : Ref sig .tc := ⟨.hbm, 151, rfl⟩
abbrev main_while0b_call10_c : Ref sig .tc := ⟨.hbm, 152, rfl⟩
abbrev main_while0b_call10_v0 : Ref sig .tc := ⟨.hbm, 153, rfl⟩
abbrev main_while0b_v85 : Ref sig .tc := ⟨.hbm, 154, rfl⟩
abbrev main_while0b_call11_c : Ref sig .tc := ⟨.hbm, 155, rfl⟩
abbrev main_while0b_call11_c_0 : Ref sig .tc := ⟨.hbm, 156, rfl⟩
abbrev main_while0b_call11_v0 : Ref sig .tc := ⟨.hbm, 157, rfl⟩
abbrev main_while0b_v86 : Ref sig .tc := ⟨.hbm, 158, rfl⟩
abbrev main_while0b_call12_c : Ref sig .tc := ⟨.hbm, 159, rfl⟩
abbrev main_while0b_call12_v0 : Ref sig .tc := ⟨.hbm, 160, rfl⟩
abbrev main_while0b_v87 : Ref sig .tc := ⟨.hbm, 161, rfl⟩
abbrev main_while0b_call13_c : Ref sig .tc := ⟨.hbm, 162, rfl⟩
abbrev main_while0b_call13_v0 : Ref sig .tc := ⟨.hbm, 163, rfl⟩
abbrev main_while0b_v88 : Ref sig .tc := ⟨.hbm, 164, rfl⟩
abbrev main_while0b_call14_c : Ref sig .tc := ⟨.hbm, 165, rfl⟩
abbrev main_while0b_call14_v0 : Ref sig .tc := ⟨.hbm, 166, rfl⟩
abbrev main_while0b_v89 : Ref sig .tc := ⟨.hbm, 167, rfl⟩
abbrev main_while0b_call15_c : Ref sig .tc := ⟨.hbm, 168, rfl⟩
abbrev main_while0b_call15_v0 : Ref sig .tc := ⟨.hbm, 169, rfl⟩
abbrev main_while0b_v90 : Ref sig .tc := ⟨.hbm, 170, rfl⟩
abbrev main_while0b_c_34 : Ref sig .tc := ⟨.hbm, 171, rfl⟩
abbrev main_while0b_v91 : Ref sig .tc := ⟨.hbm, 172, rfl⟩
abbrev main_while0b_v92 : Ref sig .tc := ⟨.hbm, 173, rfl⟩
abbrev main_while0b_c_35 : Ref sig .tc := ⟨.hbm, 174, rfl⟩
abbrev main_while0b_v93 : Ref sig .tc := ⟨.hbm, 175, rfl⟩
abbrev main_while0b_v94 : Ref sig .tc := ⟨.hbm, 176, rfl⟩
abbrev main_while0b_v95 : Ref sig .tc := ⟨.hbm, 177, rfl⟩
abbrev main_while0b_v96 : Ref sig .tc := ⟨.hbm, 178, rfl⟩
abbrev main_while0b_v97 : Ref sig .tc := ⟨.hbm, 179, rfl⟩
abbrev main_while0b_c_36 : Ref sig .tc := ⟨.hbm, 180, rfl⟩
abbrev main_while0b_v98 : Ref sig .tc := ⟨.hbm, 181, rfl⟩
abbrev main_while0b_v99 : Ref sig .tc := ⟨.hbm, 182, rfl⟩
abbrev main_while0b_c_37 : Ref sig .tc := ⟨.hbm, 183, rfl⟩
abbrev main_while0b_v100 : Ref sig .tc := ⟨.hbm, 184, rfl⟩
abbrev main_while0b_v101 : Ref sig .tc := ⟨.hbm, 185, rfl⟩
abbrev main_while0b_v102 : Ref sig .tc := ⟨.hbm, 186, rfl⟩
abbrev main_while0b_v103 : Ref sig .tc := ⟨.hbm, 187, rfl⟩
abbrev main_while0b_v104 : Ref sig .tc := ⟨.hbm, 188, rfl⟩
abbrev main_while0b_v105 : Ref sig .tc := ⟨.hbm, 189, rfl⟩
abbrev main_while0b_v106 : Ref sig .tc := ⟨.hbm, 190, rfl⟩
abbrev main_while0b_v107 : Ref sig .tc := ⟨.hbm, 191, rfl⟩
abbrev main_while0b_v108 : Ref sig .tc := ⟨.hbm, 192, rfl⟩
abbrev main_while0b_v109 : Ref sig .tc := ⟨.hbm, 193, rfl⟩
abbrev main_while0b_v110 : Ref sig .tc := ⟨.hbm, 194, rfl⟩
abbrev main_while0b_call16_cst : Ref sig .tc := ⟨.hbm, 195, rfl⟩
abbrev main_while0b_call16_v0 : Ref sig .tc := ⟨.hbm, 196, rfl⟩
abbrev main_while0b_v111 : Ref sig .tc := ⟨.hbm, 197, rfl⟩
abbrev main_while0b_v112 : Ref sig .tc := ⟨.hbm, 198, rfl⟩
abbrev main_while0b_v113 : Ref sig .tc := ⟨.hbm, 199, rfl⟩
abbrev main_while0b_v114 : Ref sig .tc := ⟨.hbm, 200, rfl⟩
abbrev main_while0b_v115 : Ref sig .tc := ⟨.hbm, 201, rfl⟩
abbrev main_while0b_call17_cst : Ref sig .tc := ⟨.hbm, 202, rfl⟩
abbrev main_while0b_call17_v0 : Ref sig .tc := ⟨.hbm, 203, rfl⟩
abbrev main_while0b_v116 : Ref sig .tc := ⟨.hbm, 204, rfl⟩
abbrev main_while0b_v117 : Ref sig .tc := ⟨.hbm, 205, rfl⟩
abbrev main_while0b_v118 : Ref sig .tc := ⟨.hbm, 206, rfl⟩
abbrev main_while0b_v119 : Ref sig .tc := ⟨.hbm, 207, rfl⟩
abbrev main_while0b_v120 : Ref sig .tc := ⟨.hbm, 208, rfl⟩
abbrev main_while0b_v121 : Ref sig .tc := ⟨.hbm, 209, rfl⟩
abbrev main_while0b_cst_38 : Ref sig .tc := ⟨.hbm, 210, rfl⟩
abbrev main_while0b_v122 : Ref sig .tc := ⟨.hbm, 211, rfl⟩
abbrev main_while0b_v123 : Ref sig .tc := ⟨.hbm, 212, rfl⟩
abbrev main_while0b_cst_39 : Ref sig .tc := ⟨.hbm, 213, rfl⟩
abbrev main_while0b_v124 : Ref sig .tc := ⟨.hbm, 214, rfl⟩
abbrev main_while0b_v125 : Ref sig .tc := ⟨.hbm, 215, rfl⟩
abbrev main_while0b_cst_40 : Ref sig .tc := ⟨.hbm, 216, rfl⟩
abbrev main_while0b_cst_41 : Ref sig .tc := ⟨.hbm, 217, rfl⟩
abbrev main_while0b_call18_v0 : Ref sig .tc := ⟨.hbm, 218, rfl⟩
abbrev main_while0b_call18_v1 : Ref sig .tc := ⟨.hbm, 219, rfl⟩
abbrev main_while0b_call18_v2 : Ref sig .tc := ⟨.hbm, 220, rfl⟩
abbrev main_while0b_call18_v3 : Ref sig .tc := ⟨.hbm, 221, rfl⟩
abbrev main_while0b_call18_v4 : Ref sig .tc := ⟨.hbm, 222, rfl⟩
abbrev main_while0b_v126 : Ref sig .tc := ⟨.hbm, 223, rfl⟩
abbrev main_while0b_cst_42 : Ref sig .tc := ⟨.hbm, 224, rfl⟩
abbrev main_while0b_v127 : Ref sig .tc := ⟨.hbm, 225, rfl⟩
abbrev main_while0b_cst_43 : Ref sig .tc := ⟨.hbm, 226, rfl⟩
abbrev main_while0b_v128 : Ref sig .tc := ⟨.hbm, 227, rfl⟩
abbrev main_while0b_v129 : Ref sig .tc := ⟨.hbm, 228, rfl⟩
abbrev main_while0b_v130 : Ref sig .tc := ⟨.hbm, 229, rfl⟩
abbrev main_while0b_v131 : Ref sig .tc := ⟨.hbm, 230, rfl⟩
abbrev main_while0b_v132 : Ref sig .tc := ⟨.hbm, 231, rfl⟩
abbrev main_while0b_v133 : Ref sig .tc := ⟨.hbm, 232, rfl⟩
abbrev main_while0b_cst_44 : Ref sig .tc := ⟨.hbm, 233, rfl⟩
abbrev main_while0b_v134 : Ref sig .tc := ⟨.hbm, 234, rfl⟩
abbrev main_while0b_v135 : Ref sig .tc := ⟨.hbm, 235, rfl⟩
abbrev main_while0b_v136 : Ref sig .tc := ⟨.hbm, 236, rfl⟩
abbrev main_while0b_v137 : Ref sig .tc := ⟨.hbm, 237, rfl⟩
abbrev main_while0b_call19_call0_cst : Ref sig .tc := ⟨.hbm, 238, rfl⟩
abbrev main_while0b_call19_call0_v0 : Ref sig .tc := ⟨.hbm, 239, rfl⟩
abbrev main_while0b_v138 : Ref sig .tc := ⟨.hbm, 240, rfl⟩
abbrev main_while0b_cst_45 : Ref sig .tc := ⟨.hbm, 241, rfl⟩
abbrev main_while0b_v139 : Ref sig .tc := ⟨.hbm, 242, rfl⟩
abbrev main_while0b_v140 : Ref sig .tc := ⟨.hbm, 243, rfl⟩
abbrev main_while0b_v141 : Ref sig .tc := ⟨.hbm, 244, rfl⟩
abbrev main_while0b_v142 : Ref sig .tc := ⟨.hbm, 245, rfl⟩
abbrev main_while0b_c_46 : Ref sig .tc := ⟨.hbm, 246, rfl⟩
abbrev main_while0b_c_47 : Ref sig .tc := ⟨.hbm, 247, rfl⟩
abbrev main_while0b_call20_v0 : Ref sig .tc := ⟨.hbm, 248, rfl⟩
abbrev main_while0b_call20_v1 : Ref sig .tc := ⟨.hbm, 249, rfl⟩
abbrev main_while0b_call20_v2 : Ref sig .tc := ⟨.hbm, 250, rfl⟩
abbrev main_while0b_call20_v3 : Ref sig .tc := ⟨.hbm, 251, rfl⟩
abbrev main_while0b_call20_v4 : Ref sig .tc := ⟨.hbm, 252, rfl⟩
abbrev main_while0b_v143 : Ref sig .tc := ⟨.hbm, 253, rfl⟩
abbrev main_while0b_v144 : Ref sig .tc := ⟨.hbm, 254, rfl⟩
abbrev main_while0b_call21_c : Ref sig .tc := ⟨.hbm, 255, rfl⟩
abbrev main_while0b_call21_v0 : Ref sig .tc := ⟨.hbm, 256, rfl⟩
abbrev main_while0b_call21_v1 : Ref sig .tc := ⟨.hbm, 257, rfl⟩
abbrev main_while0b_call21_c_0 : Ref sig .tc := ⟨.hbm, 258, rfl⟩
abbrev main_while0b_call21_v2 : Ref sig .tc := ⟨.hbm, 259, rfl⟩
abbrev main_while0b_call21_v3 : Ref sig .tc := ⟨.hbm, 260, rfl⟩
abbrev main_while0b_call21_v4 : Ref sig .tc := ⟨.hbm, 261, rfl⟩
abbrev main_while0b_call21_v5 : Ref sig .tc := ⟨.hbm, 262, rfl⟩
abbrev main_while0b_v145 : Ref sig .tc := ⟨.hbm, 263, rfl⟩
abbrev main_while0b_v146 : Ref sig .tc := ⟨.hbm, 264, rfl⟩
abbrev main_while0b_v147 : Ref sig .tc := ⟨.hbm, 265, rfl⟩
abbrev main_while0b_call22_c : Ref sig .tc := ⟨.hbm, 266, rfl⟩
abbrev main_while0b_call22_v0 : Ref sig .tc := ⟨.hbm, 267, rfl⟩
abbrev main_while0b_call22_v1 : Ref sig .tc := ⟨.hbm, 268, rfl⟩
abbrev main_while0b_call22_c_0 : Ref sig .tc := ⟨.hbm, 269, rfl⟩
abbrev main_while0b_call22_v2 : Ref sig .tc := ⟨.hbm, 270, rfl⟩
abbrev main_while0b_call22_v3 : Ref sig .tc := ⟨.hbm, 271, rfl⟩
abbrev main_while0b_call22_v4 : Ref sig .tc := ⟨.hbm, 272, rfl⟩
abbrev main_while0b_call22_v5 : Ref sig .tc := ⟨.hbm, 273, rfl⟩
abbrev main_while0b_v148 : Ref sig .tc := ⟨.hbm, 274, rfl⟩
abbrev main_while0b_v149 : Ref sig .tc := ⟨.hbm, 275, rfl⟩
abbrev main_while0b_v150 : Ref sig .tc := ⟨.hbm, 276, rfl⟩
abbrev main_while0b_v151 : Ref sig .tc := ⟨.hbm, 277, rfl⟩
abbrev main_while0b_v152 : Ref sig .tc := ⟨.hbm, 278, rfl⟩
abbrev main_while0b_v153 : Ref sig .tc := ⟨.hbm, 279, rfl⟩
abbrev main_while0b_v154 : Ref sig .tc := ⟨.hbm, 280, rfl⟩
abbrev main_while0b_cst_48 : Ref sig .tc := ⟨.hbm, 281, rfl⟩
abbrev main_while0b_v155 : Ref sig .tc := ⟨.hbm, 282, rfl⟩
abbrev main_while0b_v156 : Ref sig .tc := ⟨.hbm, 283, rfl⟩
abbrev main_while0b_cst_49 : Ref sig .tc := ⟨.hbm, 284, rfl⟩
abbrev main_while0b_v157 : Ref sig .tc := ⟨.hbm, 285, rfl⟩
abbrev main_while0b_v158 : Ref sig .tc := ⟨.hbm, 286, rfl⟩
abbrev main_while0b_v159 : Ref sig .tc := ⟨.hbm, 287, rfl⟩
abbrev main_while0b_c_50 : Ref sig .tc := ⟨.hbm, 288, rfl⟩
abbrev main_while0b_v160 : Ref sig .tc := ⟨.hbm, 289, rfl⟩
abbrev main_while0b_v161 : Ref sig .tc := ⟨.hbm, 290, rfl⟩
abbrev main_while0b_c_51 : Ref sig .tc := ⟨.hbm, 291, rfl⟩
abbrev main_while0b_v162 : Ref sig .tc := ⟨.hbm, 292, rfl⟩
abbrev main_while0b_v163 : Ref sig .tc := ⟨.hbm, 293, rfl⟩
abbrev main_while0b_v164 : Ref sig .tc := ⟨.hbm, 294, rfl⟩
abbrev main_while0b_v165 : Ref sig .tc := ⟨.hbm, 295, rfl⟩
abbrev main_while0b_v166 : Ref sig .tc := ⟨.hbm, 296, rfl⟩
abbrev main_while0b_c_52 : Ref sig .tc := ⟨.hbm, 297, rfl⟩
abbrev main_while0b_v167 : Ref sig .tc := ⟨.hbm, 298, rfl⟩

abbrev nD : Nat := 1
abbrev τ : Topo := Topo.v7x

variable {F : FTy → Type} [FloatOps F]

abbrev main_while0_count : Scf.Loop 32 := ⟨0#32, 8#32, 1#32⟩
-- ==== ChartIdeal.lean ====
abbrev S262144x3 : Shape := ⟨2, ![262144, 3]⟩
abbrev S_ : Shape := ⟨0, ![]⟩
abbrev S262144 : Shape := ⟨1, ![262144]⟩
abbrev S262144x1 : Shape := ⟨2, ![262144, 1]⟩

abbrev nBuf : Space → Nat
  | .hbm => 102
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S_, .f32⟩
  | .hbm, ⟨2, _⟩ => ⟨S262144x3, .f32⟩
  | .hbm, ⟨3, _⟩ => ⟨S262144x3, .f32⟩
  | .hbm, ⟨4, _⟩ => ⟨S262144x3, .f32⟩
  | .hbm, ⟨5, _⟩ => ⟨S_, .f32⟩
  | .hbm, ⟨6, _⟩ => ⟨S262144, .f32⟩
  | .hbm, ⟨7, _⟩ => ⟨S_, .f32⟩
  | .hbm, ⟨8, _⟩ => ⟨S262144, .f32⟩
  | .hbm, ⟨9, _⟩ => ⟨S262144, .i1⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S_, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S262144, .f32⟩
  | .hbm, ⟨18, _⟩ => ⟨S_, .f32⟩
  | .hbm, ⟨19, _⟩ => ⟨S262144, .f32⟩
  | .hbm, ⟨20, _⟩ => ⟨S262144, .f32⟩
  | .hbm, ⟨21, _⟩ => ⟨S262144x1, .f32⟩
  | .hbm, ⟨22, _⟩ => ⟨S262144x3, .f32⟩
  | .hbm, ⟨23, _⟩ => ⟨S262144x3, .f32⟩
  | .hbm, ⟨24, _⟩ => ⟨S262144x3, .f32⟩
  | .hbm, ⟨25, _⟩ => ⟨S_, .f32⟩
  | .hbm, ⟨26, _⟩ => ⟨S262144x3, .f32⟩
  | .hbm, ⟨27, _⟩ => ⟨S262144x3, .i1⟩
  | .hbm, ⟨28, _⟩ => ⟨S_, .f32⟩
  | .hbm, ⟨29, _⟩ => ⟨S262144x3, .f32⟩
  | .hbm, ⟨30, _⟩ => ⟨S262144x3, .f32⟩
  | .hbm, ⟨31, _⟩ => ⟨S262144x3, .f32⟩
  | .hbm, ⟨32, _⟩ => ⟨S262144x3, .f32⟩
  | .hbm, ⟨33, _⟩ => ⟨S_, .f32⟩
  | .hbm, ⟨34, _⟩ => ⟨S262144x3, .f32⟩
  | .hbm, ⟨35, _⟩ => ⟨S262144x3, .f32⟩
  | .hbm, ⟨36, _⟩ => ⟨S_, .f32⟩
  | .hbm, ⟨37, _⟩ => ⟨S262144x3, .f32⟩
  | .hbm, ⟨38, _⟩ => ⟨S262144x3, .f32⟩
  | .hbm, ⟨39, _⟩ => ⟨S262144x3, .f32⟩
  | .hbm, ⟨40, _⟩ => ⟨S262144x3, .f32⟩
  | .hbm, ⟨41, _⟩ => ⟨S_, .f32⟩
  | .hbm, ⟨42, _⟩ => ⟨S262144x3, .f32⟩
  | .hbm, ⟨43, _⟩ => ⟨S262144x3, .f32⟩
  | .hbm, ⟨44, _⟩ => ⟨S262144x3, .f32⟩
  | .hbm, ⟨45, _⟩ => ⟨S262144x3, .f32⟩
  | .hbm, ⟨46, _⟩ => ⟨S_, .f32⟩
  | .hbm, ⟨47, _⟩ => ⟨S262144x3, .f32⟩
  | .hbm, ⟨48, _⟩ => ⟨S262144x3, .f32⟩
  | .hbm, ⟨49, _⟩ => ⟨S262144x3, .f32⟩
  | .hbm, ⟨50, _⟩ => ⟨S262144x3, .f32⟩
  | .hbm, ⟨51, _⟩ => ⟨S_, .f32⟩
  | .hbm, ⟨52, _⟩ => ⟨S262144x3, .f32⟩
  | .hbm, ⟨53, _⟩ => ⟨S262144x3, .f32⟩
  | .hbm, ⟨54, _⟩ => ⟨S262144x3, .f32⟩
  | .hbm, ⟨55, _⟩ => ⟨S262144x3, .f32⟩
  | .hbm, ⟨56, _⟩ => ⟨S_, .f32⟩
  | .hbm, ⟨57, _⟩ => ⟨S262144x3, .f32⟩
  | .hbm, ⟨58, _⟩ => ⟨S262144x3, .f32⟩
  | .hbm, ⟨59, _⟩ => ⟨S262144x3, .f32⟩
  | .hbm, ⟨60, _⟩ => ⟨S262144x3, .f32⟩
  | .hbm, ⟨61, _⟩ => ⟨S_, .f32⟩
  | .hbm, ⟨62, _⟩ => ⟨S262144x3, .f32⟩
  | .hbm, ⟨63, _⟩ => ⟨S262144x3, .f32⟩
  | .hbm, ⟨64, _⟩ => ⟨S262144x3, .f32⟩
  | .hbm, ⟨65, _⟩ => ⟨S262144x3, .f32⟩
  | .hbm, ⟨66, _⟩ => ⟨S_, .f32⟩
  | .hbm, ⟨67, _⟩ => ⟨S262144x3, .f32⟩
  | .hbm, ⟨68, _⟩ => ⟨S262144x3, .f32⟩
  | .hbm, ⟨69, _⟩ => ⟨S262144x3, .f32⟩
  | .hbm, ⟨70, _⟩ => ⟨S262144x3, .f32⟩
  | .hbm, ⟨71, _⟩ => ⟨S_, .f32⟩
  | .hbm, ⟨72, _⟩ => ⟨S262144x3, .f32⟩
  | .hbm, ⟨73, _⟩ => ⟨S262144x3, .f32⟩
  | .hbm, ⟨74, _⟩ => ⟨S262144x3, .f32⟩
  | .hbm, ⟨75, _⟩ => ⟨S262144x3, .f32⟩
  | .hbm, ⟨76, _⟩ => ⟨S_, .f32⟩
  | .hbm, ⟨77, _⟩ => ⟨S262144x3, .f32⟩
  | .hbm, ⟨78, _⟩ => ⟨S262144x3, .f32⟩
  | .hbm, ⟨79, _⟩ => ⟨S_, .f32⟩
  | .hbm, ⟨80, _⟩ => ⟨S262144x3, .f32⟩
  | .hbm, ⟨81, _⟩ => ⟨S262144x3, .i1⟩
  | .hbm, ⟨82, _⟩ => ⟨S262144x3, .f32⟩
  | .hbm, ⟨83, _⟩ => ⟨S_, .f32⟩
  | .hbm, ⟨84, _⟩ => ⟨S262144x3, .f32⟩
  | .hbm, ⟨85, _⟩ => ⟨S262144x3, .f32⟩
  | .hbm, ⟨86, _⟩ => ⟨S262144x3, .f32⟩
  | .hbm, ⟨87, _⟩ => ⟨S262144x3, .f32⟩
  | .hbm, ⟨88, _⟩ => ⟨S_, .f32⟩
  | .hbm, ⟨89, _⟩ => ⟨S262144x3, .f32⟩
  | .hbm, ⟨90, _⟩ => ⟨S262144x3, .i1⟩
  | .hbm, ⟨91, _⟩ => ⟨S262144x3, .f32⟩
  | .hbm, ⟨92, _⟩ => ⟨S262144x3, .f32⟩
  | .hbm, ⟨93, _⟩ => ⟨S_, .f32⟩
  | .hbm, ⟨94, _⟩ => ⟨S262144x3, .f32⟩
  | .hbm, ⟨95, _⟩ => ⟨S262144x3, .f32⟩
  | .hbm, ⟨96, _⟩ => ⟨S262144x1, .i1⟩
  | .hbm, ⟨97, _⟩ => ⟨S_, .f32⟩
  | .hbm, ⟨98, _⟩ => ⟨S_, .f32⟩
  | .hbm, ⟨99, _⟩ => ⟨S262144x3, .i1⟩
  | .hbm, ⟨100, _⟩ => ⟨S262144x3, .f32⟩
  | .hbm, ⟨101, _⟩ => ⟨S262144x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_14 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_18 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_19 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_21 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Proof.Core.lean ====
module

public import Idealize.ShloMosaic.PureOps.Ideal
public import Mathlib.Data.EReal.Operations
public import Mathlib.Algebra.BigOperators.Fin
public import Mathlib.Algebra.Order.BigOperators.Group.Finset
public import Mathlib.Tactic.Linarith
public import Mathlib.Tactic.Ring
public import Mathlib.Tactic.Positivity
public import Mathlib.Tactic.NormNum

/-!
One layer of the flow over the real numbers, and the two ways of computing it.

`Layer.apply` is the layer as mathematics: the first three coordinates pass, the other three go
through the monotone piecewise linear map whose slopes are the exponentials of what a network of
three dense layers makes of the first three. The kernel computes that map as a quotient of two sums
over the bins (`ramp`); the plain flow looks the bin up and reads a running sum (`spline_lookup`).
-/

@[expose] public section

namespace Flow
open Idealize.ShloMosaic
open scoped BigOperators

noncomputable section

/-- A finite sum of reals, seen in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, seen in the extended reals. -/
theorem div_coe_coe (x : ℝ) {y : ℝ} (h : y ≠ 0) : Ideal.div (x : EReal) (y : EReal) = ((x / y : ℝ) : EReal) := by
  rw [Ideal.div_coe h, ← EReal.coe_mul]; congr 1; ring

/-- The maximum of two reals, seen in the extended reals. -/
theorem coe_max (x y : ℝ) : ((max x y : ℝ) : EReal) = max (x : EReal) y :=
  (EReal.coe_strictMono.monotone.map_max)

/-- The minimum of two reals, seen in the extended reals. -/
theorem coe_min (x y : ℝ) : ((min x y : ℝ) : EReal) = min (x : EReal) y :=
  (EReal.coe_strictMono.monotone.map_min)

/-- The coordinate `j` of the three that pass. -/
def lo (j : Fin 3) : Fin 6 := ⟨j.val, by omega⟩
/-- The coordinate that the spline `g` moves. -/
def hi (g : Fin 3) : Fin 6 := ⟨3 + g.val, by omega⟩
/-- The row of the last dense layer that holds bin `k` of spline `g`. -/
def bin (g : Fin 3) (k : Fin 40) : Fin 120 := ⟨40 * g.val + k.val, by omega⟩

/-- The weights of one layer. -/
structure Layer where
  /-- first dense layer -/
  w1 : Fin 3 → Fin 128 → ℝ
  /-- its bias -/
  b1 : Fin 128 → ℝ
  /-- second dense layer -/
  w2 : Fin 128 → Fin 128 → ℝ
  /-- its bias -/
  b2 : Fin 128 → ℝ
  /-- third dense layer -/
  w3 : Fin 128 → Fin 120 → ℝ
  /-- its bias -/
  b3 : Fin 120 → ℝ

namespace Layer
variable (L : Layer)

/-- The first hidden row. -/
def hid1 (x : Fin 6 → ℝ) (h : Fin 128) : ℝ := max ((∑ j : Fin 3, x (lo j) * L.w1 j h) + L.b1 h) 0
/-- The second hidden row. -/
def hid2 (x : Fin 6 → ℝ) (g : Fin 128) : ℝ := max ((∑ h, L.hid1 x h * L.w2 h g) + L.b2 g) 0
/-- The logits of the bins. -/
def theta (x : Fin 6 → ℝ) (q : Fin 120) : ℝ := (∑ g, L.hid2 x g * L.w3 g q) + L.b3 q

end Layer

/-- How much of bin `k` lies below `x`: the bins cut `[-1, 1]` in forty. -/
def ramp (x : ℝ) (k : Fin 40) : ℝ := min 1 (max 0 (20 * (x + 1) - k.val))

namespace Layer
variable (L : Layer)

/-- The weight of the bins of spline `g` below the coordinate. -/
def num (x : Fin 6 → ℝ) (g : Fin 3) : ℝ := ∑ k : Fin 40, Real.exp (L.theta x (bin g k)) * ramp (x (hi g)) k
/-- The weight of all bins of spline `g`. -/
def den (x : Fin 6 → ℝ) (g : Fin 3) : ℝ := ∑ k : Fin 40, Real.exp (L.theta x (bin g k))
/-- The coordinate that the spline `g` gives, in `[-1, 1]`. -/
def spl (x : Fin 6 → ℝ) (g : Fin 3) : ℝ := 2 * L.num x g / L.den x g - 1
/-- The layer. -/
def apply (x : Fin 6 → ℝ) (j : Fin 6) : ℝ :=
  if h : j.val < 3 then x j else L.spl x ⟨j.val - 3, by omega⟩

/-- The bins of a spline weigh something. -/
theorem den_pos (x : Fin 6 → ℝ) (g : Fin 3) : 0 < L.den x g :=
  Finset.sum_pos (fun _ _ => Real.exp_pos _) ⟨0, Finset.mem_univ _⟩

end Layer

/-- No bin lies below a coordinate by less than nothing. -/
theorem ramp_nonneg (x : ℝ) (k : Fin 40) : 0 ≤ ramp x k := by
  unfold ramp; exact le_min zero_le_one (le_max_left _ _)
/-- No bin lies below a coordinate by more than itself. -/
theorem ramp_le_one (x : ℝ) (k : Fin 40) : ramp x k ≤ 1 := min_le_left _ _

namespace Layer
variable (L : Layer)

/-- A spline's value lies in `[-1, 1]`. -/
theorem abs_spl_le (x : Fin 6 → ℝ) (g : Fin 3) : |L.spl x g| ≤ 1 := by
  have hd := L.den_pos x g
  have h0 : 0 ≤ L.num x g := Finset.sum_nonneg fun k _ => mul_nonneg (Real.exp_pos _).le (ramp_nonneg _ _)
  have h1 : L.num x g ≤ L.den x g := Finset.sum_le_sum fun k _ =>
    mul_le_of_le_one_right (Real.exp_pos _).le (ramp_le_one _ _)
  have h2 : L.num x g / L.den x g ≤ 1 := (div_le_one hd).2 h1
  have h3 : 0 ≤ L.num x g / L.den x g := div_nonneg h0 hd.le
  unfold spl
  rw [mul_div_assoc, abs_le]
  constructor <;> linarith

/-- A layer maps the cube `[-1, 1]^6` to itself. -/
theorem abs_apply_le {x : Fin 6 → ℝ} (hx : ∀ j, |x j| ≤ 1) (j : Fin 6) : |L.apply x j| ≤ 1 := by
  unfold apply
  split
  · exact hx j
  · exact L.abs_spl_le x _

/-- A bound of the first hidden row on the cube. -/
def bnd1 (h : Fin 128) : ℝ := (∑ j : Fin 3, |L.w1 j h|) + |L.b1 h|
/-- A bound of the second hidden row on the cube. -/
def bnd2 (g : Fin 128) : ℝ := (∑ h, L.bnd1 h * |L.w2 h g|) + |L.b2 g|
/-- A bound of the logits on the cube. -/
def bnd3 (q : Fin 120) : ℝ := (∑ g, L.bnd2 g * |L.w3 g q|) + |L.b3 q|

/-- A bound of a number bounds its positive part. -/
theorem abs_relu_le {t s : ℝ} (h : |t| ≤ s) : |max t 0| ≤ s := by
  rw [abs_of_nonneg (le_max_right _ _)]
  exact max_le ((le_abs_self _).trans h) ((abs_nonneg _).trans h)

/-- A dense layer, bounded by the bounds of its inputs and the magnitudes of its weights. -/
theorem abs_dot_le {ι : Type} [Fintype ι] (u w B : ι → ℝ) (b : ℝ) (hu : ∀ i, |u i| ≤ B i) :
    |(∑ i, u i * w i) + b| ≤ (∑ i, B i * |w i|) + |b| := by
  refine (abs_add_le _ _).trans (add_le_add ((Finset.abs_sum_le_sum_abs _ _).trans ?_) le_rfl)
  refine Finset.sum_le_sum fun i _ => ?_
  rw [abs_mul]
  exact mul_le_mul_of_nonneg_right (hu i) (abs_nonneg _)

/-- The first hidden row on the cube, bounded by the weights. -/
theorem abs_hid1_le {x : Fin 6 → ℝ} (hx : ∀ j, |x j| ≤ 1) (h : Fin 128) : |L.hid1 x h| ≤ L.bnd1 h := by
  refine abs_relu_le ((abs_dot_le (fun j : Fin 3 => x (lo j)) (fun j => L.w1 j h) (fun _ => 1) _ fun j => hx _).trans ?_)
  simp [bnd1]

/-- The second hidden row on the cube, bounded by the weights. -/
theorem abs_hid2_le {x : Fin 6 → ℝ} (hx : ∀ j, |x j| ≤ 1) (g : Fin 128) : |L.hid2 x g| ≤ L.bnd2 g :=
  abs_relu_le (abs_dot_le _ _ _ _ fun h => L.abs_hid1_le hx h)

/-- The logits on the cube, bounded by the weights. -/
theorem abs_theta_le {x : Fin 6 → ℝ} (hx : ∀ j, |x j| ≤ 1) (q : Fin 120) : |L.theta x q| ≤ L.bnd3 q :=
  abs_dot_le _ _ _ _ fun g => L.abs_hid2_le hx g

/-- Where the weights bound the logits by sixty. -/
def Tame : Prop := ∀ q, L.bnd3 q ≤ 60

end Layer

/-! ### The kernel's way -/

/-- `1` where `c` reads coordinate `k` at place `j`, else `0`. -/
def sel (c : Fin 6 → Fin 6) (k j : Fin 6) : ℝ := if c j = k then 1 else 0

/-- A row times the matrix of `c` is the row read through `c`. -/
theorem sum_sel (c : Fin 6 → Fin 6) (z : Fin 6 → ℝ) (j : Fin 6) : ∑ k, sel c k j * z k = z (c j) := by
  simp [sel]

/-- The two dense products in a row, by the associativity of the product. -/
theorem sum_sel_mul (c : Fin 6 → Fin 6) (z : Fin 6 → ℝ) (w : Fin 3 → ℝ) :
    ∑ k : Fin 6, (∑ j : Fin 3, sel c k (lo j) * w j) * z k = ∑ j : Fin 3, z (c (lo j)) * w j := by
  simp only [Finset.sum_mul]
  rw [Finset.sum_comm]
  refine Finset.sum_congr rfl fun j _ => ?_
  rw [← sum_sel c z (lo j), Finset.sum_mul]
  exact Finset.sum_congr rfl fun k _ => by ring

/-- The sum over the rows of the last dense layer, by spline and bin. -/
theorem sum_bins (f : Fin 120 → ℝ) : ∑ q, f q = ∑ g : Fin 3, ∑ k : Fin 40, f (bin g k) := by
  rw [← Fintype.sum_prod_type']
  refine (Fintype.sum_equiv (finProdFinEquiv (m := 3) (n := 40)) _ _ fun p => ?_).symm
  congr 1
  apply Fin.ext
  simp [bin, finProdFinEquiv]; omega

/-- A sum over the bins of one spline, as the kernel's matrices of zeros pick it. -/
theorem sum_bins_pick (f : Fin 120 → ℝ) (g : Fin 3) (a : ℝ) :
    ∑ q : Fin 120, (if q.val / 40 = g.val then a else 0) * f q = a * ∑ k : Fin 40, f (bin g k) := by
  rw [sum_bins, Finset.sum_eq_single g]
  · rw [Finset.mul_sum]
    refine Finset.sum_congr rfl fun k _ => ?_
    rw [if_pos]; simp only [bin]; omega
  · intro g' _ hg
    refine Finset.sum_eq_zero fun k _ => ?_
    rw [if_neg, zero_mul]
    simp only [bin]
    intro h; apply hg; apply Fin.ext; omega
  · intro h; exact absurd (Finset.mem_univ _) h

/-! ### The plain way: the bin looked up, the running sum read there -/

/-- The linear spline by the bin's running sum: at `pos` in `[0, 40]`, in bin `i = min 39 ⌊pos⌋`, the running
    sum at the bin's left edge and the fraction of the bin are the sum of all bins' weights times how much of
    each bin lies below. -/
theorem spline_lookup (p : Fin 40 → ℝ) (pos : ℝ) (i : Fin 40) (h0 : (i.val : ℝ) ≤ pos) (h1 : pos ≤ i.val + 1) :
    ((∑ k : Fin 40, if k.val ≤ i.val then p k else 0) - p i) + (pos - i.val) * p i
      = ∑ k : Fin 40, p k * min 1 (max 0 (pos - k.val)) := by
  have key : ∀ k : Fin 40, p k * min 1 (max 0 (pos - k.val))
      = (if k.val ≤ i.val then p k else 0) + (if k = i then (pos - i.val - 1) * p i else 0) := by
    intro k
    rcases lt_trichotomy k.val i.val with h | h | h
    · have hk : ((k.val : ℝ) + 1) ≤ i.val := by exact_mod_cast h
      rw [max_eq_right (by linarith), min_eq_left (by linarith), if_pos h.le,
        if_neg (by intro e; rw [e] at h; exact lt_irrefl _ h)]
      ring
    · have e : k = i := Fin.ext h
      subst e
      rw [max_eq_right (by linarith), min_eq_right (by linarith), if_pos le_rfl, if_pos rfl]
      ring
    · have hk : ((i.val : ℝ) + 1) ≤ k.val := by exact_mod_cast h
      rw [max_eq_left (by linarith), min_eq_right zero_le_one, if_neg (by omega),
        if_neg (by intro e; rw [e] at h; exact lt_irrefl _ h)]
      ring
  simp only [key, Finset.sum_add_distrib, Finset.sum_ite_eq', Finset.mem_univ, if_true]
  ring

end

end Flow
-- ==== Proof.KLayer.lean ====
module

public import proofs.«01_k».proof.Proof.Core
public import proofs.«01_k».proof.Proof.Gen.KernelIdeal.Skeleton
public import Idealize.ShloMosaic.Lib.Pointwise

/-!
One layer of the kernel's body, read at an index.

`kLayer` is the layer as the body prints it, over the slabs of the operands that the layer loads.
`kLayer_apply`: where the slabs hold what the host program makes of the layer's weights and of the
places `c` that the layer reads (`Slabs`), a column that holds a point of the cube comes out as the
layer `Layer.apply` of the point read through `c`.
-/

@[expose] public section

namespace Flow
open Idealize.ShloMosaic Cert.KernelIdeal Cert.KernelIdeal.Gen
open scoped BigOperators
noncomputable section
variable [Cert.KernelIdeal.Facts]

set_option maxRecDepth 16384

/-- The word of sixty. -/
theorem bits_60 : Ideal.ofBits .f32 1114636288#32 = ((60 : ℝ) : EReal) := by
  simp [Ideal.ofBits, Ideal.ieee, -EReal.coe_mul]; norm_num
/-- The word of minus sixty. -/
theorem bits_neg60 : Ideal.ofBits .f32 3262119936#32 = ((-60 : ℝ) : EReal) := by
  simp [Ideal.ofBits, Ideal.ieee, -EReal.coe_mul, -EReal.coe_neg]; norm_num

/-- The kernel's product of a layer's 128 mixed rows with the six coordinates. -/
def kA (Ae : Vec Ideal S1x128x6 .f32) (Z : FVec Ideal S6x4096 .f32) : FVec Ideal S128x4096 .f32 :=
  matmul dot_S128x6_S6x4096_S128x4096_1_0_0_1_n_n none
    (shapeCast S128x6 Ae shapeCasts_S1x128x6_S128x6 : FVec Ideal S128x6 .f32) Z
    (constant S128x4096 .f32 0x00000000#32)

/-- The kernel's first dense product of a layer. -/
def kH (A1 : Vec Ideal S1x128x6 .bf16) (Z : FVec Ideal S6x4096 .f32) : FVec Ideal S128x4096 .bf16 :=
  truncf .bf16 (matmul dot_S128x6_S6x4096_S128x4096_1_0_0_1_n_n none
    (shapeCast S128x6 A1 shapeCasts_S1x128x6_S128x6 : FVec Ideal S128x6 .bf16)
    (truncf .bf16 Z bitsLt_bf16_f32) (constant S128x4096 .f32 0x00000000#32) : FVec Ideal S128x4096 .f32) bitsLt_bf16_f32

/-- One layer of the kernel's body: from the six coordinates of a block's points, one point a column, to the next six. -/
def kLayer (A1 : Vec Ideal S1x128x6 .bf16) (Ae : Vec Ideal S1x128x6 .f32) (b1 : Vec Ideal S1x128x1 .bf16)
    (W2 : Vec Ideal S1x128x128 .bf16) (b2 : Vec Ideal S1x128x1 .bf16) (W3 : Vec Ideal S1x128x128 .bf16)
    (b3 : Vec Ideal S1x128x1 .bf16) (ck : Vec Ideal S120x1 .f32) (Ra : Vec Ideal S6x120 .bf16)
    (Rb : Vec Ideal S6x128 .bf16) (Z : FVec Ideal S6x4096 .f32) : FVec Ideal S6x4096 .f32 :=
  k0_pay17 (kA Ae Z) (k0_pay15 (kH A1 Z) b1 W2 b2 W3 b3) (k0_pay16 (kA Ae Z) ck) Ra Rb

/-- The mixed rows at an index. -/
theorem kA_at (Ae : Vec Ideal S1x128x6 .f32) (Z : FVec Ideal S6x4096 .f32) (r : Fin 128) (t : Fin 4096) :
    kA Ae Z (ix2 r t) = ∑ k : Fin 6, Ae (ix3 0 r k) * Z (ix2 k t) := by
  pointwise [kA]

/-- The first dense product at an index. -/
theorem kH_at (A1 : Vec Ideal S1x128x6 .bf16) (Z : FVec Ideal S6x4096 .f32) (r : Fin 128) (t : Fin 4096) :
    kH A1 Z (ix2 r t) = ∑ k : Fin 6, A1 (ix3 0 r k) * Z (ix2 k t) := by
  pointwise [kH]

/-- The exponentials of the clipped logits at an index. -/
theorem kE_at (H : FVec Ideal S128x4096 .bf16) (b1 b2 b3 : Vec Ideal S1x128x1 .bf16)
    (W2 W3 : Vec Ideal S1x128x128 .bf16) (q : Fin 128) (t : Fin 4096) :
    k0_pay15 H b1 W2 b2 W3 b3 (ix2 q t)
      = Ideal.exp (min ((60 : ℝ) : EReal) (max ((-60 : ℝ) : EReal)
          ((∑ g, W3 (ix3 0 q g) * max ((∑ h, W2 (ix3 0 g h) * max (H (ix2 h t) + b1 (ix3 0 h 0)) 0) + b2 (ix3 0 g 0)) 0)
            + b3 (ix3 0 q 0)))) := by
  pointwise [k0_pay15]
  rw [bits_60, bits_neg60]

/-- The clipped ramps at an index. -/
theorem kW_at (A : FVec Ideal S128x4096 .f32) (ck : Vec Ideal S120x1 .f32) (q : Fin 120) (t : Fin 4096) :
    k0_pay16 A ck (ix2 q t) = min 1 (max 0 (A (ix2 ⟨q.val, by omega⟩ t) + ck (ix2 q 0))) := by
  pointwise [k0_pay16]

/-- The two sums of a spline's bins, as the kernel's last two products give them. -/
def kF (E : FVec Ideal S128x4096 .bf16) (W : FVec Ideal S120x4096 .f32) (Ra : Vec Ideal S6x120 .bf16)
    (Rb : Vec Ideal S6x128 .bf16) (r : Fin 6) (t : Fin 4096) : EReal :=
  (∑ q : Fin 120, Ra (ix2 r q) * (E (ix2 ⟨q.val, by omega⟩ t) * W (ix2 q t))) + ∑ q : Fin 128, Rb (ix2 r q) * E (ix2 q t)

/-- The next coordinates at an index: three pass, three are quotients of two sums over the bins. -/
theorem kZ_at (A : FVec Ideal S128x4096 .f32) (E : FVec Ideal S128x4096 .bf16) (W : FVec Ideal S120x4096 .f32)
    (Ra : Vec Ideal S6x120 .bf16) (Rb : Vec Ideal S6x128 .bf16) (j : Fin 6) (t : Fin 4096) :
    k0_pay17 A E W Ra Rb (ix2 j t)
      = if h : j.val < 3 then A (ix2 ⟨120 + j.val, by omega⟩ t)
        else Ideal.div (kF E W Ra Rb ⟨j.val - 3, by omega⟩ t) (kF E W Ra Rb ⟨3 + (j.val - 3), by omega⟩ t) := by
  pointwise [k0_pay17]
  rfl

/-- The kernel's mixed matrix of a layer: twenty times the coordinates that the splines move, forty rows each, then
    the three that pass, then zeros. -/
def aeff (c : Fin 6 → Fin 6) (r : Fin 128) (k : Fin 6) : ℝ :=
  if h : r.val < 120 then 20 * sel c k ⟨3 + r.val / 40, by omega⟩
  else if h : r.val < 123 then sel c k ⟨r.val - 120, by omega⟩ else 0

/-- What the slabs of one layer hold: `c` the places the layer reads its coordinates from, `L` its weights. -/
structure Slabs (c : Fin 6 → Fin 6) (L : Layer) (A1 : Vec Ideal S1x128x6 .bf16) (Ae : Vec Ideal S1x128x6 .f32)
    (b1 : Vec Ideal S1x128x1 .bf16) (W2 : Vec Ideal S1x128x128 .bf16) (b2 : Vec Ideal S1x128x1 .bf16)
    (W3 : Vec Ideal S1x128x128 .bf16) (b3 : Vec Ideal S1x128x1 .bf16) : Prop where
  hA1 : ∀ h k, A1 (ix3 0 h k) = ((∑ j : Fin 3, sel c k (lo j) * L.w1 j h : ℝ) : EReal)
  hAe : ∀ r k, Ae (ix3 0 r k) = ((aeff c r k : ℝ) : EReal)
  hb1 : ∀ h, b1 (ix3 0 h 0) = (L.b1 h : EReal)
  hW2 : ∀ g h, W2 (ix3 0 g h) = (L.w2 h g : EReal)
  hb2 : ∀ g, b2 (ix3 0 g 0) = (L.b2 g : EReal)
  hW3 : ∀ (q : Fin 128) g, W3 (ix3 0 q g) = ((if h : q.val < 120 then L.w3 g ⟨q.val, h⟩ else 0 : ℝ) : EReal)
  hb3 : ∀ q : Fin 128, b3 (ix3 0 q 0) = ((if h : q.val < 120 then L.b3 ⟨q.val, h⟩ else 0 : ℝ) : EReal)

/-- What the three tables of numbers hold that all layers share. -/
structure Tables (ck : Vec Ideal S120x1 .f32) (Ra : Vec Ideal S6x120 .bf16) (Rb : Vec Ideal S6x128 .bf16) : Prop where
  hck : ∀ q : Fin 120, ck (ix2 q 0) = ((20 - ((q.val % 40 : ℕ) : ℝ) : ℝ) : EReal)
  hRa : ∀ (r : Fin 6) (q : Fin 120), Ra (ix2 r q) = ((if q.val / 40 = r.val then 2 else 0 : ℝ) : EReal)
  hRb : ∀ (r : Fin 6) (q : Fin 128), Rb (ix2 r q)
    = ((if q.val < 120 then (if q.val / 40 = r.val then -1 else if 3 + q.val / 40 = r.val then 1 else 0) else 0 : ℝ) : EReal)

section
variable {c : Fin 6 → Fin 6} {L : Layer} {A1 : Vec Ideal S1x128x6 .bf16} {Ae : Vec Ideal S1x128x6 .f32}
  {b1 : Vec Ideal S1x128x1 .bf16} {W2 : Vec Ideal S1x128x128 .bf16} {b2 : Vec Ideal S1x128x1 .bf16}
  {W3 : Vec Ideal S1x128x128 .bf16} {b3 : Vec Ideal S1x128x1 .bf16}
  {ck : Vec Ideal S120x1 .f32} {Ra : Vec Ideal S6x120 .bf16} {Rb : Vec Ideal S6x128 .bf16}
  (S : Slabs c L A1 Ae b1 W2 b2 W3 b3) (T : Tables ck Ra Rb)
  {Z : FVec Ideal S6x4096 .f32} {t : Fin 4096} {z : Fin 6 → ℝ} (hZ : ∀ k, Z (ix2 k t) = (z k : EReal))

include S hZ

/-- The mixed rows, on real numbers. -/
theorem kA_real (r : Fin 128) : kA Ae Z (ix2 r t) = ((∑ k, aeff c r k * z k : ℝ) : EReal) := by
  rw [kA_at, coe_sum]
  exact Finset.sum_congr rfl fun k _ => by rw [S.hAe, hZ, EReal.coe_mul]

/-- The first 120 mixed rows hold twenty times the coordinates that the splines move. -/
theorem kA_hi (q : Fin 120) :
    kA Ae Z (ix2 ⟨q.val, by omega⟩ t) = ((20 * z (c ⟨3 + q.val / 40, by omega⟩) : ℝ) : EReal) := by
  rw [kA_real S hZ, ← sum_sel c z, Finset.mul_sum]
  congr 1
  refine Finset.sum_congr rfl fun k _ => ?_
  unfold aeff
  rw [dif_pos q.isLt]
  ring

/-- The next three mixed rows hold the coordinates that pass. -/
theorem kA_lo (j : Fin 3) : kA Ae Z (ix2 ⟨120 + j.val, by omega⟩ t) = (z (c (lo j)) : EReal) := by
  rw [kA_real S hZ, ← sum_sel c z]
  congr 1
  refine Finset.sum_congr rfl fun k _ => ?_
  unfold aeff
  rw [dif_neg (by simp), dif_pos (by have := j.isLt; simp only; omega)]
  congr 2
  apply Fin.ext; simp [lo]

/-- The first dense product, on real numbers. -/
theorem kH_real (h : Fin 128) : kH A1 Z (ix2 h t) = ((∑ j : Fin 3, z (c (lo j)) * L.w1 j h : ℝ) : EReal) := by
  rw [kH_at, ← sum_sel_mul c z, coe_sum]
  exact Finset.sum_congr rfl fun k _ => by rw [S.hA1, hZ, EReal.coe_mul]

/-- The logit of row `q` of the last dense layer, the eight rows of padding at zero. -/
def thetaPad (L : Layer) (x : Fin 6 → ℝ) (q : Fin 128) : ℝ := if h : q.val < 120 then L.theta x ⟨q.val, h⟩ else 0

/-- The exponentials, on real numbers: with tame weights the clip changes no logit. -/
theorem kE_real (hz : ∀ k, |z k| ≤ 1) (hL : L.Tame) (q : Fin 128) :
    k0_pay15 (kH A1 Z) b1 W2 b2 W3 b3 (ix2 q t) = ((Real.exp (thetaPad L (z ∘ c) q) : ℝ) : EReal) := by
  have e1 : ∀ h : Fin 128, max (kH A1 Z (ix2 h t) + b1 (ix3 0 h 0)) 0 = ((L.hid1 (z ∘ c) h : ℝ) : EReal) := fun h => by
    rw [kH_real S hZ, S.hb1, ← EReal.coe_add, ← EReal.coe_zero, ← coe_max]; rfl
  have e2 : ∀ g : Fin 128, max ((∑ h, W2 (ix3 0 g h) * max (kH A1 Z (ix2 h t) + b1 (ix3 0 h 0)) 0) + b2 (ix3 0 g 0)) 0
      = ((L.hid2 (z ∘ c) g : ℝ) : EReal) := fun g => by
    simp only [e1, S.hW2, S.hb2, ← EReal.coe_mul]
    rw [← coe_sum, ← EReal.coe_add, ← EReal.coe_zero, ← coe_max]
    simp only [Layer.hid2, mul_comm]
  have e3 : (∑ g, W3 (ix3 0 q g) * max ((∑ h, W2 (ix3 0 g h) * max (kH A1 Z (ix2 h t) + b1 (ix3 0 h 0)) 0)
      + b2 (ix3 0 g 0)) 0) + b3 (ix3 0 q 0) = ((thetaPad L (z ∘ c) q : ℝ) : EReal) := by
    simp only [e2, S.hW3, S.hb3, ← EReal.coe_mul]
    rw [← coe_sum, ← EReal.coe_add]
    congr 1
    unfold thetaPad
    split
    · simp only [Layer.theta, mul_comm]
    · simp
  have b : |thetaPad L (z ∘ c) q| ≤ 60 := by
    unfold thetaPad
    split
    · exact (L.abs_theta_le (fun j => hz (c j)) _).trans (hL _)
    · norm_num
  rw [abs_le] at b
  rw [kE_at, e3, ← coe_max, ← coe_min, max_eq_right b.1, min_eq_right b.2, Ideal.exp_coe]

include T in
/-- The ramps, on real numbers. -/
theorem kW_real (g : Fin 3) (k : Fin 40) :
    k0_pay16 (kA Ae Z) ck (ix2 (bin g k) t) = ((ramp ((z ∘ c) (hi g)) k : ℝ) : EReal) := by
  rw [kW_at, kA_hi S hZ, T.hck, ← EReal.coe_add, ← EReal.coe_zero, ← EReal.coe_one, ← coe_max, ← coe_min]
  have e1 : (bin g k).val / 40 = g.val := by simp only [bin]; omega
  have e2 : (bin g k).val % 40 = k.val := by simp only [bin]; omega
  simp only [e1, e2]
  unfold ramp
  have e3 : (20 * z (c ⟨3 + g.val, by omega⟩) + (20 - (k.val : ℝ))) = 20 * ((z ∘ c) (hi g) + 1) - k.val := by
    simp only [Function.comp, hi]; ring
  rw [← e3]

/-- One layer of the body at one point: the layer of the flow, of the point read through `c`. -/
theorem kLayer_apply (T : Tables ck Ra Rb) (hz : ∀ k, |z k| ≤ 1) (hL : L.Tame) (j : Fin 6) :
    kLayer A1 Ae b1 W2 b2 W3 b3 ck Ra Rb Z (ix2 j t) = ((L.apply (z ∘ c) j : ℝ) : EReal) := by
  unfold kLayer
  rw [kZ_at]
  unfold Layer.apply
  by_cases hj : j.val < 3
  · rw [dif_pos hj, dif_pos hj, kA_lo S hZ ⟨j.val, hj⟩]; rfl
  rw [dif_neg hj, dif_neg hj]
  set g : Fin 3 := ⟨j.val - 3, by omega⟩ with hg
  have hE : ∀ (g : Fin 3) (k : Fin 40), thetaPad L (z ∘ c) ⟨(bin g k).val, by omega⟩ = L.theta (z ∘ c) (bin g k) := fun g k => by
    unfold thetaPad; rw [dif_pos (bin g k).isLt]
  have hden : ∀ (r : Fin 6) (a : ℝ), (∀ q : Fin 128, Rb (ix2 r q) = ((if q.val < 120 then (if q.val / 40 = g.val then a else 0) else 0 : ℝ) : EReal)) →
      ∑ q : Fin 128, Rb (ix2 r q) * k0_pay15 (kH A1 Z) b1 W2 b2 W3 b3 (ix2 q t) = ((a * L.den (z ∘ c) g : ℝ) : EReal) := by
    intro r a hR
    simp only [hR, kE_real S hZ hz hL, ← EReal.coe_mul]
    rw [← coe_sum]
    congr 1
    rw [Fin.sum_univ_add (a := 120) (b := 8)]
    have z2 : ∑ i : Fin 8, (if (Fin.natAdd 120 i : Fin 128).val < 120 then (if (Fin.natAdd 120 i : Fin 128).val / 40 = g.val then a else 0) else 0)
        * Real.exp (thetaPad L (z ∘ c) (Fin.natAdd 120 i)) = 0 :=
      Finset.sum_eq_zero fun i _ => by rw [if_neg (by simp), zero_mul]
    refine (congrArg₂ (· + ·) rfl z2).trans ?_
    rw [add_zero]
    unfold Layer.den
    rw [← sum_bins_pick (fun q => Real.exp (L.theta (z ∘ c) q)) g a]
    refine Finset.sum_congr rfl fun q _ => ?_
    have hq : (Fin.castAdd 8 q : Fin 128).val < 120 := q.isLt
    unfold thetaPad
    rw [if_pos hq, dif_pos hq]
    rfl
  have hnum : ∀ (r : Fin 6) (a : ℝ), (∀ q : Fin 120, Ra (ix2 r q) = ((if q.val / 40 = g.val then a else 0 : ℝ) : EReal)) →
      ∑ q : Fin 120, Ra (ix2 r q) * (k0_pay15 (kH A1 Z) b1 W2 b2 W3 b3 (ix2 ⟨q.val, by omega⟩ t) * k0_pay16 (kA Ae Z) ck (ix2 q t))
        = ((a * L.num (z ∘ c) g : ℝ) : EReal) := by
    intro r a hR
    have hf : ∀ q : Fin 120, k0_pay15 (kH A1 Z) b1 W2 b2 W3 b3 (ix2 ⟨q.val, by omega⟩ t) * k0_pay16 (kA Ae Z) ck (ix2 q t)
        = ((Real.exp (L.theta (z ∘ c) q) * ramp ((z ∘ c) (hi ⟨q.val / 40, by omega⟩)) ⟨q.val % 40, by omega⟩ : ℝ) : EReal) := by
      intro q
      have hq : q = bin ⟨q.val / 40, by omega⟩ ⟨q.val % 40, by omega⟩ := by apply Fin.ext; simp only [bin]; omega
      have := kW_real S T hZ ⟨q.val / 40, by omega⟩ ⟨q.val % 40, by omega⟩
      rw [← hq] at this
      rw [this, kE_real S hZ hz hL, ← EReal.coe_mul]
      congr 2
      unfold thetaPad; rw [dif_pos q.isLt]
    simp only [hR, hf, ← EReal.coe_mul]
    rw [← coe_sum, sum_bins_pick (fun q => Real.exp (L.theta (z ∘ c) q) * ramp ((z ∘ c) (hi ⟨q.val / 40, by omega⟩)) ⟨q.val % 40, by omega⟩) g a]
    unfold Layer.num
    congr 2
    refine Finset.sum_congr rfl fun k _ => ?_
    have e1 : (⟨(bin g k).val / 40, by omega⟩ : Fin 3) = g := by apply Fin.ext; simp only [bin]; omega
    have e2 : (⟨(bin g k).val % 40, by omega⟩ : Fin 40) = k := by apply Fin.ext; simp only [bin]; omega
    rw [e1, e2]
  have d := L.den_pos (z ∘ c) g
  have hg2 : g.val < 3 := g.isLt
  have f1 : kF (k0_pay15 (kH A1 Z) b1 W2 b2 W3 b3) (k0_pay16 (kA Ae Z) ck) Ra Rb ⟨j.val - 3, by omega⟩ t
      = ((2 * L.num (z ∘ c) g + -1 * L.den (z ∘ c) g : ℝ) : EReal) := by
    unfold kF
    have e : ∀ q : Fin 128, ¬ 3 + q.val / 40 = j.val - 3 := fun q => by omega
    rw [hnum _ 2 fun q => T.hRa _ q, hden _ (-1) fun q => (T.hRb _ q).trans ?_, ← EReal.coe_add]
    simp only [hg, if_neg (e q)]
  have f2 : kF (k0_pay15 (kH A1 Z) b1 W2 b2 W3 b3) (k0_pay16 (kA Ae Z) ck) Ra Rb ⟨3 + (j.val - 3), by omega⟩ t
      = ((1 * L.den (z ∘ c) g : ℝ) : EReal) := by
    unfold kF
    have e : ∀ q : Fin 120, ¬ q.val / 40 = 3 + (j.val - 3) := fun q => by omega
    rw [hnum _ 0 fun q => (T.hRa _ q).trans ?_, hden _ 1 fun q => (T.hRb _ q).trans ?_, ← EReal.coe_add]
    · congr 1; ring
    · congr 1
      by_cases h : q.val < 120
      · rw [if_pos h, if_pos h, if_neg (e ⟨q.val, h⟩)]
        refine if_congr ?_ rfl rfl
        simp only [hg]; omega
      · rw [if_neg h, if_neg h]
    · simp only [if_neg (e q), ite_self]
  rw [f1, f2, div_coe_coe _ (by linarith)]
  congr 1
  unfold Layer.spl
  field_simp
  ring
end

end
end Flow
-- ==== Proof.HostOps.lean ====
module

public import Idealize.ShloMosaic.Lib.Pointwise
public import Idealize.ShloMosaic.PureOps.Ideal

/-!
Operations of the host programs read at an index: the gathers of columns, of rows and of single
entries, the running sum along the last axis, and the place that an index word names.
-/

@[expose] public section

namespace Flow
open Idealize.ShloMosaic
open scoped BigOperators
noncomputable section

/-- The word after a negative one is counted from the end of an axis of `n`. -/
def wrap (n : BitVec 32) (v : BitVec 32) : BitVec 32 :=
  Scalar.select (IntOp.cmpi .slt v 0#32) (IntOp.addi v n) v
/-- The place in an axis of six that an index word names. -/
def pick (v : BitVec 32) : Fin 6 := ⟨min (wrap 6#32 v).toInt.toNat 5, by omega⟩

section gathers
variable {α : Type} {n : Nat}

/-- A gather of columns: column `j` of the result is the column that index word `j` names. -/
theorem gather_cols (d : GatherDims ⟨2, ![n, 6]⟩ ⟨2, ![6, 1]⟩ ⟨2, ![n, 6]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![n, 1]) (x : (⟨2, ![n, 6]⟩ : Shape).Idx → α) (idx : IVec ⟨2, ![6, 1]⟩ 32) (r : Fin n) (j : Fin 6) :
    Host.gather d x idx (ix2 r j) = x (ix2 r ⟨min (idx (ix2 j 0)).toInt.toNat 5, by omega⟩) := by
  obtain ⟨a1, a2, a3, a4, a5, a6, a7, wf⟩ := d
  dsimp only at h1 h2 h3 h4 h5 h6 h7
  subst h1 h2 h3 h4 h5 h6 h7
  unfold Host.gather
  congr 1
  funext a
  refine Fin.ext ?_
  show GatherDims.start _ (ix2 r j) idx a + GatherDims.batchCoord _ (ix2 r j) a + GatherDims.offCoord _ (ix2 r j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ [(1 : Fin 2)] by decide)]
    exact Nat.zero_add _
  · rw [GatherDims.offCoord_eq_zero _ _ _ (fun h => ((GatherDims.mem_sKept _ _).mp h).1 (List.mem_singleton.mpr rfl))]
    unfold GatherDims.start
    rw [dif_pos (show (1 : Fin 2) ∈ [(1 : Fin 2)] by decide)]
    rw [show ∀ z, GatherDims.siIdx _ (ix2 r j) z = ix2 j 0 from fun z => by
      funext b; refine Fin.ext ?_
      match b with
      | ⟨0, _⟩ => rfl
      | ⟨1, _⟩ => exact Nat.lt_one_iff.1 (Fin.isLt _)]
    rfl

/-- A gather of rows: row `i` of the result is the row that index word `i` names. -/
theorem gather_rows (d : GatherDims ⟨2, ![6, n]⟩ ⟨2, ![6, 1]⟩ ⟨2, ![6, n]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, n]) (x : (⟨2, ![6, n]⟩ : Shape).Idx → α) (idx : IVec ⟨2, ![6, 1]⟩ 32) (i : Fin 6) (c : Fin n) :
    Host.gather d x idx (ix2 i c) = x (ix2 ⟨min (idx (ix2 i 0)).toInt.toNat 5, by omega⟩ c) := by
  obtain ⟨a1, a2, a3, a4, a5, a6, a7, wf⟩ := d
  dsimp only at h1 h2 h3 h4 h5 h6 h7
  subst h1 h2 h3 h4 h5 h6 h7
  unfold Host.gather
  congr 1
  funext a
  refine Fin.ext ?_
  show GatherDims.start _ (ix2 i c) idx a + GatherDims.batchCoord _ (ix2 i c) a + GatherDims.offCoord _ (ix2 i c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ [(0 : Fin 2)] by decide)]
    rw [show ∀ z, GatherDims.siIdx _ (ix2 i c) z = ix2 i 0 from fun z => by
      funext b; refine Fin.ext ?_
      match b with
      | ⟨0, _⟩ => rfl
      | ⟨1, _⟩ => exact Nat.lt_one_iff.1 (Fin.isLt _)]
    rfl
  · unfold GatherDims.start
    rw [dif_neg (show (1 : Fin 2) ∉ [(0 : Fin 2)] by decide)]
    exact Nat.zero_add _

/-- A gather of single entries: entry `i` of the result is the entry that index word `i` names. -/
theorem gather_entries (d : GatherDims ⟨1, ![6]⟩ ⟨2, ![6, 1]⟩ ⟨1, ![6]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![6]⟩ : Shape).Idx → α) (idx : IVec ⟨2, ![6, 1]⟩ 32) (i : Fin 6) :
    Host.gather d x idx (ix1 i) = x (ix1 ⟨min (idx (ix2 i 0)).toInt.toNat 5, by omega⟩) := by
  obtain ⟨a1, a2, a3, a4, a5, a6, a7, wf⟩ := d
  dsimp only at h1 h2 h3 h4 h5 h6 h7
  subst h1 h2 h3 h4 h5 h6 h7
  unfold Host.gather
  congr 1
  funext a
  obtain rfl : a = 0 := Subsingleton.elim _ _
  refine Fin.ext ?_
  show GatherDims.start _ (ix1 i) idx 0 + GatherDims.batchCoord _ (ix1 i) 0 + GatherDims.offCoord _ (ix1 i) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ [(0 : Fin 1)] by decide)]
  rw [show ∀ z, GatherDims.siIdx _ (ix1 i) z = ix2 i 0 from fun z => by
    funext b; refine Fin.ext ?_
    match b with
    | ⟨0, _⟩ => rfl
    | ⟨1, _⟩ => exact Nat.lt_one_iff.1 (Fin.isLt _)]
  rfl

/-- A gather of one entry of the last axis for each row and group. -/
theorem gather_last (d : GatherDims ⟨3, ![n, 3, 40]⟩ ⟨4, ![n, 3, 1, 1]⟩ ⟨3, ![n, 3, 1]⟩)
    (h1 : d.offsetDims = []) (h2 : d.collapsedSliceDims = [2]) (h3 : d.operandBatchingDims = [0, 1])
    (h4 : d.startIndicesBatchingDims = [0, 1]) (h5 : d.startIndexMap = [2]) (h6 : d.indexVectorDim = 3)
    (h7 : d.sliceSizes = ![1, 1, 1]) (x : (⟨3, ![n, 3, 40]⟩ : Shape).Idx → α) (idx : IVec ⟨4, ![n, 3, 1, 1]⟩ 32) (r : Fin n) (g : Fin 3) :
    Host.gather d x idx (ix3 r g 0) = x (ix3 r g ⟨min (idx (ix4 r g 0 0)).toInt.toNat 39, by omega⟩) := by
  obtain ⟨a1, a2, a3, a4, a5, a6, a7, wf⟩ := d
  dsimp only at h1 h2 h3 h4 h5 h6 h7
  subst h1 h2 h3 h4 h5 h6 h7
  unfold Host.gather
  congr 1
  funext a
  refine Fin.ext ?_
  show GatherDims.start _ (ix3 r g 0) idx a + GatherDims.batchCoord _ (ix3 r g 0) a + GatherDims.offCoord _ (ix3 r g 0) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hm : (0 : Fin 3) ∈ [(0 : Fin 3), 1] := by decide
    rw [GatherDims.start_batching _ _ _ _ hm, GatherDims.offCoord_eq_zero _ _ _ (fun h => ((GatherDims.mem_sKept _ _).mp h).2 hm)]
    unfold GatherDims.batchCoord
    rw [dif_pos hm]
    exact Nat.zero_add _
  · have hm : (1 : Fin 3) ∈ [(0 : Fin 3), 1] := by decide
    rw [GatherDims.start_batching _ _ _ _ hm, GatherDims.offCoord_eq_zero _ _ _ (fun h => ((GatherDims.mem_sKept _ _).mp h).2 hm)]
    unfold GatherDims.batchCoord
    rw [dif_pos hm]
    exact Nat.zero_add _
  · rw [GatherDims.batchCoord_eq_zero _ _ _ (show (2 : Fin 3) ∉ [(0 : Fin 3), 1] by decide),
      GatherDims.offCoord_eq_zero _ _ _ (fun h => ((GatherDims.mem_sKept _ _).mp h).1 (List.mem_singleton.mpr rfl))]
    unfold GatherDims.start
    rw [dif_pos (show (2 : Fin 3) ∈ [(2 : Fin 3)] by decide)]
    rw [show ∀ z, GatherDims.siIdx _ (ix3 r g 0) z = ix4 r g 0 0 from fun z => by
      funext b; refine Fin.ext ?_
      match b with
      | ⟨0, _⟩ => rfl
      | ⟨1, _⟩ => rfl
      | ⟨2, _⟩ => rfl
      | ⟨3, _⟩ => exact Nat.lt_one_iff.1 (Fin.isLt _)]
    rfl

end gathers

/-- Member `i` of a stack of rows, taken at a counter word. -/
theorem member_row {α : Type} {n m a : Nat} {st : Fin 2 → Int} (i : Fin n) (x : (⟨2, ![n, a]⟩ : Shape).Idx → α)
    (h : (⟨2, ![n, a]⟩ : Shape).Slices (fun _ => 0) ⟨2, ![m, a]⟩) (hm : m = 1) (h0 : st 0 = i.val) (h1 : st 1 = 0) :
    Host.dynamicSlice ⟨2, ![m, a]⟩ x st h = fun j => x (ix2 i (j 1)) := by
  subst hm
  have hi := i.isLt
  funext y
  obtain ⟨u, j, rfl⟩ : ∃ u j, y = ix2 u j := ⟨y 0, y 1, by funext b; match b with | ⟨0, _⟩ => rfl | ⟨1, _⟩ => rfl⟩
  have hu := u.isLt
  unfold Host.dynamicSlice extractStridedSlice
  congr 1
  funext b
  refine Fin.ext ?_
  match b with
  | ⟨0, _⟩ =>
    show (min (max (st 0) 0) ((n - 1 : Nat) : Int)).toNat + u.val = i.val
    rw [h0]; omega
  | ⟨1, _⟩ =>
    show (min (max (st 1) 0) ((a - a : Nat) : Int)).toNat + j.val = j.val
    rw [h1]; omega

/-- Member `i` of a stack of matrices, taken at a counter word. -/
theorem member_mat {α : Type} {n m a b : Nat} {st : Fin 3 → Int} (i : Fin n) (x : (⟨3, ![n, a, b]⟩ : Shape).Idx → α)
    (h : (⟨3, ![n, a, b]⟩ : Shape).Slices (fun _ => 0) ⟨3, ![m, a, b]⟩) (hm : m = 1) (h0 : st 0 = i.val) (h1 : st 1 = 0) (h2 : st 2 = 0) :
    Host.dynamicSlice ⟨3, ![m, a, b]⟩ x st h = fun j => x (ix3 i (j 1) (j 2)) := by
  subst hm
  have hi := i.isLt
  funext y
  obtain ⟨u, j, k, rfl⟩ : ∃ u j k, y = ix3 u j k :=
    ⟨y 0, y 1, y 2, by funext b; match b with | ⟨0, _⟩ => rfl | ⟨1, _⟩ => rfl | ⟨2, _⟩ => rfl⟩
  have hu := u.isLt
  unfold Host.dynamicSlice extractStridedSlice
  congr 1
  funext c
  refine Fin.ext ?_
  match c with
  | ⟨0, _⟩ =>
    show (min (max (st 0) 0) ((n - 1 : Nat) : Int)).toNat + u.val = i.val
    rw [h0]; omega
  | ⟨1, _⟩ =>
    show (min (max (st 1) 0) ((a - a : Nat) : Int)).toNat + j.val = j.val
    rw [h1]; omega
  | ⟨2, _⟩ =>
    show (min (max (st 2) 0) ((b - b : Nat) : Int)).toNat + k.val = k.val
    rw [h2]; omega

/-- Adding up a list from the left is its sum. -/
theorem foldl_sum {ι : Type} (l : List ι) (f : ι → EReal) (v : EReal) : l.foldl (fun r a => r + f a) v = v + (l.map f).sum := by
  induction l generalizing v with
  | nil => simp
  | cons a l ih => rw [List.foldl_cons, ih, List.map_cons, List.sum_cons, add_assoc]

/-- The running sum along the last axis: a window of the whole axis, padded in front by one less. -/
theorem cumsum_last {n : Nat} (x : (⟨3, ![n, 3, 40]⟩ : Shape).Idx → EReal) (init : EReal) (hinit : init = 0)
    (h : (⟨3, ![n, 3, 40]⟩ : Shape).ReduceWindows (![1, 1, 40] : Fin 3 → Nat) ![1, 1, 1] ![0, 0, 39] ![0, 0, 0] ⟨3, ![n, 3, 40]⟩)
    (r : Fin n) (g : Fin 3) (i : Fin 40) :
    Ideal.hostReduceWindowAdd ![1, 1, 40] ![1, 1, 1] ![0, 0, 39] ![0, 0, 0] h x init (ix3 r g i)
      = ∑ k : Fin 40, if k ≤ i then x (ix3 r g k) else 0 := by
  subst hinit
  unfold Ideal.hostReduceWindowAdd Host.reduceWindow
  rw [foldl_sum, zero_add, ← Fin.sum_univ_def]
  have hi := i.isLt
  refine (Fintype.sum_equiv (Shape.rowMajor (⟨3, ![1, 1, 40]⟩ : Shape)).symm _
    (fun w => if hw : 39 ≤ i.val + (w 2).val then x (ix3 r g ⟨i.val + (w 2).val - 39, by have : (w 2).val < 40 := (w 2).isLt; omega⟩) else 0)
    (fun q => ?_)).trans ?_
  · dsimp only
    let w := (Shape.rowMajor (⟨3, ![1, 1, 40]⟩ : Shape)).symm q
    have w0 : (w 0).val = 0 := Nat.lt_one_iff.1 (w 0).isLt
    have w1 : (w 1).val = 0 := Nat.lt_one_iff.1 (w 1).isLt
    have w2 : (w 2).val < 40 := (w 2).isLt
    by_cases hw : 39 ≤ i.val + ((Shape.rowMajor (⟨3, ![1, 1, 40]⟩ : Shape)).symm q 2).val
    · have hw' : 39 ≤ i.val + (w 2).val := hw
      refine (dif_pos fun a => ?_).trans ?_
      · match a with
        | ⟨0, _⟩ => show 0 ≤ r.val * 1 + (w 0).val ∧ r.val * 1 + (w 0).val - 0 < n; omega
        | ⟨1, _⟩ => show 0 ≤ g.val * 1 + (w 1).val ∧ g.val * 1 + (w 1).val - 0 < 3; omega
        | ⟨2, _⟩ => show 39 ≤ i.val * 1 + (w 2).val ∧ i.val * 1 + (w 2).val - 39 < 40; omega
      split
      on_goal 2 => exact absurd hw ‹_›
      refine congrArg x (funext fun a => Fin.ext ?_)
      · match a with
        | ⟨0, _⟩ => show r.val * 1 + (w 0).val - 0 = r.val; omega
        | ⟨1, _⟩ => show g.val * 1 + (w 1).val - 0 = g.val; omega
        | ⟨2, _⟩ => show i.val * 1 + (w 2).val - 39 = i.val + (w 2).val - 39; omega
    · have hw' : ¬ 39 ≤ i.val + (w 2).val := hw
      refine (dif_neg fun hin => ?_).trans (Eq.symm (by split; exacts [absurd ‹_› hw, rfl]))
      have h2 := (hin 2).1
      change 39 ≤ i.val * 1 + (w 2).val at h2
      omega
  refine (Fintype.sum_equiv (⟨fun w => w 2, fun k => ix3 0 0 k, fun w => ?_, fun k => rfl⟩ : (⟨3, ![1, 1, 40]⟩ : Shape).Idx ≃ Fin 40) _
    (fun q : Fin 40 => if hw : 39 ≤ i.val + q.val then x (ix3 r g ⟨i.val + q.val - 39, by omega⟩) else 0) (fun w => rfl)).trans ?_
  · funext a
    refine Fin.ext ?_
    match a with
    | ⟨0, _⟩ => exact (Nat.lt_one_iff.1 (w 0).isLt).symm
    | ⟨1, _⟩ => exact (Nat.lt_one_iff.1 (w 1).isLt).symm
    | ⟨2, _⟩ => rfl
  rw [← Finset.sum_filter_ne_zero, ← Finset.sum_filter_ne_zero (s := Finset.univ) (f := fun k : Fin 40 => if k ≤ i then x (ix3 r g k) else 0)]
  refine Finset.sum_bij (fun q _ => (⟨i.val + q.val - 39, by omega⟩ : Fin 40)) ?_ ?_ ?_ ?_
  · intro q hq
    simp only [Finset.mem_filter, Finset.mem_univ, true_and, ne_eq] at hq ⊢
    by_cases hw : 39 ≤ i.val + q.val
    · rw [dif_pos hw] at hq
      rw [if_pos (Fin.le_def.2 (by show i.val + q.val - 39 ≤ i.val; omega))]
      exact hq
    · exact absurd (dif_neg hw) hq
  · intro a ha b hb he
    simp only [Finset.mem_filter, Finset.mem_univ, true_and, ne_eq] at ha hb
    have h1 : 39 ≤ i.val + a.val := by by_contra hw; exact ha (dif_neg hw)
    have h2 : 39 ≤ i.val + b.val := by by_contra hw; exact hb (dif_neg hw)
    have := congrArg Fin.val he
    dsimp only at this
    exact Fin.ext (by omega)
  · intro k hk
    simp only [Finset.mem_filter, Finset.mem_univ, true_and, ne_eq] at hk
    have h1 : k ≤ i := by by_contra hw; exact hk (if_neg hw)
    have h1' : k.val ≤ i.val := h1
    have e : (⟨i.val + (k.val + 39 - i.val) - 39, by omega⟩ : Fin 40) = k := Fin.ext (by dsimp only; omega)
    refine ⟨⟨k.val + 39 - i.val, by omega⟩, ?_, e⟩
    simp only [Finset.mem_filter, Finset.mem_univ, true_and, ne_eq]
    rw [dif_pos (by omega), e]
    rwa [if_pos h1] at hk
  · intro q hq
    simp only [Finset.mem_filter, Finset.mem_univ, true_and, ne_eq] at hq
    have h1 : 39 ≤ i.val + q.val := by by_contra hw; exact hq (dif_neg hw)
    rw [dif_pos h1, if_pos (Fin.le_def.2 (by show i.val + q.val - 39 ≤ i.val; omega))]

end
end Flow
-- ==== Proof.Flow.lean ====
module

public import proofs.«01_k».proof.Proof.HostOps
public import proofs.«01_k».proof.Proof.Core

/-!
The flow over the real numbers: eight layers, the places that the words of the tables name.
-/

@[expose] public section

namespace Flow
open Idealize.ShloMosaic
open scoped BigOperators
noncomputable section

/-- The weights of the eight layers are the entries of the arrays, all of them real numbers. -/
structure Weights (Ls : Fin 8 → Layer) (w1 : (⟨3, ![8, 3, 128]⟩ : Shape).Idx → EReal) (b1 : (⟨2, ![8, 128]⟩ : Shape).Idx → EReal)
    (w2 : (⟨3, ![8, 128, 128]⟩ : Shape).Idx → EReal) (b2 : (⟨2, ![8, 128]⟩ : Shape).Idx → EReal)
    (w3 : (⟨3, ![8, 128, 120]⟩ : Shape).Idx → EReal) (b3 : (⟨2, ![8, 120]⟩ : Shape).Idx → EReal) : Prop where
  w1 : ∀ i j h, w1 (ix3 i j h) = ((Ls i).w1 j h : EReal)
  b1 : ∀ i h, b1 (ix2 i h) = ((Ls i).b1 h : EReal)
  w2 : ∀ i j h, w2 (ix3 i j h) = ((Ls i).w2 j h : EReal)
  b2 : ∀ i h, b2 (ix2 i h) = ((Ls i).b2 h : EReal)
  w3 : ∀ i j h, w3 (ix3 i j h) = ((Ls i).w3 j h : EReal)
  b3 : ∀ i h, b3 (ix2 i h) = ((Ls i).b3 h : EReal)

/-- What one layer makes of a row: the row reordered twice, the layer, the way back. -/
def trip (L : Layer) (o q v : Fin 6 → BitVec 32) (y : Fin 6 → ℝ) (j : Fin 6) : ℝ :=
  L.apply (fun k => y (pick (q (pick (o k))))) (pick (v j))

/-- A row after `k` of the layers. -/
def rowAfter (Ls : Fin 8 → Layer) (o q v : Fin 8 → Fin 6 → BitVec 32) (y : Fin 6 → ℝ) : ℕ → Fin 6 → ℝ
  | 0 => y
  | k + 1 => if h : k < 8 then trip (Ls ⟨k, h⟩) (o ⟨k, h⟩) (q ⟨k, h⟩) (v ⟨k, h⟩) (rowAfter Ls o q v y k) else rowAfter Ls o q v y k

/-- One more layer. -/
theorem rowAfter_succ (Ls : Fin 8 → Layer) (o q v : Fin 8 → Fin 6 → BitVec 32) (y : Fin 6 → ℝ) (i : Fin 8) :
    rowAfter Ls o q v y (i.val + 1) = trip (Ls i) (o i) (q i) (v i) (rowAfter Ls o q v y i.val) := by
  rw [rowAfter, dif_pos i.isLt]

end
end Flow
-- ==== Proof.KMat.lean ====
module

public import proofs.«01_k».proof.Proof.KLayer
public import proofs.«01_k».proof.Proof.Flow
public import proofs.«01_k».proof.Proof.Gen.KernelIdeal.Frame
public import Idealize.ShloMosaic.Lib.StableHlo.ReadAt

/-!
The reordering matrices that the host part of the kernel's program builds from the tables of places.
-/

@[expose] public section

namespace Flow
open Idealize.ShloMosaic Idealize.ShloMosaic.TcCoe Cert.KernelIdeal Cert.KernelIdeal.Gen Idealize.ShloMosaic.StableHlo
open scoped BigOperators
noncomputable section

set_option maxRecDepth 16384

/-- Negative places counted from the end, the six places as a column. -/
def kCol (v : IVec S6 32) : IVec S6x1 32 :=
  broadcastInDim S6x1 ![0] bcast_S6_S6x1_0 (select (cmpi .slt v (broadcastInDim S6 ![] bcast_S_S6 (constantI S_ 32 0#32)))
    (addi v (broadcastInDim S6 ![] bcast_S_S6 (constantI S_ 32 6#32))) v)

/-- The words at the places `v`. -/
def kTake (x v : IVec S6 32) : IVec S6 32 := Host.gather gather_S6_S6x1_S6_n_0_n_n_0_1_1 x (kCol v)

/-- The rows of `E` at the places `v`, as columns. -/
def kMat (E : FVec Ideal S6x6 .f32) (v : IVec S6 32) : FVec Ideal S6x6 .f32 :=
  transpose S6x6 [1, 0] (Host.gather gather_S6x6_S6x1_S6x6_1_0_n_n_0_1_16 E (kCol v)) transposes_S6x6_S6x6_1_0

/-- The column of places at an index. -/
theorem kCol_at (v : IVec S6 32) (i : Fin 6) : kCol v (ix2 i 0) = wrap 6#32 (v (ix1 i)) := by
  pointwise [kCol, wrap]

/-- The words taken, at an index. -/
theorem kTake_at (x v : IVec S6 32) (i : Fin 6) : kTake x v (ix1 i) = x (ix1 (pick (v (ix1 i)))) := by
  unfold kTake
  rw [gather_entries _ rfl rfl rfl rfl rfl rfl rfl]
  simp only [kCol_at]
  rfl

/-- Rows of the identity at the places `v`, as columns: the matrix that selects by them. -/
theorem kMat_at (E : FVec Ideal S6x6 .f32) (hE : ∀ a b, E (ix2 a b) = ((if a = b then 1 else 0 : ℝ) : EReal)) (v : IVec S6 32) (k j : Fin 6) :
    kMat E v (ix2 k j) = ((sel (fun j => pick (v (ix1 j))) k j : ℝ) : EReal) := by
  unfold kMat
  obtain ⟨G, hG⟩ : ∃ G, Host.gather gather_S6x6_S6x1_S6x6_1_0_n_n_0_1_16 E (kCol v) = G := ⟨_, rfl⟩
  have h : G (ix2 j k) = E (ix2 (pick (v (ix1 j))) k) := by
    rw [← hG, gather_rows _ rfl rfl rfl rfl rfl rfl rfl]
    simp only [kCol_at]
    rfl
  rw [hG]
  refine Eq.trans (b := G (ix2 j k)) (by pointwise) ?_
  rw [h, hE]
  rfl

/-- The first stretch of the host lines, up to the last reordering matrix. -/
abbrev matOps : List (HloOp τ sig (Elt Ideal)) := List.take 262 hostOps0_2

variable (U : Valuation τ sig (Elt Ideal))

/-- The matrix of the reordering before layer 0. -/
theorem mat0 : after matOps U (Proc.devRef .tc main_v17)
    = kMat (U (Proc.devRef .tc main_v6)) (shapeCast S6 (extractStridedSlice S1x6 ![0, 0] (U (Proc.devRef .tc main_arg7) : IVec S8x6 32) slices_S8x6_S1x6_0_0) shapeCasts_S1x6_S6) := by
  after_reads_simp
  rfl

/-- The matrix of the reordering before layer 1. -/
theorem mat1 : after matOps U (Proc.devRef .tc main_v45)
    = kMat (U (Proc.devRef .tc main_v6)) (kTake (kTake (shapeCast S6 (extractStridedSlice S1x6 ![0, 0] (U (Proc.devRef .tc main_v7) : IVec S8x6 32) slices_S8x6_S1x6_0_0) shapeCasts_S1x6_S6)
      (shapeCast S6 (extractStridedSlice S1x6 ![0, 0] (U (Proc.devRef .tc main_arg8) : IVec S7x6 32) slices_S7x6_S1x6_0_0) shapeCasts_S1x6_S6))
      (shapeCast S6 (extractStridedSlice S1x6 ![1, 0] (U (Proc.devRef .tc main_arg7) : IVec S8x6 32) slices_S8x6_S1x6_1_0) shapeCasts_S1x6_S6)) := by
  after_reads_simp
  rfl

/-- The matrix of the reordering before layer 2. -/
theorem mat2 : after matOps U (Proc.devRef .tc main_v73)
    = kMat (U (Proc.devRef .tc main_v6)) (kTake (kTake (shapeCast S6 (extractStridedSlice S1x6 ![1, 0] (U (Proc.devRef .tc main_v7) : IVec S8x6 32) slices_S8x6_S1x6_1_0) shapeCasts_S1x6_S6)
      (shapeCast S6 (extractStridedSlice S1x6 ![1, 0] (U (Proc.devRef .tc main_arg8) : IVec S7x6 32) slices_S7x6_S1x6_1_0) shapeCasts_S1x6_S6))
      (shapeCast S6 (extractStridedSlice S1x6 ![2, 0] (U (Proc.devRef .tc main_arg7) : IVec S8x6 32) slices_S8x6_S1x6_2_0) shapeCasts_S1x6_S6)) := by
  after_reads_simp
  rfl

/-- The matrix of the reordering before layer 3. -/
theorem mat3 : after matOps U (Proc.devRef .tc main_v101)
    = kMat (U (Proc.devRef .tc main_v6)) (kTake (kTake (shapeCast S6 (extractStridedSlice S1x6 ![2, 0] (U (Proc.devRef .tc main_v7) : IVec S8x6 32) slices_S8x6_S1x6_2_0) shapeCasts_S1x6_S6)
      (shapeCast S6 (extractStridedSlice S1x6 ![2, 0] (U (Proc.devRef .tc main_arg8) : IVec S7x6 32) slices_S7x6_S1x6_2_0) shapeCasts_S1x6_S6))
      (shapeCast S6 (extractStridedSlice S1x6 ![3, 0] (U (Proc.devRef .tc main_arg7) : IVec S8x6 32) slices_S8x6_S1x6_3_0) shapeCasts_S1x6_S6)) := by
  after_reads_simp
  rfl

/-- The matrix of the reordering before layer 4. -/
theorem mat4 : after matOps U (Proc.devRef .tc main_v129)
    = kMat (U (Proc.devRef .tc main_v6)) (kTake (kTake (shapeCast S6 (extractStridedSlice S1x6 ![3, 0] (U (Proc.devRef .tc main_v7) : IVec S8x6 32) slices_S8x6_S1x6_3_0) shapeCasts_S1x6_S6)
      (shapeCast S6 (extractStridedSlice S1x6 ![3, 0] (U (Proc.devRef .tc main_arg8) : IVec S7x6 32) slices_S7x6_S1x6_3_0) shapeCasts_S1x6_S6))
      (shapeCast S6 (extractStridedSlice S1x6 ![4, 0] (U (Proc.devRef .tc main_arg7) : IVec S8x6 32) slices_S8x6_S1x6_4_0) shapeCasts_S1x6_S6)) := by
  after_reads_simp
  rfl

/-- The matrix of the reordering before layer 5. -/
theorem mat5 : after matOps U (Proc.devRef .tc main_v157)
    = kMat (U (Proc.devRef .tc main_v6)) (kTake (kTake (shapeCast S6 (extractStridedSlice S1x6 ![4, 0] (U (Proc.devRef .tc main_v7) : IVec S8x6 32) slices_S8x6_S1x6_4_0) shapeCasts_S1x6_S6)
      (shapeCast S6 (extractStridedSlice S1x6 ![4, 0] (U (Proc.devRef .tc main_arg8) : IVec S7x6 32) slices_S7x6_S1x6_4_0) shapeCasts_S1x6_S6))
      (shapeCast S6 (extractStridedSlice S1x6 ![5, 0] (U (Proc.devRef .tc main_arg7) : IVec S8x6 32) slices_S8x6_S1x6_5_0) shapeCasts_S1x6_S6)) := by
  after_reads_simp
  rfl

/-- The matrix of the reordering before layer 6. -/
theorem mat6 : after matOps U (Proc.devRef .tc main_v185)
    = kMat (U (Proc.devRef .tc main_v6)) (kTake (kTake (shapeCast S6 (extractStridedSlice S1x6 ![5, 0] (U (Proc.devRef .tc main_v7) : IVec S8x6 32) slices_S8x6_S1x6_5_0) shapeCasts_S1x6_S6)
      (shapeCast S6 (extractStridedSlice S1x6 ![5, 0] (U (Proc.devRef .tc main_arg8) : IVec S7x6 32) slices_S7x6_S1x6_5_0) shapeCasts_S1x6_S6))
      (shapeCast S6 (extractStridedSlice S1x6 ![6, 0] (U (Proc.devRef .tc main_arg7) : IVec S8x6 32) slices_S8x6_S1x6_6_0) shapeCasts_S1x6_S6)) := by
  after_reads_simp
  rfl

/-- The matrix of the reordering before layer 7. -/
theorem mat7 : after matOps U (Proc.devRef .tc main_v213)
    = kMat (U (Proc.devRef .tc main_v6)) (kTake (kTake (shapeCast S6 (extractStridedSlice S1x6 ![6, 0] (U (Proc.devRef .tc main_v7) : IVec S8x6 32) slices_S8x6_S1x6_6_0) shapeCasts_S1x6_S6)
      (shapeCast S6 (extractStridedSlice S1x6 ![6, 0] (U (Proc.devRef .tc main_arg8) : IVec S7x6 32) slices_S7x6_S1x6_6_0) shapeCasts_S1x6_S6))
      (shapeCast S6 (extractStridedSlice S1x6 ![7, 0] (U (Proc.devRef .tc main_arg7) : IVec S8x6 32) slices_S8x6_S1x6_7_0) shapeCasts_S1x6_S6)) := by
  after_reads_simp
  rfl

/-- The matrix of the last reordering. -/
theorem mat8 : after matOps U (Proc.devRef .tc main_v223)
    = kMat (U (Proc.devRef .tc main_v6)) (shapeCast S6 (extractStridedSlice S1x6 ![7, 0] (U (Proc.devRef .tc main_v7) : IVec S8x6 32) slices_S8x6_S1x6_7_0) shapeCasts_S1x6_S6) := by
  after_reads_simp
  rfl

/-- A row of a table of words, sliced out, at an index. -/
theorem row_at {n : ℕ} (X : IVec ⟨2, ![n, 6]⟩ 32) (r : Fin n) (off : Fin 2 → ℕ) (hoff : off = ![r.val, 0]) (h) (h') (j : Fin 6) :
    (shapeCast S6 (extractStridedSlice S1x6 off X h : IVec S1x6 32) h' : IVec S6 32) (ix1 j) = X (ix2 r j) := by
  subst hoff
  refine Eq.trans (b := (extractStridedSlice S1x6 ![r.val, 0] X h : IVec S1x6 32) (ix2 0 j)) (by pointwise) ?_
  refine congrArg X (funext fun a => ?_)
  match a with
  | ⟨0, _⟩ => rfl
  | ⟨1, _⟩ => exact Fin.ext (Nat.zero_add _)

/-- The places that layer `i` of the kernel reads its coordinates from, off the tables of places. -/
def places (o : Fin 8 → Fin 6 → BitVec 32) (p : Fin 7 → Fin 6 → BitVec 32) (v : Fin 8 → Fin 6 → BitVec 32) (i : Fin 9) (j : Fin 6) : Fin 6 :=
  if h0 : i.val = 0 then pick (o 0 j)
  else if h8 : i.val = 8 then pick (v 7 j)
  else pick (v ⟨i.val - 1, by omega⟩ (pick (p ⟨i.val - 1, by omega⟩ (pick (o ⟨i.val, by omega⟩ j)))))

variable (hE : ∀ a b, (U (Proc.devRef .tc main_v6) : FVec Ideal S6x6 .f32) (ix2 a b) = ((if a = b then 1 else 0 : ℝ) : EReal))
  {o : Fin 8 → Fin 6 → BitVec 32} {p : Fin 7 → Fin 6 → BitVec 32} {v : Fin 8 → Fin 6 → BitVec 32}
  (ho : ∀ i j, (U (Proc.devRef .tc main_arg7) : IVec S8x6 32) (ix2 i j) = o i j)
  (hp : ∀ i j, (U (Proc.devRef .tc main_arg8) : IVec S7x6 32) (ix2 i j) = p i j)
  (hv : ∀ i j, (U (Proc.devRef .tc main_v7) : IVec S8x6 32) (ix2 i j) = v i j)

include hE ho hp hv

/-- The matrix before layer 0 selects by `places`. -/
theorem mat0_at (k j : Fin 6) : (after matOps U (Proc.devRef .tc main_v17) : FVec Ideal S6x6 .f32) (ix2 k j)
    = ((sel (places o p v 0) k j : ℝ) : EReal) := by
  rw [mat0, kMat_at _ hE]
  congr 2
  funext j
  rw [row_at (n := 8) _ 0 ![0, 0] rfl slices_S8x6_S1x6_0_0 shapeCasts_S1x6_S6, ho]
  rfl

/-- The matrix before layer 1 selects by `places`. -/
theorem mat1_at (k j : Fin 6) : (after matOps U (Proc.devRef .tc main_v45) : FVec Ideal S6x6 .f32) (ix2 k j)
    = ((sel (places o p v 1) k j : ℝ) : EReal) := by
  rw [mat1, kMat_at _ hE]
  congr 2
  funext j
  rw [kTake_at, kTake_at, row_at (n := 8) _ 1 ![1, 0] rfl slices_S8x6_S1x6_1_0 shapeCasts_S1x6_S6, ho, row_at (n := 7) _ 0 ![0, 0] rfl slices_S7x6_S1x6_0_0 shapeCasts_S1x6_S6, hp, row_at (n := 8) _ 0 ![0, 0] rfl slices_S8x6_S1x6_0_0 shapeCasts_S1x6_S6, hv]
  rfl

/-- The matrix before layer 2 selects by `places`. -/
theorem mat2_at (k j : Fin 6) : (after matOps U (Proc.devRef .tc main_v73) : FVec Ideal S6x6 .f32) (ix2 k j)
    = ((sel (places o p v 2) k j : ℝ) : EReal) := by
  rw [mat2, kMat_at _ hE]
  congr 2
  funext j
  rw [kTake_at, kTake_at, row_at (n := 8) _ 2 ![2, 0] rfl slices_S8x6_S1x6_2_0 shapeCasts_S1x6_S6, ho, row_at (n := 7) _ 1 ![1, 0] rfl slices_S7x6_S1x6_1_0 shapeCasts_S1x6_S6, hp, row_at (n := 8) _ 1 ![1, 0] rfl slices_S8x6_S1x6_1_0 shapeCasts_S1x6_S6, hv]
  rfl

/-- The matrix before layer 3 selects by `places`. -/
theorem mat3_at (k j : Fin 6) : (after matOps U (Proc.devRef .tc main_v101) : FVec Ideal S6x6 .f32) (ix2 k j)
    = ((sel (places o p v 3) k j : ℝ) : EReal) := by
  rw [mat3, kMat_at _ hE]
  congr 2
  funext j
  rw [kTake_at, kTake_at, row_at (n := 8) _ 3 ![3, 0] rfl slices_S8x6_S1x6_3_0 shapeCasts_S1x6_S6, ho, row_at (n := 7) _ 2 ![2, 0] rfl slices_S7x6_S1x6_2_0 shapeCasts_S1x6_S6, hp, row_at (n := 8) _ 2 ![2, 0] rfl slices_S8x6_S1x6_2_0 shapeCasts_S1x6_S6, hv]
  rfl

/-- The matrix before layer 4 selects by `places`. -/
theorem mat4_at (k j : Fin 6) : (after matOps U (Proc.devRef .tc main_v129) : FVec Ideal S6x6 .f32) (ix2 k j)
    = ((sel (places o p v 4) k j : ℝ) : EReal) := by
  rw [mat4, kMat_at _ hE]
  congr 2
  funext j
  rw [kTake_at, kTake_at, row_at (n := 8) _ 4 ![4, 0] rfl slices_S8x6_S1x6_4_0 shapeCasts_S1x6_S6, ho, row_at (n := 7) _ 3 ![3, 0] rfl slices_S7x6_S1x6_3_0 shapeCasts_S1x6_S6, hp, row_at (n := 8) _ 3 ![3, 0] rfl slices_S8x6_S1x6_3_0 shapeCasts_S1x6_S6, hv]
  rfl

/-- The matrix before layer 5 selects by `places`. -/
theorem mat5_at (k j : Fin 6) : (after matOps U (Proc.devRef .tc main_v157) : FVec Ideal S6x6 .f32) (ix2 k j)
    = ((sel (places o p v 5) k j : ℝ) : EReal) := by
  rw [mat5, kMat_at _ hE]
  congr 2
  funext j
  rw [kTake_at, kTake_at, row_at (n := 8) _ 5 ![5, 0] rfl slices_S8x6_S1x6_5_0 shapeCasts_S1x6_S6, ho, row_at (n := 7) _ 4 ![4, 0] rfl slices_S7x6_S1x6_4_0 shapeCasts_S1x6_S6, hp, row_at (n := 8) _ 4 ![4, 0] rfl slices_S8x6_S1x6_4_0 shapeCasts_S1x6_S6, hv]
  rfl

/-- The matrix before layer 6 selects by `places`. -/
theorem mat6_at (k j : Fin 6) : (after matOps U (Proc.devRef .tc main_v185) : FVec Ideal S6x6 .f32) (ix2 k j)
    = ((sel (places o p v 6) k j : ℝ) : EReal) := by
  rw [mat6, kMat_at _ hE]
  congr 2
  funext j
  rw [kTake_at, kTake_at, row_at (n := 8) _ 6 ![6, 0] rfl slices_S8x6_S1x6_6_0 shapeCasts_S1x6_S6, ho, row_at (n := 7) _ 5 ![5, 0] rfl slices_S7x6_S1x6_5_0 shapeCasts_S1x6_S6, hp, row_at (n := 8) _ 5 ![5, 0] rfl slices_S8x6_S1x6_5_0 shapeCasts_S1x6_S6, hv]
  rfl

/-- The matrix before layer 7 selects by `places`. -/
theorem mat7_at (k j : Fin 6) : (after matOps U (Proc.devRef .tc main_v213) : FVec Ideal S6x6 .f32) (ix2 k j)
    = ((sel (places o p v 7) k j : ℝ) : EReal) := by
  rw [mat7, kMat_at _ hE]
  congr 2
  funext j
  rw [kTake_at, kTake_at, row_at (n := 8) _ 7 ![7, 0] rfl slices_S8x6_S1x6_7_0 shapeCasts_S1x6_S6, ho, row_at (n := 7) _ 6 ![6, 0] rfl slices_S7x6_S1x6_6_0 shapeCasts_S1x6_S6, hp, row_at (n := 8) _ 6 ![6, 0] rfl slices_S8x6_S1x6_6_0 shapeCasts_S1x6_S6, hv]
  rfl

/-- The matrix of the last reordering selects by `places`. -/
theorem mat8_at (k j : Fin 6) : (after matOps U (Proc.devRef .tc main_v223) : FVec Ideal S6x6 .f32) (ix2 k j)
    = ((sel (places o p v 8) k j : ℝ) : EReal) := by
  rw [mat8, kMat_at _ hE]
  congr 2
  funext j
  rw [row_at (n := 8) _ 7 ![7, 0] rfl slices_S8x6_S1x6_7_0 shapeCasts_S1x6_S6, hv]
  rfl

end
end Flow
-- ==== Proof.KSlab.lean ====
module

public import proofs.«01_k».proof.Proof.KMat

/-!
The weights and the mixed rows that the host part of the kernel's program packs for the body.
-/

@[expose] public section

namespace Flow
open Idealize.ShloMosaic Idealize.ShloMosaic.TcCoe Cert.KernelIdeal Cert.KernelIdeal.Gen Idealize.ShloMosaic.StableHlo
open scoped BigOperators
noncomputable section

set_option maxRecDepth 16384

/-- The word of twenty. -/
theorem bits_20 : Ideal.ofBits .f32 1101004800#32 = ((20 : ℝ) : EReal) := by
  simp [Ideal.ofBits, Ideal.ieee, -EReal.coe_mul]; norm_num

/-- A layer's first weights behind its reordering. -/
def kFirst (M : FVec Ideal S6x6 .f32) (W : FVec Ideal S8x3x128 .f32) (off : Fin 3 → ℕ) (h : S8x3x128.Slices off S1x3x128) : FVec Ideal S128x6 .f32 :=
  transpose S128x6 [1, 0] (Host.dotGeneral dot_S6x3_S3x128_S6x128_1_0_0_1_n_n none
    (extractStridedSlice S6x3 ![0, 0] M slices_S6x6_S6x3_0_0)
    (shapeCast S3x128 (extractStridedSlice S1x3x128 off W h : FVec Ideal S1x3x128 .f32) shapeCasts_S1x3x128_S3x128 : FVec Ideal S3x128 .f32)
    : FVec Ideal S6x128 .f32) transposes_S6x128_S128x6_1_0

/-- The rows that a layer's reordering gives the splines: twenty times the last three places, forty times each, and the first three. -/
def kMixed (M : FVec Ideal S6x6 .f32) : FVec Ideal S128x6 .f32 :=
  concatenate S128x6 0 [⟨S120x6, (transpose S120x6 [1, 0]
      (mulf (broadcastInDim S6x120 ![] bcast_S_S6x120 (constant S_ .f32 0x41A00000#32))
        (shapeCast S6x120 (broadcastInDim S6x3x40 ![0, 1] bcast_S6x3_S6x3x40_0_1 (extractStridedSlice S6x3 ![0, 3] M slices_S6x6_S6x3_0_3)
          : FVec Ideal S6x3x40 .f32) shapeCasts_S6x3x40_S6x120) : FVec Ideal S6x120 .f32) transposes_S6x120_S120x6_1_0 : FVec Ideal S120x6 .f32)⟩,
    ⟨S3x6, (transpose S3x6 [1, 0] (extractStridedSlice S6x3 ![0, 0] M slices_S6x6_S6x3_0_0) transposes_S6x3_S3x6_1_0 : FVec Ideal S3x6 .f32)⟩,
    ⟨S5x6, (broadcastInDim S5x6 ![] bcast_S_S5x6 (constant S_ .f32 0x00000000#32) : FVec Ideal S5x6 .f32)⟩]
    concatenates_S120x6_S3x6_S5x6_S128x6_d0

/-- Eight matrices, one on the other. -/
def stack8 (P : Fin 8 → FVec Ideal S128x6 .f32) : FVec Ideal S8x128x6 .f32 :=
  concatenate S8x128x6 0 [⟨S1x128x6, broadcastInDim S1x128x6 ![1, 2] bcast_S128x6_S1x128x6_1_2 (P 0)⟩,
    ⟨S1x128x6, broadcastInDim S1x128x6 ![1, 2] bcast_S128x6_S1x128x6_1_2 (P 1)⟩,
    ⟨S1x128x6, broadcastInDim S1x128x6 ![1, 2] bcast_S128x6_S1x128x6_1_2 (P 2)⟩,
    ⟨S1x128x6, broadcastInDim S1x128x6 ![1, 2] bcast_S128x6_S1x128x6_1_2 (P 3)⟩,
    ⟨S1x128x6, broadcastInDim S1x128x6 ![1, 2] bcast_S128x6_S1x128x6_1_2 (P 4)⟩,
    ⟨S1x128x6, broadcastInDim S1x128x6 ![1, 2] bcast_S128x6_S1x128x6_1_2 (P 5)⟩,
    ⟨S1x128x6, broadcastInDim S1x128x6 ![1, 2] bcast_S128x6_S1x128x6_1_2 (P 6)⟩,
    ⟨S1x128x6, broadcastInDim S1x128x6 ![1, 2] bcast_S128x6_S1x128x6_1_2 (P 7)⟩]
    concatenates_S1x128x6_S1x128x6_S1x128x6_S1x128x6_S1x128x6_S1x128x6_S1x128x6_S1x128x6_S8x128x6_d0

/-- The stack at an index. -/
theorem stack8_at (P : Fin 8 → FVec Ideal S128x6 .f32) (i : Fin 8) (h : Fin 128) (k : Fin 6) :
    stack8 P (ix3 i h k) = P i (ix2 h k) := by
  match i with
  | 0 => pointwise [stack8]
  | 1 => pointwise [stack8]
  | 2 => pointwise [stack8]
  | 3 => pointwise [stack8]
  | 4 => pointwise [stack8]
  | 5 => pointwise [stack8]
  | 6 => pointwise [stack8]
  | 7 => pointwise [stack8]

/-- A layer's first weights behind its reordering, at an index. -/
theorem kFirst_at (M : FVec Ideal S6x6 .f32) (W : FVec Ideal S8x3x128 .f32) (i : Fin 8) (off : Fin 3 → ℕ) (hoff : off = ![i.val, 0, 0])
    (hs : S8x3x128.Slices off S1x3x128) (h : Fin 128) (k : Fin 6) :
    kFirst M W off hs (ix2 h k) = ∑ j : Fin 3, M (ix2 k (lo j)) * W (ix3 i j h) := by
  subst hoff
  obtain ⟨G, hG⟩ : ∃ G, (extractStridedSlice S1x3x128 ![i.val, 0, 0] W hs : FVec Ideal S1x3x128 .f32) = G := ⟨_, rfl⟩
  have hg : ∀ j, G (ix3 0 j h) = W (ix3 i j h) := fun j => by
    rw [← hG]
    refine congrArg W (funext fun a => ?_)
    match a with
    | ⟨0, _⟩ => rfl
    | ⟨1, _⟩ => exact Fin.ext (Nat.zero_add _)
    | ⟨2, _⟩ => exact Fin.ext (Nat.zero_add _)
  unfold kFirst
  rw [hG]
  simp only [← hg]
  pointwise
  exact Finset.sum_congr rfl fun x _ => rfl

/-- The mixed rows at an index. -/
theorem kMixed_at (M : FVec Ideal S6x6 .f32) (r : Fin 128) (k : Fin 6) :
    kMixed M (ix2 r k) = if h : r.val < 120 then ((20 : ℝ) : EReal) * M (ix2 k ⟨3 + r.val / 40, by omega⟩)
      else if h : r.val < 123 then M (ix2 k ⟨r.val - 120, by omega⟩) else 0 := by
  pointwise [kMixed]
  rw [bits_20]
  split_ifs <;> first | rfl | omega | exact Ideal.ofBits_zero_f32 | simp only [dif_pos (show r.val < 123 by omega)]

/-- The host lines after the reordering matrices. -/
abbrev packOps : List (HloOp τ sig (Elt Ideal)) := List.drop 262 hostOps0_2 ++ (hostOps0_3 ++ (hostOps0_4 ++ (hostOps0_5 ++ hostOps0_6)))

/-- Eight matrices joined, each known, are their stack. -/
theorem stack8_congr {P : Fin 8 → FVec Ideal S128x6 .f32} {A0 A1 A2 A3 A4 A5 A6 A7 : FVec Ideal S1x128x6 .f32}
    (h0 : A0 = broadcastInDim S1x128x6 ![1, 2] bcast_S128x6_S1x128x6_1_2 (P 0)) (h1 : A1 = broadcastInDim S1x128x6 ![1, 2] bcast_S128x6_S1x128x6_1_2 (P 1))
    (h2 : A2 = broadcastInDim S1x128x6 ![1, 2] bcast_S128x6_S1x128x6_1_2 (P 2)) (h3 : A3 = broadcastInDim S1x128x6 ![1, 2] bcast_S128x6_S1x128x6_1_2 (P 3))
    (h4 : A4 = broadcastInDim S1x128x6 ![1, 2] bcast_S128x6_S1x128x6_1_2 (P 4)) (h5 : A5 = broadcastInDim S1x128x6 ![1, 2] bcast_S128x6_S1x128x6_1_2 (P 5))
    (h6 : A6 = broadcastInDim S1x128x6 ![1, 2] bcast_S128x6_S1x128x6_1_2 (P 6)) (h7 : A7 = broadcastInDim S1x128x6 ![1, 2] bcast_S128x6_S1x128x6_1_2 (P 7)) :
    concatenate S8x128x6 0 [⟨S1x128x6, A0⟩, ⟨S1x128x6, A1⟩, ⟨S1x128x6, A2⟩, ⟨S1x128x6, A3⟩, ⟨S1x128x6, A4⟩, ⟨S1x128x6, A5⟩, ⟨S1x128x6, A6⟩, ⟨S1x128x6, A7⟩]
      concatenates_S1x128x6_S1x128x6_S1x128x6_S1x128x6_S1x128x6_S1x128x6_S1x128x6_S1x128x6_S8x128x6_d0 = stack8 P := by
  subst h0 h1 h2 h3 h4 h5 h6 h7; rfl

/-- Three matrices joined, each known, are the mixed rows. -/
theorem mixed_congr {M : FVec Ideal S6x6 .f32} {A : FVec Ideal S120x6 .f32} {B : FVec Ideal S3x6 .f32} {C : FVec Ideal S5x6 .f32}
    (hA : A = transpose S120x6 [1, 0]
      (mulf (broadcastInDim S6x120 ![] bcast_S_S6x120 (constant S_ .f32 0x41A00000#32))
        (shapeCast S6x120 (broadcastInDim S6x3x40 ![0, 1] bcast_S6x3_S6x3x40_0_1 (extractStridedSlice S6x3 ![0, 3] M slices_S6x6_S6x3_0_3)
          : FVec Ideal S6x3x40 .f32) shapeCasts_S6x3x40_S6x120) : FVec Ideal S6x120 .f32) transposes_S6x120_S120x6_1_0)
    (hB : B = transpose S3x6 [1, 0] (extractStridedSlice S6x3 ![0, 0] M slices_S6x6_S6x3_0_0) transposes_S6x3_S3x6_1_0)
    (hC : C = broadcastInDim S5x6 ![] bcast_S_S5x6 (constant S_ .f32 0x00000000#32)) :
    concatenate S128x6 0 [⟨S120x6, A⟩, ⟨S3x6, B⟩, ⟨S5x6, C⟩] concatenates_S120x6_S3x6_S5x6_S128x6_d0 = kMixed M := by
  subst hA hB hC; rfl

variable (U : Valuation τ sig (Elt Ideal))

/-- The lines of the host leave the mixed rows of layer 0, ready to be stacked. -/
theorem mixed0 : upto packOps U 154 (Proc.devRef .tc main_v354)
    = broadcastInDim S1x128x6 ![1, 2] bcast_S128x6_S1x128x6_1_2 (kMixed (U (Proc.devRef .tc main_v17))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 16 (Proc.devRef .tc main_v234)) (B := upto packOps U 16 (Proc.devRef .tc main_v236))
    (C := upto packOps U 16 (Proc.devRef .tc main_v237)) ?_ ?_ ?_) <;> (after_reads_simp; try rfl)

/-- The lines of the host leave the first weights of layer 0, ready to be stacked. -/
theorem first0 : upto packOps U 144 (Proc.devRef .tc main_v344)
    = broadcastInDim S1x128x6 ![1, 2] bcast_S128x6_S1x128x6_1_2
      (kFirst (U (Proc.devRef .tc main_v17)) (U (Proc.devRef .tc main_arg1)) ![0, 0, 0] slices_S8x3x128_S1x3x128_0_0_0) := by
  after_reads_simp
  rfl

/-- The lines of the host leave the mixed rows of layer 1, ready to be stacked. -/
theorem mixed1 : upto packOps U 154 (Proc.devRef .tc main_v355)
    = broadcastInDim S1x128x6 ![1, 2] bcast_S128x6_S1x128x6_1_2 (kMixed (U (Proc.devRef .tc main_v45))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 33 (Proc.devRef .tc main_v249)) (B := upto packOps U 33 (Proc.devRef .tc main_v251))
    (C := upto packOps U 33 (Proc.devRef .tc main_v252)) ?_ ?_ ?_) <;> (after_reads_simp; try rfl)

/-- The lines of the host leave the first weights of layer 1, ready to be stacked. -/
theorem first1 : upto packOps U 144 (Proc.devRef .tc main_v345)
    = broadcastInDim S1x128x6 ![1, 2] bcast_S128x6_S1x128x6_1_2
      (kFirst (U (Proc.devRef .tc main_v45)) (U (Proc.devRef .tc main_arg1)) ![1, 0, 0] slices_S8x3x128_S1x3x128_1_0_0) := by
  after_reads_simp
  rfl

/-- The lines of the host leave the mixed rows of layer 2, ready to be stacked. -/
theorem mixed2 : upto packOps U 154 (Proc.devRef .tc main_v356)
    = broadcastInDim S1x128x6 ![1, 2] bcast_S128x6_S1x128x6_1_2 (kMixed (U (Proc.devRef .tc main_v73))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 50 (Proc.devRef .tc main_v264)) (B := upto packOps U 50 (Proc.devRef .tc main_v266))
    (C := upto packOps U 50 (Proc.devRef .tc main_v267)) ?_ ?_ ?_) <;> (after_reads_simp; try rfl)

/-- The lines of the host leave the first weights of layer 2, ready to be stacked. -/
theorem first2 : upto packOps U 144 (Proc.devRef .tc main_v346)
    = broadcastInDim S1x128x6 ![1, 2] bcast_S128x6_S1x128x6_1_2
      (kFirst (U (Proc.devRef .tc main_v73)) (U (Proc.devRef .tc main_arg1)) ![2, 0, 0] slices_S8x3x128_S1x3x128_2_0_0) := by
  after_reads_simp
  rfl

/-- The lines of the host leave the mixed rows of layer 3, ready to be stacked. -/
theorem mixed3 : upto packOps U 154 (Proc.devRef .tc main_v357)
    = broadcastInDim S1x128x6 ![1, 2] bcast_S128x6_S1x128x6_1_2 (kMixed (U (Proc.devRef .tc main_v101))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 67 (Proc.devRef .tc main_v279)) (B := upto packOps U 67 (Proc.devRef .tc main_v281))
    (C := upto packOps U 67 (Proc.devRef .tc main_v282)) ?_ ?_ ?_) <;> (after_reads_simp; try rfl)

/-- The lines of the host leave the first weights of layer 3, ready to be stacked. -/
theorem first3 : upto packOps U 144 (Proc.devRef .tc main_v347)
    = broadcastInDim S1x128x6 ![1, 2] bcast_S128x6_S1x128x6_1_2
      (kFirst (U (Proc.devRef .tc main_v101)) (U (Proc.devRef .tc main_arg1)) ![3, 0, 0] slices_S8x3x128_S1x3x128_3_0_0) := by
  after_reads_simp
  rfl

/-- The lines of the host leave the mixed rows of layer 4, ready to be stacked. -/
theorem mixed4 : upto packOps U 154 (Proc.devRef .tc main_v358)
    = broadcastInDim S1x128x6 ![1, 2] bcast_S128x6_S1x128x6_1_2 (kMixed (U (Proc.devRef .tc main_v129))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 84 (Proc.devRef .tc main_v294)) (B := upto packOps U 84 (Proc.devRef .tc main_v296))
    (C := upto packOps U 84 (Proc.devRef .tc main_v297)) ?_ ?_ ?_) <;> (after_reads_simp; try rfl)

/-- The lines of the host leave the first weights of layer 4, ready to be stacked. -/
theorem first4 : upto packOps U 144 (Proc.devRef .tc main_v348)
    = broadcastInDim S1x128x6 ![1, 2] bcast_S128x6_S1x128x6_1_2
      (kFirst (U (Proc.devRef .tc main_v129)) (U (Proc.devRef .tc main_arg1)) ![4, 0, 0] slices_S8x3x128_S1x3x128_4_0_0) := by
  after_reads_simp
  rfl

/-- The lines of the host leave the mixed rows of layer 5, ready to be stacked. -/
theorem mixed5 : upto packOps U 154 (Proc.devRef .tc main_v359)
    = broadcastInDim S1x128x6 ![1, 2] bcast_S128x6_S1x128x6_1_2 (kMixed (U (Proc.devRef .tc main_v157))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 101 (Proc.devRef .tc main_v309)) (B := upto packOps U 101 (Proc.devRef .tc main_v311))
    (C := upto packOps U 101 (Proc.devRef .tc main_v312)) ?_ ?_ ?_) <;> (after_reads_simp; try rfl)

/-- The lines of the host leave the first weights of layer 5, ready to be stacked. -/
theorem first5 : upto packOps U 144 (Proc.devRef .tc main_v349)
    = broadcastInDim S1x128x6 ![1, 2] bcast_S128x6_S1x128x6_1_2
      (kFirst (U (Proc.devRef .tc main_v157)) (U (Proc.devRef .tc main_arg1)) ![5, 0, 0] slices_S8x3x128_S1x3x128_5_0_0) := by
  after_reads_simp
  rfl

/-- The lines of the host leave the mixed rows of layer 6, ready to be stacked. -/
theorem mixed6 : upto packOps U 154 (Proc.devRef .tc main_v360)
    = broadcastInDim S1x128x6 ![1, 2] bcast_S128x6_S1x128x6_1_2 (kMixed (U (Proc.devRef .tc main_v185))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 118 (Proc.devRef .tc main_v324)) (B := upto packOps U 118 (Proc.devRef .tc main_v326))
    (C := upto packOps U 118 (Proc.devRef .tc main_v327)) ?_ ?_ ?_) <;> (after_reads_simp; try rfl)

/-- The lines of the host leave the first weights of layer 6, ready to be stacked. -/
theorem first6 : upto packOps U 144 (Proc.devRef .tc main_v350)
    = broadcastInDim S1x128x6 ![1, 2] bcast_S128x6_S1x128x6_1_2
      (kFirst (U (Proc.devRef .tc main_v185)) (U (Proc.devRef .tc main_arg1)) ![6, 0, 0] slices_S8x3x128_S1x3x128_6_0_0) := by
  after_reads_simp
  rfl

/-- The lines of the host leave the mixed rows of layer 7, ready to be stacked. -/
theorem mixed7 : upto packOps U 154 (Proc.devRef .tc main_v361)
    = broadcastInDim S1x128x6 ![1, 2] bcast_S128x6_S1x128x6_1_2 (kMixed (U (Proc.devRef .tc main_v213))) := by
  after_reads_simp
  refine congrArg (fun X : FVec Ideal S128x6 .f32 => (broadcastInDim S1x128x6 ![1, 2] bcast_S128x6_S1x128x6_1_2 X : FVec Ideal S1x128x6 .f32)) (mixed_congr
    (A := upto packOps U 135 (Proc.devRef .tc main_v339)) (B := upto packOps U 135 (Proc.devRef .tc main_v341))
    (C := upto packOps U 135 (Proc.devRef .tc main_v342)) ?_ ?_ ?_) <;> (after_reads_simp; try rfl)

/-- The lines of the host leave the first weights of layer 7, ready to be stacked. -/
theorem first7 : upto packOps U 144 (Proc.devRef .tc main_v351)
    = broadcastInDim S1x128x6 ![1, 2] bcast_S128x6_S1x128x6_1_2
      (kFirst (U (Proc.devRef .tc main_v213)) (U (Proc.devRef .tc main_arg1)) ![7, 0, 0] slices_S8x3x128_S1x3x128_7_0_0) := by
  after_reads_simp
  rfl

/-- The operand of the first weights: the stack of all layers. -/
theorem firsts : after packOps U (Proc.devRef .tc main_v353) = (truncf .bf16 (stack8 ![kFirst (U (Proc.devRef .tc main_v17)) (U (Proc.devRef .tc main_arg1)) ![0, 0, 0] slices_S8x3x128_S1x3x128_0_0_0,
    kFirst (U (Proc.devRef .tc main_v45)) (U (Proc.devRef .tc main_arg1)) ![1, 0, 0] slices_S8x3x128_S1x3x128_1_0_0,
    kFirst (U (Proc.devRef .tc main_v73)) (U (Proc.devRef .tc main_arg1)) ![2, 0, 0] slices_S8x3x128_S1x3x128_2_0_0,
    kFirst (U (Proc.devRef .tc main_v101)) (U (Proc.devRef .tc main_arg1)) ![3, 0, 0] slices_S8x3x128_S1x3x128_3_0_0,
    kFirst (U (Proc.devRef .tc main_v129)) (U (Proc.devRef .tc main_arg1)) ![4, 0, 0] slices_S8x3x128_S1x3x128_4_0_0,
    kFirst (U (Proc.devRef .tc main_v157)) (U (Proc.devRef .tc main_arg1)) ![5, 0, 0] slices_S8x3x128_S1x3x128_5_0_0,
    kFirst (U (Proc.devRef .tc main_v185)) (U (Proc.devRef .tc main_arg1)) ![6, 0, 0] slices_S8x3x128_S1x3x128_6_0_0,
    kFirst (U (Proc.devRef .tc main_v213)) (U (Proc.devRef .tc main_arg1)) ![7, 0, 0] slices_S8x3x128_S1x3x128_7_0_0]) bitsLt_bf16_f32 : FVec Ideal S8x128x6 .bf16) := by
  after_reads_simp
  exact congrArg (fun X : FVec Ideal S8x128x6 .f32 => (truncf .bf16 X bitsLt_bf16_f32 : FVec Ideal S8x128x6 .bf16)) (stack8_congr (first0 U) (first1 U) (first2 U) (first3 U) (first4 U) (first5 U) (first6 U) (first7 U))

/-- The operand of the mixed rows: the stack of all layers. -/
theorem mixeds : after packOps U (Proc.devRef .tc main_v362) = stack8 fun i => kMixed (![U (Proc.devRef .tc main_v17), U (Proc.devRef .tc main_v45), U (Proc.devRef .tc main_v73), U (Proc.devRef .tc main_v101), U (Proc.devRef .tc main_v129), U (Proc.devRef .tc main_v157), U (Proc.devRef .tc main_v185), U (Proc.devRef .tc main_v213)] i) := by
  after_reads_simp
  exact stack8_congr (mixed0 U) (mixed1 U) (mixed2 U) (mixed3 U) (mixed4 U) (mixed5 U) (mixed6 U) (mixed7 U)

end
end Flow
-- ==== Proof.KOperands.lean ====
module

public import proofs.«01_k».proof.Proof.KSlab

/-!
The operands that the host part of the kernel's program packs from one array each: a bias as columns, a matrix on its side, both padded to 128.
-/

@[expose] public section

namespace Flow
open Idealize.ShloMosaic Idealize.ShloMosaic.TcCoe Cert.KernelIdeal Cert.KernelIdeal.Gen Idealize.ShloMosaic.StableHlo
open scoped BigOperators
noncomputable section

set_option maxRecDepth 16384

variable (U : Valuation τ sig (Elt Ideal))

/-- A bias as columns. -/
def kBias (b : FVec Ideal S8x128 .f32) : FVec Ideal S8x128x1 .bf16 :=
  truncf .bf16 (broadcastInDim S8x128x1 ![0, 1] bcast_S8x128_S8x128x1_0_1 b : FVec Ideal S8x128x1 .f32) bitsLt_bf16_f32
/-- The last bias, padded. -/
def kPad2 (b : FVec Ideal S8x120 .f32) : FVec Ideal S8x128 .f32 :=
  pad S8x128 ![0, 0] ![0, 8] ![0, 0] b (sitofp .f32 (constantI S_ 32 0#32) : FVec Ideal S_ .f32) pads_S8x120_S8x128_000_080 h_S_
/-- The last weights, padded. -/
def kPad3 (w : FVec Ideal S8x128x120 .f32) : FVec Ideal S8x128x128 .f32 :=
  pad S8x128x128 ![0, 0, 0] ![0, 0, 8] ![0, 0, 0] w (sitofp .f32 (constantI S_ 32 0#32) : FVec Ideal S_ .f32) pads_S8x128x120_S8x128x128_000_000_080 h_S_
/-- Each layer's weights on their side. -/
def kSide (w : FVec Ideal S8x128x128 .f32) : FVec Ideal S8x128x128 .bf16 :=
  truncf .bf16 (transpose S8x128x128 [0, 2, 1] w transposes_S8x128x128_S8x128x128_0_2_1 : FVec Ideal S8x128x128 .f32) bitsLt_bf16_f32

/-- A bias as columns, at an index. -/
theorem kBias_at (b : FVec Ideal S8x128 .f32) (i : Fin 8) (h : Fin 128) : kBias b (ix3 i h 0) = b (ix2 i h) := by
  pointwise [kBias]
/-- Weights on their side, at an index. -/
theorem kSide_at (w : FVec Ideal S8x128x128 .f32) (i : Fin 8) (g h : Fin 128) : kSide w (ix3 i g h) = w (ix3 i h g) := by
  pointwise [kSide]
/-- The padding is zero. -/
theorem pad_zero : (FloatOps.sitofp .f32 (0#32 : BitVec 32) : Ideal .f32) = (0 : EReal) := by
  show (((0#32 : BitVec 32).toInt : ℝ) : EReal) = 0
  simp

/-- The padded bias at an index. -/
theorem kPad2_at (b : FVec Ideal S8x120 .f32) (i : Fin 8) (q : Fin 128) :
    kPad2 b (ix2 i q) = if h : q.val < 120 then b (ix2 i ⟨q.val, h⟩) else 0 := by
  pointwise [kPad2]
  rw [pad_zero]
/-- The padded weights at an index. -/
theorem kPad3_at (w : FVec Ideal S8x128x120 .f32) (i : Fin 8) (g q : Fin 128) :
    kPad3 w (ix3 i g q) = if h : q.val < 120 then w (ix3 i g ⟨q.val, h⟩) else 0 := by
  pointwise [kPad3]
  rw [pad_zero]

/-- The operand of the first bias. -/
theorem read_b1 : after packOps U (Proc.devRef .tc main_v364) = kBias (U (Proc.devRef .tc main_arg2)) := by
  after_reads_simp; rfl
/-- The operand of the second bias. -/
theorem read_b2 : after packOps U (Proc.devRef .tc main_v366) = kBias (U (Proc.devRef .tc main_arg4)) := by
  after_reads_simp; rfl
/-- The operand of the last bias. -/
theorem read_b3 : after packOps U (Proc.devRef .tc main_v369) = kBias (kPad2 (U (Proc.devRef .tc main_arg6))) := by
  after_reads_simp
  simp -implicitDefEqProofs only [StableHlo.TRef.toBuf, StableHlo.TRef.ofBuf, cast_cast, cast_eq]
  rfl
/-- The operand of the second weights. -/
theorem read_w2 : after packOps U (Proc.devRef .tc main_v371) = kSide (U (Proc.devRef .tc main_arg3)) := by
  after_reads_simp; rfl
/-- The operand of the last weights. -/
theorem read_w3 : after packOps U (Proc.devRef .tc main_v374) = kSide (kPad3 (U (Proc.devRef .tc main_arg5))) := by
  after_reads_simp
  simp -implicitDefEqProofs only [StableHlo.TRef.toBuf, StableHlo.TRef.ofBuf, cast_cast, cast_eq]
  rfl
/-- The table of the ramps' sums goes in as it is. -/
theorem read_spread : after packOps U (Proc.devRef .tc main_v375) = (truncf .bf16 (U (Proc.devRef .tc main_cst_0) : FVec Ideal S6x120 .f32) bitsLt_bf16_f32 : FVec Ideal S6x120 .bf16) := by
  after_reads_simp
/-- The table of the bins' sums goes in as it is. -/
theorem read_gather : after packOps U (Proc.devRef .tc main_v376) = (truncf .bf16 (U (Proc.devRef .tc main_cst_1) : FVec Ideal S6x128 .f32) bitsLt_bf16_f32 : FVec Ideal S6x128 .bf16) := by
  after_reads_simp
/-- The packing leaves the bins' edges alone. -/
theorem keep_edges : after packOps U (Proc.devRef .tc main_v0) = U (Proc.devRef .tc main_v0) := by after_reads_simp
/-- The packing leaves the last reordering alone. -/
theorem keep_last : after packOps U (Proc.devRef .tc main_v223) = U (Proc.devRef .tc main_v223) := by after_reads_simp

end
end Flow
-- ==== Proof.KTables.lean ====
module

public import proofs.«01_k».proof.Proof.KLayer

/-!
The tables of constants that the kernel's program holds: the words written in the program, read as real numbers.
-/

@[expose] public section

namespace Flow
open Idealize.ShloMosaic Cert.KernelIdeal
open scoped BigOperators
noncomputable section

set_option maxRecDepth 16384

/-- The table of edges repeats every forty entries. -/
theorem edge_words : ∀ q : Fin 120, lit0 (S120.rowMajor (ix1 q)) = lit0 ⟨q.val % 40, by omega⟩ := by decide +kernel

/-- The words of the edges, read as numbers. -/
theorem edge_bits (n : Fin 40) : Ideal.ofBits .f32 (lit0 ⟨n.val, by omega⟩) = ((20 - (n.val : ℝ) : ℝ) : EReal) := by
  obtain ⟨n, hn⟩ := n
  match n, hn with
  | 0, _ => exact (show Ideal.ofBits .f32 0x41A00000#32 = ((20 : ℝ) : EReal) by simp [Ideal.ofBits, Ideal.ieee, -EReal.coe_mul, -EReal.coe_neg] <;> norm_num).trans (congrArg _ (by norm_num))
  | 1, _ => exact (show Ideal.ofBits .f32 0x41980000#32 = ((19 : ℝ) : EReal) by simp [Ideal.ofBits, Ideal.ieee, -EReal.coe_mul, -EReal.coe_neg] <;> norm_num).trans (congrArg _ (by norm_num))
  | 2, _ => exact (show Ideal.ofBits .f32 0x41900000#32 = ((18 : ℝ) : EReal) by simp [Ideal.ofBits, Ideal.ieee, -EReal.coe_mul, -EReal.coe_neg] <;> norm_num).trans (congrArg _ (by norm_num))
  | 3, _ => exact (show Ideal.ofBits .f32 0x41880000#32 = ((17 : ℝ) : EReal) by simp [Ideal.ofBits, Ideal.ieee, -EReal.coe_mul, -EReal.coe_neg] <;> norm_num).trans (congrArg _ (by norm_num))
  | 4, _ => exact (show Ideal.ofBits .f32 0x41800000#32 = ((16 : ℝ) : EReal) by simp [Ideal.ofBits, Ideal.ieee, -EReal.coe_mul, -EReal.coe_neg] <;> norm_num).trans (congrArg _ (by norm_num))
  | 5, _ => exact (show Ideal.ofBits .f32 0x41700000#32 = ((15 : ℝ) : EReal) by simp [Ideal.ofBits, Ideal.ieee, -EReal.coe_mul, -EReal.coe_neg] <;> norm_num).trans (congrArg _ (by norm_num))
  | 6, _ => exact (show Ideal.ofBits .f32 0x41600000#32 = ((14 : ℝ) : EReal) by simp [Ideal.ofBits, Ideal.ieee, -EReal.coe_mul, -EReal.coe_neg] <;> norm_num).trans (congrArg _ (by norm_num))
  | 7, _ => exact (show Ideal.ofBits .f32 0x41500000#32 = ((13 : ℝ) : EReal) by simp [Ideal.ofBits, Ideal.ieee, -EReal.coe_mul, -EReal.coe_neg] <;> norm_num).trans (congrArg _ (by norm_num))
  | 8, _ => exact (show Ideal.ofBits .f32 0x41400000#32 = ((12 : ℝ) : EReal) by simp [Ideal.ofBits, Ideal.ieee, -EReal.coe_mul, -EReal.coe_neg] <;> norm_num).trans (congrArg _ (by norm_num))
  | 9, _ => exact (show Ideal.ofBits .f32 0x41300000#32 = ((11 : ℝ) : EReal) by simp [Ideal.ofBits, Ideal.ieee, -EReal.coe_mul, -EReal.coe_neg] <;> norm_num).trans (congrArg _ (by norm_num))
  | 10, _ => exact (show Ideal.ofBits .f32 0x41200000#32 = ((10 : ℝ) : EReal) by simp [Ideal.ofBits, Ideal.ieee, -EReal.coe_mul, -EReal.coe_neg] <;> norm_num).trans (congrArg _ (by norm_num))
  | 11, _ => exact (show Ideal.ofBits .f32 0x41100000#32 = ((9 : ℝ) : EReal) by simp [Ideal.ofBits, Ideal.ieee, -EReal.coe_mul, -EReal.coe_neg] <;> norm_num).trans (congrArg _ (by norm_num))
  | 12, _ => exact (show Ideal.ofBits .f32 0x41000000#32 = ((8 : ℝ) : EReal) by simp [Ideal.ofBits, Ideal.ieee, -EReal.coe_mul, -EReal.coe_neg] <;> norm_num).trans (congrArg _ (by norm_num))
  | 13, _ => exact (show Ideal.ofBits .f32 0x40E00000#32 = ((7 : ℝ) : EReal) by simp [Ideal.ofBits, Ideal.ieee, -EReal.coe_mul, -EReal.coe_neg] <;> norm_num).trans (congrArg _ (by norm_num))
  | 14, _ => exact (show Ideal.ofBits .f32 0x40C00000#32 = ((6 : ℝ) : EReal) by simp [Ideal.ofBits, Ideal.ieee, -EReal.coe_mul, -EReal.coe_neg] <;> norm_num).trans (congrArg _ (by norm_num))
  | 15, _ => exact (show Ideal.ofBits .f32 0x40A00000#32 = ((5 : ℝ) : EReal) by simp [Ideal.ofBits, Ideal.ieee, -EReal.coe_mul, -EReal.coe_neg] <;> norm_num).trans (congrArg _ (by norm_num))
  | 16, _ => exact (show Ideal.ofBits .f32 0x40800000#32 = ((4 : ℝ) : EReal) by simp [Ideal.ofBits, Ideal.ieee, -EReal.coe_mul, -EReal.coe_neg] <;> norm_num).trans (congrArg _ (by norm_num))
  | 17, _ => exact (show Ideal.ofBits .f32 0x40400000#32 = ((3 : ℝ) : EReal) by simp [Ideal.ofBits, Ideal.ieee, -EReal.coe_mul, -EReal.coe_neg] <;> norm_num).trans (congrArg _ (by norm_num))
  | 18, _ => exact (show Ideal.ofBits .f32 0x40000000#32 = ((2 : ℝ) : EReal) by simp [Ideal.ofBits, Ideal.ieee, -EReal.coe_mul, -EReal.coe_neg] <;> norm_num).trans (congrArg _ (by norm_num))
  | 19, _ => exact (show Ideal.ofBits .f32 0x3F800000#32 = ((1 : ℝ) : EReal) by simp [Ideal.ofBits, Ideal.ieee, -EReal.coe_mul, -EReal.coe_neg] <;> norm_num).trans (congrArg _ (by norm_num))
  | 20, _ => exact (show Ideal.ofBits .f32 0x00000000#32 = ((0 : ℝ) : EReal) by simp [Ideal.ofBits, Ideal.ieee, -EReal.coe_mul, -EReal.coe_neg] <;> norm_num).trans (congrArg _ (by norm_num))
  | 21, _ => exact (show Ideal.ofBits .f32 0xBF800000#32 = ((-1 : ℝ) : EReal) by simp [Ideal.ofBits, Ideal.ieee, -EReal.coe_mul, -EReal.coe_neg] <;> norm_num).trans (congrArg _ (by norm_num))
  | 22, _ => exact (show Ideal.ofBits .f32 0xC0000000#32 = ((-2 : ℝ) : EReal) by simp [Ideal.ofBits, Ideal.ieee, -EReal.coe_mul, -EReal.coe_neg] <;> norm_num).trans (congrArg _ (by norm_num))
  | 23, _ => exact (show Ideal.ofBits .f32 0xC0400000#32 = ((-3 : ℝ) : EReal) by simp [Ideal.ofBits, Ideal.ieee, -EReal.coe_mul, -EReal.coe_neg] <;> norm_num).trans (congrArg _ (by norm_num))
  | 24, _ => exact (show Ideal.ofBits .f32 0xC0800000#32 = ((-4 : ℝ) : EReal) by simp [Ideal.ofBits, Ideal.ieee, -EReal.coe_mul, -EReal.coe_neg] <;> norm_num).trans (congrArg _ (by norm_num))
  | 25, _ => exact (show Ideal.ofBits .f32 0xC0A00000#32 = ((-5 : ℝ) : EReal) by simp [Ideal.ofBits, Ideal.ieee, -EReal.coe_mul, -EReal.coe_neg] <;> norm_num).trans (congrArg _ (by norm_num))
  | 26, _ => exact (show Ideal.ofBits .f32 0xC0C00000#32 = ((-6 : ℝ) : EReal) by simp [Ideal.ofBits, Ideal.ieee, -EReal.coe_mul, -EReal.coe_neg] <;> norm_num).trans (congrArg _ (by norm_num))
  | 27, _ => exact (show Ideal.ofBits .f32 0xC0E00000#32 = ((-7 : ℝ) : EReal) by simp [Ideal.ofBits, Ideal.ieee, -EReal.coe_mul, -EReal.coe_neg] <;> norm_num).trans (congrArg _ (by norm_num))
  | 28, _ => exact (show Ideal.ofBits .f32 0xC1000000#32 = ((-8 : ℝ) : EReal) by simp [Ideal.ofBits, Ideal.ieee, -EReal.coe_mul, -EReal.coe_neg] <;> norm_num).trans (congrArg _ (by norm_num))
  | 29, _ => exact (show Ideal.ofBits .f32 0xC1100000#32 = ((-9 : ℝ) : EReal) by simp [Ideal.ofBits, Ideal.ieee, -EReal.coe_mul, -EReal.coe_neg] <;> norm_num).trans (congrArg _ (by norm_num))
  | 30, _ => exact (show Ideal.ofBits .f32 0xC1200000#32 = ((-10 : ℝ) : EReal) by simp [Ideal.ofBits, Ideal.ieee, -EReal.coe_mul, -EReal.coe_neg] <;> norm_num).trans (congrArg _ (by norm_num))
  | 31, _ => exact (show Ideal.ofBits .f32 0xC1300000#32 = ((-11 : ℝ) : EReal) by simp [Ideal.ofBits, Ideal.ieee, -EReal.coe_mul, -EReal.coe_neg] <;> norm_num).trans (congrArg _ (by norm_num))
  | 32, _ => exact (show Ideal.ofBits .f32 0xC1400000#32 = ((-12 : ℝ) : EReal) by simp [Ideal.ofBits, Ideal.ieee, -EReal.coe_mul, -EReal.coe_neg] <;> norm_num).trans (congrArg _ (by norm_num))
  | 33, _ => exact (show Ideal.ofBits .f32 0xC1500000#32 = ((-13 : ℝ) : EReal) by simp [Ideal.ofBits, Ideal.ieee, -EReal.coe_mul, -EReal.coe_neg] <;> norm_num).trans (congrArg _ (by norm_num))
  | 34, _ => exact (show Ideal.ofBits .f32 0xC1600000#32 = ((-14 : ℝ) : EReal) by simp [Ideal.ofBits, Ideal.ieee, -EReal.coe_mul, -EReal.coe_neg] <;> norm_num).trans (congrArg _ (by norm_num))
  | 35, _ => exact (show Ideal.ofBits .f32 0xC1700000#32 = ((-15 : ℝ) : EReal) by simp [Ideal.ofBits, Ideal.ieee, -EReal.coe_mul, -EReal.coe_neg] <;> norm_num).trans (congrArg _ (by norm_num))
  | 36, _ => exact (show Ideal.ofBits .f32 0xC1800000#32 = ((-16 : ℝ) : EReal) by simp [Ideal.ofBits, Ideal.ieee, -EReal.coe_mul, -EReal.coe_neg] <;> norm_num).trans (congrArg _ (by norm_num))
  | 37, _ => exact (show Ideal.ofBits .f32 0xC1880000#32 = ((-17 : ℝ) : EReal) by simp [Ideal.ofBits, Ideal.ieee, -EReal.coe_mul, -EReal.coe_neg] <;> norm_num).trans (congrArg _ (by norm_num))
  | 38, _ => exact (show Ideal.ofBits .f32 0xC1900000#32 = ((-18 : ℝ) : EReal) by simp [Ideal.ofBits, Ideal.ieee, -EReal.coe_mul, -EReal.coe_neg] <;> norm_num).trans (congrArg _ (by norm_num))
  | 39, _ => exact (show Ideal.ofBits .f32 0xC1980000#32 = ((-19 : ℝ) : EReal) by simp [Ideal.ofBits, Ideal.ieee, -EReal.coe_mul, -EReal.coe_neg] <;> norm_num).trans (congrArg _ (by norm_num))
  | n + 40, h => omega

/-- The words of the table that spreads the normalisers. -/
theorem spread_words : ∀ (r : Fin 6) (q : Fin 120), lit1 (S6x120.rowMajor (ix2 r q)) = if q.val / 40 = r.val then 0x40000000#32 else 0#32 := by
  decide +kernel

/-- The words of the table that gathers the bins. -/
theorem gather_words : ∀ (r : Fin 6) (q : Fin 128), lit2 (S6x128.rowMajor (ix2 r q))
    = if q.val < 120 then (if q.val / 40 = r.val then 0xBF800000#32 else if 3 + q.val / 40 = r.val then 0x3F800000#32 else 0#32) else 0#32 := by
  decide +kernel

/-- The word of two. -/
theorem word_two : Ideal.ofBits .f32 0x40000000#32 = ((2 : ℝ) : EReal) := by
  simp [Ideal.ofBits, Ideal.ieee, -EReal.coe_mul]; try norm_num
/-- The word of minus one. -/
theorem word_neg_one : Ideal.ofBits .f32 0xBF800000#32 = ((-1 : ℝ) : EReal) := by
  simp [Ideal.ofBits, Ideal.ieee, -EReal.coe_mul, -EReal.coe_neg]; try norm_num

/-- The edges of the bins: twenty less the place within the spline. -/
theorem edge_at (q : Fin 120) : Ideal.ofBits .f32 (lit0 (S120.rowMajor (ix1 q))) = ((20 - ((q.val % 40 : ℕ) : ℝ) : ℝ) : EReal) := by
  rw [edge_words]
  exact edge_bits ⟨q.val % 40, by omega⟩

/-- The table of the ramps' sums: two where the bin is of the spline. -/
theorem spread_at (r : Fin 6) (q : Fin 120) : Ideal.ofBits .f32 (lit1 (S6x120.rowMajor (ix2 r q)))
    = ((if q.val / 40 = r.val then 2 else 0 : ℝ) : EReal) := by
  rw [spread_words]
  split_ifs
  · exact word_two
  · exact Ideal.ofBits_zero_f32

/-- The table of the bins' sums: minus one and one where the bin is of the spline. -/
theorem gather_at (r : Fin 6) (q : Fin 128) : Ideal.ofBits .f32 (lit2 (S6x128.rowMajor (ix2 r q)))
    = ((if q.val < 120 then (if q.val / 40 = r.val then -1 else if 3 + q.val / 40 = r.val then 1 else 0) else 0 : ℝ) : EReal) := by
  rw [gather_words]
  split_ifs
  · exact word_neg_one
  · exact Ideal.ofBits_one_f32
  · exact Ideal.ofBits_zero_f32
  · exact Ideal.ofBits_zero_f32

end
end Flow
-- ==== Proof.Start.lean ====
module

public import proofs.«01_k».proof.Proof.Core
public import Mathlib.Analysis.Real.Sqrt

/-!
The chart that carries a row of the input into the cube, over the real numbers.

The first three coordinates are clipped to `[-1, 1]`. The other three, a vector in units of the
single-precision `π`, go from the open unit ball onto the cube: each is stretched by the reciprocal
square root of what is left of the unit (`start`), then through the polynomial arctangent
`arctan`; a row whose vector is not in the open ball gets zeros. The row itself is of extended
reals, since nothing is asked of the input. `abs_start_le`: the result lies in the cube.
-/

@[expose] public section

namespace Flow
open Idealize.ShloMosaic
open scoped BigOperators
noncomputable section

/-- The single-precision `π`. -/
def pif : ℝ := 13176795 / 4194304
/-- The least that the chart leaves of the unit. -/
def eps : ℝ := 2305843 / 2305843009213693952

/-- The polynomial of the arctangent, over its argument: in the square of the argument. -/
def poly (s : ℝ) : ℝ :=
  1 + s * (-5592399 / 16777216 + s * (13420787 / 67108864 + s * (-9572751 / 67108864 + s * (7351775 / 67108864
    + s * (-11293761 / 134217728 + s * (15618543 / 268435456 + s * (-8437541 / 268435456
    + s * (5940071 / 536870912 + s * (-15715825 / 8589934592)))))))))

/-- The polynomial arctangent on `[0, 1]`. -/
def arctan1 (r : ℝ) : ℝ := r * poly (r * r)
/-- The magnitude of the polynomial arctangent, of the magnitude of its argument. -/
def arctanMag (a : ℝ) : ℝ := if 1 < a then pif / 2 - arctan1 (1 / a) else arctan1 a
/-- The polynomial arctangent. -/
def arctan (t : ℝ) : ℝ := if t < 0 then -arctanMag |t| else arctanMag |t|

/-- The squared length of a row's vector, in units of the single-precision `π`. -/
def ball (X : Fin 6 → EReal) : EReal :=
  ∑ k : Fin 3, X (hi k) * ((1 / pif : ℝ) : EReal) * (X (hi k) * ((1 / pif : ℝ) : EReal))

/-- What a coordinate of the open ball becomes, of what the squares leave of the unit. -/
def chart (v n : ℝ) : ℝ := arctan (v / pif * (√(max (1 - n) eps))⁻¹) / (pif / 2)

/-- The row in the cube that a row of the input starts from. -/
def start (X : Fin 6 → EReal) (j : Fin 6) : ℝ :=
  if j.val < 3 then (min ((1 : ℝ) : EReal) (max ((-1 : ℝ) : EReal) (X j))).toReal
  else if ball X < 1 then chart (X j).toReal (ball X).toReal else 0

/-- The floor of what is left of the unit is positive. -/
theorem eps_pos : 0 < eps := by unfold eps; norm_num
/-- The single-precision `π` is positive. -/
theorem pif_pos : 0 < pif := by unfold pif; norm_num

/-- One step of the nested polynomial keeps bounds. -/
private theorem step {s a q l u : ℝ} (h0 : 0 ≤ s) (h1 : s ≤ 1) (hl : l ≤ q) (hu : q ≤ u) (l0 : l ≤ 0) (u0 : 0 ≤ u) :
    a + l ≤ a + s * q ∧ a + s * q ≤ a + u := by
  constructor <;> nlinarith

/-- On `[0, 1]` the polynomial lies in `[0, 1]`. -/
theorem poly_mem {s : ℝ} (h0 : 0 ≤ s) (h1 : s ≤ 1) : 0 ≤ poly s ∧ poly s ≤ 1 := by
  unfold poly
  have q8 := step (a := 5940071 / 536870912) h0 h1 (le_refl (-15715825 / 8589934592 : ℝ)) (le_refl _ |>.trans (by norm_num : (-15715825 / 8589934592 : ℝ) ≤ 0)) (by norm_num) le_rfl
  have q7 := step (a := -8437541 / 268435456) h0 h1 (le_trans (by norm_num : (0 : ℝ) ≤ _) q8.1) q8.2 le_rfl (by norm_num)
  have q6 := step (a := 15618543 / 268435456) h0 h1 q7.1 (q7.2.trans (by norm_num : _ ≤ (0 : ℝ))) (by norm_num) le_rfl
  have q5 := step (a := -11293761 / 134217728) h0 h1 (le_trans (by norm_num : (0 : ℝ) ≤ _) q6.1) q6.2 le_rfl (by norm_num)
  have q4 := step (a := 7351775 / 67108864) h0 h1 q5.1 (q5.2.trans (by norm_num : _ ≤ (0 : ℝ))) (by norm_num) le_rfl
  have q3 := step (a := -9572751 / 67108864) h0 h1 (le_trans (by norm_num : (0 : ℝ) ≤ _) q4.1) q4.2 le_rfl (by norm_num)
  have q2 := step (a := 13420787 / 67108864) h0 h1 q3.1 (q3.2.trans (by norm_num : _ ≤ (0 : ℝ))) (by norm_num) le_rfl
  have q1 := step (a := -5592399 / 16777216) h0 h1 (le_trans (by norm_num : (0 : ℝ) ≤ _) q2.1) q2.2 le_rfl (by norm_num)
  have q0 := step (a := 1) h0 h1 q1.1 (q1.2.trans (by norm_num : _ ≤ (0 : ℝ))) (by norm_num) le_rfl
  exact ⟨le_trans (by norm_num) q0.1, q0.2.trans (by norm_num)⟩

/-- On `[0, 1]` the polynomial arctangent lies in `[0, 1]`. -/
theorem arctan1_mem {r : ℝ} (h0 : 0 ≤ r) (h1 : r ≤ 1) : 0 ≤ arctan1 r ∧ arctan1 r ≤ 1 := by
  obtain ⟨a, b⟩ := poly_mem (s := r * r) (mul_nonneg h0 h0) (by nlinarith)
  exact ⟨mul_nonneg h0 a, by unfold arctan1; nlinarith⟩

/-- The magnitude of the polynomial arctangent is at most half of `π`. -/
theorem arctanMag_mem {a : ℝ} (h : 0 ≤ a) : 0 ≤ arctanMag a ∧ arctanMag a ≤ pif / 2 := by
  have hp : (1 : ℝ) ≤ pif / 2 := by unfold pif; norm_num
  unfold arctanMag
  split
  · next h1 =>
    obtain ⟨l, u⟩ := arctan1_mem (r := 1 / a) (by positivity) ((div_le_one (by linarith)).2 h1.le)
    constructor <;> linarith
  · next h1 =>
    obtain ⟨l, u⟩ := arctan1_mem h (not_lt.1 h1)
    constructor <;> linarith

/-- The polynomial arctangent is at most half of `π` in magnitude. -/
theorem abs_arctan_le (t : ℝ) : |arctan t| ≤ pif / 2 := by
  obtain ⟨l, u⟩ := arctanMag_mem (abs_nonneg t)
  unfold arctan
  split <;> rw [abs_le] <;> constructor <;> linarith

/-- A row starts inside the cube. -/
theorem abs_start_le (X : Fin 6 → EReal) (j : Fin 6) : |start X j| ≤ 1 := by
  unfold start
  split
  · induction X j with
    | bot => rw [max_eq_left bot_le, ← coe_min, EReal.toReal_coe, abs_le]; norm_num
    | top => rw [max_eq_right le_top, min_eq_left le_top, EReal.toReal_coe]; norm_num
    | coe r =>
      rw [← coe_max, ← coe_min, EReal.toReal_coe, abs_le]
      exact ⟨le_min (by norm_num) (le_max_left _ _), min_le_left _ _⟩
  split
  · have hp := pif_pos
    unfold chart
    rw [abs_div, abs_of_pos (by positivity : 0 < pif / 2), div_le_one (by positivity)]
    exact abs_arctan_le _
  · simp

/-- The clipped coordinate is the real number that `start` says. -/
theorem clip_eq (X : Fin 6 → EReal) (j : Fin 6) (h : j.val < 3) :
    min ((1 : ℝ) : EReal) (max ((-1 : ℝ) : EReal) (X j)) = ((start X j : ℝ) : EReal) := by
  unfold start
  rw [if_pos h]
  induction X j with
  | bot => rw [max_eq_left bot_le, ← coe_min, EReal.toReal_coe]
  | top => rw [max_eq_right le_top, min_eq_left le_top, EReal.toReal_coe]
  | coe r => rw [← coe_max, ← coe_min, EReal.toReal_coe]

/-- In the open ball every coordinate of the vector is a real number. -/
theorem real_of_ball {X : Fin 6 → EReal} (h : ball X < 1) (k : Fin 3) : X (hi k) = ((X (hi k)).toReal : EReal) := by
  have hp : (0 : ℝ) < 1 / pif := by have := pif_pos; positivity
  have hn : ∀ k : Fin 3, 0 ≤ X (hi k) * ((1 / pif : ℝ) : EReal) * (X (hi k) * ((1 / pif : ℝ) : EReal)) := fun k => by
    induction X (hi k) with
    | bot => rw [EReal.bot_mul_coe_of_pos hp]; simp
    | top => rw [EReal.top_mul_coe_of_pos hp]; simp
    | coe r => rw [← EReal.coe_mul, ← EReal.coe_mul]; exact_mod_cast mul_self_nonneg _
  have hk : X (hi k) * ((1 / pif : ℝ) : EReal) * (X (hi k) * ((1 / pif : ℝ) : EReal)) < 1 :=
    lt_of_le_of_lt (Finset.single_le_sum (fun i _ => hn i) (Finset.mem_univ k)) h
  generalize X (hi k) = v at hk
  induction v with
  | bot => rw [EReal.bot_mul_coe_of_pos hp] at hk; simp at hk
  | top => rw [EReal.top_mul_coe_of_pos hp] at hk; simp at hk
  | coe r => simp

/-- In the open ball the squared length is a real number. -/
theorem ball_real {X : Fin 6 → EReal} (h : ball X < 1) : ball X = ((ball X).toReal : EReal) := by
  have e : ball X = ((∑ k : Fin 3, (X (hi k)).toReal * (1 / pif) * ((X (hi k)).toReal * (1 / pif)) : ℝ) : EReal) := by
    unfold ball
    rw [coe_sum]
    refine Finset.sum_congr rfl fun k _ => ?_
    rw [EReal.coe_mul, EReal.coe_mul, ← real_of_ball h k]
  rw [e, EReal.toReal_coe]

/-! The words that the two programs spell the chart's constants with. -/

/-- The word of the coefficient of the power 9 of the square. -/
theorem bits_a9 : Ideal.ofBits .f32 3136278001#32 = ((-15715825 / 8589934592 : ℝ) : EReal) := by
  simp [Ideal.ofBits, Ideal.ieee, pif, eps, -EReal.coe_mul, -EReal.coe_neg]; norm_num
/-- The word of the coefficient of the power 8 of the square. -/
theorem bits_a8 : Ideal.ofBits .f32 1010124494#32 = ((5940071 / 536870912 : ℝ) : EReal) := by
  simp [Ideal.ofBits, Ideal.ieee, pif, eps, -EReal.coe_mul, -EReal.coe_neg]; norm_num
/-- The word of the coefficient of the power 7 of the square. -/
theorem bits_a7 : Ideal.ofBits .f32 3170942757#32 = ((-8437541 / 268435456 : ℝ) : EReal) := by
  simp [Ideal.ofBits, Ideal.ieee, pif, eps, -EReal.coe_mul, -EReal.coe_neg]; norm_num
/-- The word of the coefficient of the power 6 of the square. -/
theorem bits_a6 : Ideal.ofBits .f32 1030640111#32 = ((15618543 / 268435456 : ℝ) : EReal) := by
  simp [Ideal.ofBits, Ideal.ieee, pif, eps, -EReal.coe_mul, -EReal.coe_neg]; norm_num
/-- The word of the coefficient of the power 5 of the square. -/
theorem bits_a5 : Ideal.ofBits .f32 3182187585#32 = ((-11293761 / 134217728 : ℝ) : EReal) := by
  simp [Ideal.ofBits, Ideal.ieee, pif, eps, -EReal.coe_mul, -EReal.coe_neg]; norm_num
/-- The word of the coefficient of the power 4 of the square. -/
theorem bits_a4 : Ideal.ofBits .f32 1038113726#32 = ((7351775 / 67108864 : ℝ) : EReal) := by
  simp [Ideal.ofBits, Ideal.ieee, pif, eps, -EReal.coe_mul, -EReal.coe_neg]; norm_num
/-- The word of the coefficient of the power 3 of the square. -/
theorem bits_a3 : Ideal.ofBits .f32 3188855183#32 = ((-9572751 / 67108864 : ℝ) : EReal) := by
  simp [Ideal.ofBits, Ideal.ieee, pif, eps, -EReal.coe_mul, -EReal.coe_neg]; norm_num
/-- The word of the coefficient of the power 2 of the square. -/
theorem bits_a2 : Ideal.ofBits .f32 1045219571#32 = ((13420787 / 67108864 : ℝ) : EReal) := by
  simp [Ideal.ofBits, Ideal.ieee, pif, eps, -EReal.coe_mul, -EReal.coe_neg]; norm_num
/-- The word of the coefficient of the power 1 of the square. -/
theorem bits_a1 : Ideal.ofBits .f32 3198855838#32 = ((-5592399 / 16777216 : ℝ) : EReal) := by
  simp [Ideal.ofBits, Ideal.ieee, pif, eps, -EReal.coe_mul, -EReal.coe_neg]; norm_num
/-- The word of the floor of what is left of the unit. -/
theorem bits_eps : Ideal.ofBits .f32 730643660#32 = ((eps : ℝ) : EReal) := by
  simp [Ideal.ofBits, Ideal.ieee, pif, eps, -EReal.coe_mul, -EReal.coe_neg]; norm_num
/-- The word of half of `π`. -/
theorem bits_half : Ideal.ofBits .f32 1070141403#32 = ((pif / 2 : ℝ) : EReal) := by
  simp [Ideal.ofBits, Ideal.ieee, pif, eps, -EReal.coe_mul, -EReal.coe_neg]; norm_num
/-- The word of `π`. -/
theorem bits_pif : Ideal.ofBits .f32 1078530011#32 = ((pif : ℝ) : EReal) := by
  simp [Ideal.ofBits, Ideal.ieee, pif, eps, -EReal.coe_mul, -EReal.coe_neg]; norm_num
/-- The word of minus one. -/
theorem bits_neg1 : Ideal.ofBits .f32 3212836864#32 = ((-1 : ℝ) : EReal) := by
  simp [Ideal.ofBits, Ideal.ieee, pif, eps, -EReal.coe_mul, -EReal.coe_neg]; norm_num

end
end Flow
-- ==== Proof.KSphere.lean ====
module

public import proofs.«01_k».proof.Proof.Start
public import proofs.«01_k».proof.Proof.Gen.KernelIdeal.Skeleton
public import Idealize.ShloMosaic.Lib.Pointwise

/-!
The chart of the kernel's body, read at an index: `kStart_apply`.
-/

@[expose] public section

namespace Flow
open Idealize.ShloMosaic Cert.KernelIdeal Cert.KernelIdeal.Gen
open scoped BigOperators
noncomputable section
variable [Cert.KernelIdeal.Facts]

set_option maxRecDepth 16384

/-- The rows that a block's points start from, as the kernel's body prints them. -/
def kStart (x : Vec Ideal S4096x6 .f32) : FVec Ideal S6x4096 .f32 :=
  k0_pay12 (k0_pay3 x) (k0_pay5 x) (k0_pay6 x) (k0_pay8 x) (k0_pay9 x) (k0_pay10 x) (k0_pay11 x)

/-- The named constant `inv_pi` is the reciprocal of the single-precision `π`. -/
theorem named_inv_pi : (Named.named κ "inv_pi" (φ := .f32) 1050868099#32 : Ideal .f32) = ((1 / pif : ℝ) : EReal) := by
  refine (IdealRules.named_const.ideal_named_scalar _ _ _ _ rfl).trans ?_
  congr 1; unfold pif; norm_num
/-- The named constant `two_over_pi` is the reciprocal of half the single-precision `π`. -/
theorem named_two_over_pi : (Named.named κ "two_over_pi" (φ := .f32) 1059256707#32 : Ideal .f32) = ((1 / (pif / 2) : ℝ) : EReal) := by
  refine (IdealRules.named_const.ideal_named_scalar _ _ _ _ rfl).trans ?_
  congr 1; unfold pif; norm_num

/-- The clipped coordinates at an index. -/
theorem pay3_at (x : Vec Ideal S4096x6 .f32) (j : Fin 3) (t : Fin 4096) :
    k0_pay3 x (ix2 j t) = min 1 (max (Ideal.ofBits .f32 3212836864#32) (x (ix2 t ⟨j.val, by omega⟩))) := by
  pointwise [k0_pay3, k0_pay2]

/-- The vector in units of `π` at an index. -/
theorem pay4_at (x : Vec Ideal S4096x6 .f32) (j : Fin 3) (t : Fin 4096) :
    k0_pay4 x (ix2 j t) = x (ix2 t (hi j)) * ((1 / pif : ℝ) : EReal) := by
  rw [← named_inv_pi]
  pointwise [k0_pay4, k0_pay2, hi]

/-- Its squared length at an index. -/
theorem pay5_at (x : Vec Ideal S4096x6 .f32) (t : Fin 4096) :
    k0_pay5 x (ix2 0 t) = ball fun k => x (ix2 t k) := by
  have : k0_pay5 x (ix2 0 t) = ∑ k : Fin 3, k0_pay4 x (ix2 k t) * k0_pay4 x (ix2 k t) := by
    pointwise [k0_pay5]
  rw [this]
  simp only [pay4_at]
  rfl

/-- The stretched vector at an index. -/
theorem pay6_at (x : Vec Ideal S4096x6 .f32) (j : Fin 3) (t : Fin 4096) :
    k0_pay6 x (ix2 j t) = k0_pay4 x (ix2 j t) * Ideal.rsqrt (max (1 - k0_pay5 x (ix2 0 t)) (Ideal.ofBits .f32 730643660#32)) := by
  pointwise [k0_pay6]

/-- The argument of the polynomial at an index. -/
theorem pay9_at (x : Vec Ideal S4096x6 .f32) (j : Fin 3) (t : Fin 4096) :
    k0_pay9 x (ix2 j t) = if 1 < FloatOps.absf (k0_pay6 x (ix2 j t)) then Ideal.div 1 (FloatOps.absf (k0_pay6 x (ix2 j t)))
      else FloatOps.absf (k0_pay6 x (ix2 j t)) := by
  pointwise [k0_pay9, k0_pay8, k0_pay7]

/-- Whether the magnitude is beyond one at an index. -/
theorem pay8_at (x : Vec Ideal S4096x6 .f32) (j : Fin 3) (t : Fin 4096) :
    k0_pay8 x (ix2 j t) = BitVec.ofBool (decide (1 < FloatOps.absf (k0_pay6 x (ix2 j t)))) := by
  pointwise [k0_pay8, k0_pay7]

/-- The square of the argument at an index. -/
theorem pay10_at (x : Vec Ideal S4096x6 .f32) (j : Fin 3) (t : Fin 4096) :
    k0_pay10 x (ix2 j t) = k0_pay9 x (ix2 j t) * k0_pay9 x (ix2 j t) := by
  pointwise [k0_pay10]

/-- The upper half of the polynomial at an index. -/
theorem pay11_at (x : Vec Ideal S4096x6 .f32) (j : Fin 3) (t : Fin 4096) {r : ℝ} (h : k0_pay10 x (ix2 j t) = (r : EReal)) :
    k0_pay11 x (ix2 j t) = ((((((-15715825 / 8589934592 * r + 5940071 / 536870912) * r + -8437541 / 268435456) * r
      + 15618543 / 268435456) * r + -11293761 / 134217728) * r + 7351775 / 67108864 : ℝ) : EReal) := by
  pointwise [k0_pay11]
  simp only [h, bits_a9, bits_a8, bits_a7, bits_a6, bits_a5, bits_a4, ← EReal.coe_mul, ← EReal.coe_add]

/-- The body's polynomial, on real numbers. -/
theorem kpoly (q r s : ℝ) (hs : s = r * r) (hq : q = ((((-15715825 / 8589934592 * s + 5940071 / 536870912) * s + -8437541 / 268435456) * s
      + 15618543 / 268435456) * s + -11293761 / 134217728) * s + 7351775 / 67108864) :
    ((((q * s + -9572751 / 67108864) * s + 13420787 / 67108864) * s + -5592399 / 16777216) * s + 1) * r = arctan1 r := by
  unfold arctan1 poly; rw [hq, hs]; ring

/-- The six start coordinates at an index. -/
theorem pay12_at (v6 : FVec Ideal S3x4096 .f32) (v12 : FVec Ideal S1x4096 .f32) (v19 : FVec Ideal S3x4096 .f32)
    (v22 : IVec S3x4096 1) (v25 v26 v42 : FVec Ideal S3x4096 .f32) (j : Fin 6) (t : Fin 4096) :
    k0_pay12 v6 v12 v19 v22 v25 v26 v42 (ix2 j t) = if h : j.val < 3 then v6 (ix2 ⟨j.val, h⟩ t) else
      if v12 (ix2 0 t) < 1 then
        let g : Fin 3 := ⟨j.val - 3, by omega⟩
        let q : EReal := ((((v42 (ix2 g t) * v26 (ix2 g t) + Ideal.ofBits .f32 3188855183#32) * v26 (ix2 g t)
          + Ideal.ofBits .f32 1045219571#32) * v26 (ix2 g t) + Ideal.ofBits .f32 3198855838#32) * v26 (ix2 g t) + 1) * v25 (ix2 g t)
        let y : EReal := Scalar.select (v22 (ix2 g t)) (Ideal.ofBits .f32 1070141403#32 - q) q
        (if v19 (ix2 g t) < 0 then 0 - y else y) * ((1 / (pif / 2) : ℝ) : EReal)
      else 0 := by
  rw [← named_two_over_pi]
  pointwise [k0_pay12]

/-- The kernel's chart at an index: the row that a row of the block starts from. -/
theorem kStart_apply (x : Vec Ideal S4096x6 .f32) (j : Fin 6) (t : Fin 4096) :
    kStart x (ix2 j t) = ((start (fun k => x (ix2 t k)) j : ℝ) : EReal) := by
  unfold kStart
  rw [pay12_at]
  split
  · next h =>
    rw [pay3_at, bits_neg1]
    exact clip_eq (fun k => x (ix2 t k)) j h
  next h =>
  unfold start
  rw [if_neg h, pay5_at]
  split
  · next hb =>
    set X : Fin 6 → EReal := fun k => x (ix2 t k) with hX
    obtain ⟨g, rfl⟩ : ∃ g : Fin 3, j = hi g := ⟨⟨j.val - 3, by omega⟩, Fin.ext (by simp only [hi]; omega)⟩
    have hg : (⟨(hi g).val - 3, by omega⟩ : Fin 3) = g := Fin.ext (by simp only [hi]; omega)
    rw [hg]
    obtain ⟨n, hn⟩ : ∃ n, n = (ball X).toReal := ⟨_, rfl⟩
    obtain ⟨v, hv⟩ : ∃ v, v = (X (hi g)).toReal := ⟨_, rfl⟩
    rw [← hn, ← hv]
    have e4 : k0_pay4 x (ix2 g t) = ((v / pif : ℝ) : EReal) := by
      rw [pay4_at]
      show X (hi g) * _ = _
      rw [real_of_ball hb g, ← EReal.coe_mul, ← hv]; congr 1; ring
    have e5 : k0_pay5 x (ix2 0 t) = (n : EReal) := by rw [pay5_at, hn]; exact ball_real hb
    obtain ⟨τ, hτ⟩ : ∃ τ, τ = v / pif * (√(max (1 - n) eps))⁻¹ := ⟨_, rfl⟩
    have hu : 0 < max (1 - n) eps := lt_max_of_lt_right eps_pos
    have e6 : k0_pay6 x (ix2 g t) = (τ : EReal) := by
      rw [pay6_at, e4, e5, bits_eps, ← EReal.coe_one, ← EReal.coe_sub, ← coe_max, Ideal.rsqrt_coe, if_neg hu.not_gt, if_neg hu.ne',
        ← EReal.coe_mul, hτ]
    have ea : (FloatOps.absf (k0_pay6 x (ix2 g t)) : EReal) = ((|τ| : ℝ) : EReal) := by
      rw [e6]
      show max (τ : EReal) (-τ) = _
      rw [← EReal.coe_neg, ← coe_max]; rfl
    have e9 : k0_pay9 x (ix2 g t) = ((if 1 < |τ| then 1 / |τ| else |τ| : ℝ) : EReal) := by
      rw [pay9_at, ea]
      simp only [← EReal.coe_one, EReal.coe_lt_coe_iff]
      split
      · next h1 => rw [div_coe_coe _ (by linarith)]
      · rfl
    have e8 : k0_pay8 x (ix2 g t) = BitVec.ofBool (decide (1 < |τ|)) := by
      rw [pay8_at, ea]
      simp only [← EReal.coe_one, EReal.coe_lt_coe_iff]
    obtain ⟨r, hr⟩ : ∃ r, r = (if 1 < |τ| then 1 / |τ| else |τ| : ℝ) := ⟨_, rfl⟩
    rw [← hr] at e9
    have e10 : k0_pay10 x (ix2 g t) = ((r * r : ℝ) : EReal) := by rw [pay10_at, e9, ← EReal.coe_mul]
    have e11 := pay11_at x g t e10
    simp only [e6, e8, e9, e10, e11, bits_a3, bits_a2, bits_a1, bits_half]
    simp only [← EReal.coe_one, ← EReal.coe_zero, ← EReal.coe_mul, ← EReal.coe_add, ← EReal.coe_sub, EReal.coe_lt_coe_iff]
    rw [kpoly _ r (r * r) rfl rfl]
    have ey : (Scalar.select (BitVec.ofBool (decide (1 < |τ|))) ((pif / 2 - arctan1 r : ℝ) : EReal) ((arctan1 r : ℝ) : EReal) : EReal)
        = ((arctanMag |τ| : ℝ) : EReal) := by
      unfold arctanMag
      by_cases h1 : 1 < |τ|
      · rw [if_pos h1] at hr
        simp [h1, hr, Scalar.select]
      · rw [if_neg h1] at hr
        simp [h1, hr, Scalar.select]
    rw [ey]
    unfold chart arctan
    rw [← hτ]
    split
    · rw [← EReal.coe_sub, ← EReal.coe_mul]; congr 1; rw [zero_sub]; ring
    · rw [← EReal.coe_mul]; congr 1; ring
  · simp

end
end Flow
-- ==== Proof.KChain.lean ====
module

public import proofs.«01_k».proof.Proof.KLayer
public import proofs.«01_k».proof.Proof.KSphere
public import proofs.«01_k».proof.Proof.Gen.KernelIdeal.Frame

/-!
The kernel's body as a chain: the chart, the eight layers one after the other, the last reordering.
-/

@[expose] public section

namespace Flow
open Idealize.ShloMosaic Cert.KernelIdeal Cert.KernelIdeal.Gen
open scoped BigOperators
noncomputable section

set_option maxRecDepth 16384

variable [Cert.KernelIdeal.Facts]

section pieces
variable (A a : FVec Ideal S128x4096 .f32) (e : FVec Ideal S128x4096 .bf16) (w : FVec Ideal S120x4096 .f32)
  (A1 : Vec Ideal S1x128x6 .bf16) (Ae : Vec Ideal S1x128x6 .f32)
  (b1 : Vec Ideal S1x128x1 .bf16) (W2 : Vec Ideal S1x128x128 .bf16) (b2 : Vec Ideal S1x128x1 .bf16)
  (W3 : Vec Ideal S1x128x128 .bf16) (b3 : Vec Ideal S1x128x1 .bf16) (ck : Vec Ideal S120x1 .f32)
  (Ra : Vec Ideal S6x120 .bf16) (Rb : Vec Ideal S6x128 .bf16) (M : Vec Ideal S6x6 .f32)

/-- The last reordering of the body, the points back in rows. -/
def kOut (M : Vec Ideal S6x6 .f32) (Z : FVec Ideal S6x4096 .f32) : FVec Ideal S4096x6 .f32 :=
  matmul dot_S6x4096_S6x6_S4096x6_0_0_1_1_n_n none Z (shapeCast S6x6 M shapeCasts_S6x6_S6x6 : FVec Ideal S6x6 .f32)
    (constant S4096x6 .f32 0x00000000#32)

/-- A layer after its two mixed products. -/
def kTail (A : FVec Ideal S128x4096 .f32) (H : FVec Ideal S128x4096 .bf16) (b1 : Vec Ideal S1x128x1 .bf16)
    (W2 : Vec Ideal S1x128x128 .bf16) (b2 : Vec Ideal S1x128x1 .bf16) (W3 : Vec Ideal S1x128x128 .bf16)
    (b3 : Vec Ideal S1x128x1 .bf16) (ck : Vec Ideal S120x1 .f32) (Ra : Vec Ideal S6x120 .bf16)
    (Rb : Vec Ideal S6x128 .bf16) : FVec Ideal S6x4096 .f32 :=
  k0_pay17 A (k0_pay15 H b1 W2 b2 W3 b3) (k0_pay16 A ck) Ra Rb

/-- A layer as the body is cut around it is the layer as one expression: cut inside the network, after the second product. -/
theorem piece1 (yt : FVec Ideal S3x4096 .f32)
    (h : yt = k0_pay21 A (k0_pay19 a e w Ra Rb A1 b1 W2) (k0_pay20 b2) W3 b3 ck Ra Rb) :
    k0_pay22 A yt = kTail A (kH A1 (k0_pay17 a e w Ra Rb)) b1 W2 b2 W3 b3 ck Ra Rb := by
  subst h; rfl

/-- A layer as the body is cut around it is the layer as one expression: cut before the last bias. -/
theorem piece2 (yt : FVec Ideal S3x4096 .f32) :
    k0_pay26 A (k0_pay24 a yt A1 b1 W2 b2 W3) (k0_pay25 b3) ck Ra Rb
      = kTail A (kH A1 (k0_pay22 a yt)) b1 W2 b2 W3 b3 ck Ra Rb := rfl

/-- A layer as the body is cut around it is the layer as one expression: cut after the ramps. -/
theorem piece3 (H : FVec Ideal S128x4096 .bf16) :
    k0_pay32 A (k0_pay29 H b1 W2 b2 W3 b3) (k0_pay30 A ck) (Scalar.ofBits .f32 0x3F800000#32) (k0_pay31 (F := Ideal)) Ra Rb
      = kTail A H b1 W2 b2 W3 b3 ck Ra Rb := rfl

/-- A layer as the body is cut around it is the layer as one expression: cut inside the ramps and the network. -/
theorem piece4 (s z : FVec Ideal S120x4096 .f32) (u : Ideal .f32) :
    k0_pay36 A (k0_pay35 A (k0_pay34 a e s u z Ra Rb A1 b1 W2) b2 W3 b3 ck Ra Rb)
      = kTail A (kH A1 (k0_pay32 a e s u z Ra Rb)) b1 W2 b2 W3 b3 ck Ra Rb := rfl

/-- A layer as the body is cut around it is the layer as one expression: cut before the last bias, the coordinates joined. -/
theorem piece5 (v : FVec Ideal S6x4096 .f32) :
    k0_pay39 A (k0_pay38 a v A1 b1 W2 b2 W3) b3 ck Ra Rb
      = kTail A (kH A1 (k0_pay36 a v)) b1 W2 b2 W3 b3 ck Ra Rb := rfl

/-- A layer as the body is cut around it is the layer as one expression: cut after the network and the ramps. -/
theorem piece6 (Z : FVec Ideal S6x4096 .f32) (H : FVec Ideal S128x4096 .bf16) :
    k0_pay45 (k0_pay42 Z (k0_pay41 Ae)) (k0_pay43 H b1 W2 b2 W3 b3) (k0_pay44 Z (k0_pay41 Ae) ck) Ra Rb
      = kTail (kA Ae Z) H b1 W2 b2 W3 b3 ck Ra Rb := rfl

/-- A layer as the body is cut around it is the layer as one expression: the last layer, with the last reordering. -/
theorem piece7 (s : FVec Ideal S120x4096 .f32) :
    k0_pay1 A (k0_pay48 (k0_pay47 a e s Ra Rb A1 b1 W2) b2 W3 b3) (k0_pay49 A (k0_pay47 a e s Ra Rb A1 b1 W2) b2 W3 b3 ck Ra) (k0_pay50 Rb) M
      = kOut M (kTail A (kH A1 (k0_pay45 a e s Ra Rb)) b1 W2 b2 W3 b3 ck Ra Rb) := rfl

end pieces

variable (x0 : Vec Ideal S4096x6 .f32) (x1 : Vec Ideal S8x128x6 .bf16) (x2 : Vec Ideal S8x128x6 .f32)
  (x3 : Vec Ideal S8x128x1 .bf16) (x4 : Vec Ideal S8x128x128 .bf16) (x5 : Vec Ideal S8x128x1 .bf16)
  (x6 : Vec Ideal S8x128x128 .bf16) (x7 : Vec Ideal S8x128x1 .bf16) (x8 : Vec Ideal S120x1 .f32)
  (x9 : Vec Ideal S6x120 .bf16) (x10 : Vec Ideal S6x128 .bf16) (x11 : Vec Ideal S6x6 .f32)

/-- The points of a block before the first layer. -/
def blockZ0 (x0 : Vec Ideal S4096x6 .f32) : FVec Ideal S6x4096 .f32 := kStart (View.ld x0 r0_0)
/-- The points of a block after 1 of the layers. -/
def blockZ1 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_1) (View.ld x2 r0_1) (View.ld x3 r0_2) (View.ld x4 r0_3) (View.ld x5 r0_2) (View.ld x6 r0_3) (View.ld x7 r0_2) (View.ld x8 r0_4) (View.ld x9 r0_5) (View.ld x10 r0_6) (blockZ0 x0)
/-- The points of a block after 2 of the layers. -/
def blockZ2 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_7) (View.ld x2 r0_7) (View.ld x3 r0_8) (View.ld x4 r0_9) (View.ld x5 r0_8) (View.ld x6 r0_9) (View.ld x7 r0_8) (View.ld x8 r0_4) (View.ld x9 r0_5) (View.ld x10 r0_6) (blockZ1 x0 x1 x2 x3 x4 x5 x6 x7 x8 x9 x10)
/-- The points of a block after 3 of the layers. -/
def blockZ3 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_10) (View.ld x2 r0_10) (View.ld x3 r0_11) (View.ld x4 r0_12) (View.ld x5 r0_11) (View.ld x6 r0_12) (View.ld x7 r0_11) (View.ld x8 r0_4) (View.ld x9 r0_5) (View.ld x10 r0_6) (blockZ2 x0 x1 x2 x3 x4 x5 x6 x7 x8 x9 x10)
/-- The points of a block after 4 of the layers. -/
def blockZ4 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_13) (View.ld x2 r0_13) (View.ld x3 r0_14) (View.ld x4 r0_15) (View.ld x5 r0_14) (View.ld x6 r0_15) (View.ld x7 r0_14) (View.ld x8 r0_4) (View.ld x9 r0_5) (View.ld x10 r0_6) (blockZ3 x0 x1 x2 x3 x4 x5 x6 x7 x8 x9 x10)
/-- The points of a block after 5 of the layers. -/
def blockZ5 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_16) (View.ld x2 r0_16) (View.ld x3 r0_17) (View.ld x4 r0_18) (View.ld x5 r0_17) (View.ld x6 r0_18) (View.ld x7 r0_17) (View.ld x8 r0_4) (View.ld x9 r0_5) (View.ld x10 r0_6) (blockZ4 x0 x1 x2 x3 x4 x5 x6 x7 x8 x9 x10)
/-- The points of a block after 6 of the layers. -/
def blockZ6 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_19) (View.ld x2 r0_19) (View.ld x3 r0_20) (View.ld x4 r0_21) (View.ld x5 r0_20) (View.ld x6 r0_21) (View.ld x7 r0_20) (View.ld x8 r0_4) (View.ld x9 r0_5) (View.ld x10 r0_6) (blockZ5 x0 x1 x2 x3 x4 x5 x6 x7 x8 x9 x10)
/-- The points of a block after 7 of the layers. -/
def blockZ7 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_22) (View.ld x2 r0_22) (View.ld x3 r0_23) (View.ld x4 r0_24) (View.ld x5 r0_23) (View.ld x6 r0_24) (View.ld x7 r0_23) (View.ld x8 r0_4) (View.ld x9 r0_5) (View.ld x10 r0_6) (blockZ6 x0 x1 x2 x3 x4 x5 x6 x7 x8 x9 x10)
/-- The points of a block after 8 of the layers. -/
def blockZ8 (x0 : Vec Ideal S4096x6 .f32) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) : FVec Ideal S6x4096 .f32 :=
  kLayer (View.ld x1 r0_25) (View.ld x2 r0_25) (View.ld x3 r0_26) (View.ld x4 r0_27) (View.ld x5 r0_26) (View.ld x6 r0_27) (View.ld x7 r0_26) (View.ld x8 r0_4) (View.ld x9 r0_5) (View.ld x10 r0_6) (blockZ7 x0 x1 x2 x3 x4 x5 x6 x7 x8 x9 x10)

/-- The mixed rows of layer 0, as the body prints them, are those of the chain. -/
theorem mix0 : k0_pay58 x0 x1 x2 x3 x4 x5 x6 x7 x8 x9 x10 x11 = kA (View.ld x2 r0_1) (blockZ0 x0) := rfl
/-- The coordinates after 1 of the layers, as the body prints them, are those of the chain. -/
theorem row1 : k0_pay17 (k0_pay58 x0 x1 x2 x3 x4 x5 x6 x7 x8 x9 x10 x11) (k0_pay59 x0 x1 x2 x3 x4 x5 x6 x7 x8 x9 x10 x11) (k0_pay60 x0 x1 x2 x3 x4 x5 x6 x7 x8 x9 x10 x11) (View.ld x9 r0_5) (View.ld x10 r0_6) = blockZ1 x0 x1 x2 x3 x4 x5 x6 x7 x8 x9 x10 := rfl
/-- The mixed rows of layer 1, as the body prints them, are those of the chain. -/
theorem mix1 : k0_pay61 x0 x1 x2 x3 x4 x5 x6 x7 x8 x9 x10 x11 = kA (View.ld x2 r0_7) (blockZ1 x0 x1 x2 x3 x4 x5 x6 x7 x8 x9 x10) := by
  rw [← row1]; rfl
/-- The coordinates after 2 of the layers, as the body prints them, are those of the chain. -/
theorem row2 : k0_pay22 (k0_pay61 x0 x1 x2 x3 x4 x5 x6 x7 x8 x9 x10 x11) (k0_pay62 x0 x1 x2 x3 x4 x5 x6 x7 x8 x9 x10 x11) = blockZ2 x0 x1 x2 x3 x4 x5 x6 x7 x8 x9 x10 := by
  rw [piece1 _ _ _ _ _ _ _ _ _ _ _ _ _ _ (k0_pay62.eq_1 x0 x1 x2 x3 x4 x5 x6 x7 x8 x9 x10 x11), mix1, row1]; rfl
/-- The mixed rows of layer 2, as the body prints them, are those of the chain. -/
theorem mix2 : k0_pay63 x0 x1 x2 x3 x4 x5 x6 x7 x8 x9 x10 x11 = kA (View.ld x2 r0_10) (blockZ2 x0 x1 x2 x3 x4 x5 x6 x7 x8 x9 x10) := by
  rw [← row2]; rfl
/-- The coordinates after 3 of the layers, as the body prints them, are those of the chain. -/
theorem row3 : k0_pay26 (k0_pay63 x0 x1 x2 x3 x4 x5 x6 x7 x8 x9 x10 x11) (k0_pay64 x0 x1 x2 x3 x4 x5 x6 x7 x8 x9 x10 x11) (k0_pay65 x0 x1 x2 x3 x4 x5 x6 x7 x8 x9 x10 x11) (View.ld x8 r0_4) (View.ld x9 r0_5) (View.ld x10 r0_6) = blockZ3 x0 x1 x2 x3 x4 x5 x6 x7 x8 x9 x10 := by
  unfold k0_pay64 k0_pay65
  rw [piece2, mix2, row2]; rfl
/-- The mixed rows of layer 3, as the body prints them, are those of the chain. -/
theorem mix3 : k0_pay66 x0 x1 x2 x3 x4 x5 x6 x7 x8 x9 x10 x11 = kA (View.ld x2 r0_13) (blockZ3 x0 x1 x2 x3 x4 x5 x6 x7 x8 x9 x10) := by
  rw [← row3]; rfl
/-- The coordinates after 4 of the layers, as the body prints them, are those of the chain. -/
theorem row4 : k0_pay32 (k0_pay66 x0 x1 x2 x3 x4 x5 x6 x7 x8 x9 x10 x11) (k0_pay67 x0 x1 x2 x3 x4 x5 x6 x7 x8 x9 x10 x11) (k0_pay68 x0 x1 x2 x3 x4 x5 x6 x7 x8 x9 x10 x11) (Scalar.ofBits .f32 0x3F800000#32) (k0_pay69 x0 x1 x2 x3 x4 x5 x6 x7 x8 x9 x10 x11) (View.ld x9 r0_5) (View.ld x10 r0_6) = blockZ4 x0 x1 x2 x3 x4 x5 x6 x7 x8 x9 x10 := by
  unfold k0_pay67 k0_pay68 k0_pay69
  rw [piece3, mix3]
  unfold blockZ4
  rw [← row3]; rfl
/-- The mixed rows of layer 4, as the body prints them, are those of the chain. -/
theorem mix4 : k0_pay70 x0 x1 x2 x3 x4 x5 x6 x7 x8 x9 x10 x11 = kA (View.ld x2 r0_16) (blockZ4 x0 x1 x2 x3 x4 x5 x6 x7 x8 x9 x10) := by
  rw [← row4]; rfl
/-- The coordinates after 5 of the layers, as the body prints them, are those of the chain. -/
theorem row5 : k0_pay36 (k0_pay70 x0 x1 x2 x3 x4 x5 x6 x7 x8 x9 x10 x11) (k0_pay71 x0 x1 x2 x3 x4 x5 x6 x7 x8 x9 x10 x11) = blockZ5 x0 x1 x2 x3 x4 x5 x6 x7 x8 x9 x10 := by
  unfold k0_pay71
  rw [piece4, mix4, row4]; rfl
/-- The mixed rows of layer 5, as the body prints them, are those of the chain. -/
theorem mix5 : k0_pay72 x0 x1 x2 x3 x4 x5 x6 x7 x8 x9 x10 x11 = kA (View.ld x2 r0_19) (blockZ5 x0 x1 x2 x3 x4 x5 x6 x7 x8 x9 x10) := by
  rw [← row5]; rfl
/-- The coordinates after 6 of the layers, as the body prints them, are those of the chain. -/
theorem row6 : k0_pay74 x0 x1 x2 x3 x4 x5 x6 x7 x8 x9 x10 x11 = blockZ6 x0 x1 x2 x3 x4 x5 x6 x7 x8 x9 x10 := by
  unfold k0_pay74 k0_pay73
  rw [piece5, mix5, row5]; rfl
/-- The coordinates after 7 of the layers, as the body prints them, are those of the chain. -/
theorem row7 : k0_pay45 (k0_pay76 x0 x1 x2 x3 x4 x5 x6 x7 x8 x9 x10 x11) (k0_pay77 x0 x1 x2 x3 x4 x5 x6 x7 x8 x9 x10 x11) (k0_pay78 x0 x1 x2 x3 x4 x5 x6 x7 x8 x9 x10 x11) (View.ld x9 r0_5) (View.ld x10 r0_6) = blockZ7 x0 x1 x2 x3 x4 x5 x6 x7 x8 x9 x10 := by
  unfold k0_pay76 k0_pay77 k0_pay78 k0_pay75
  rw [piece6]
  unfold blockZ7
  rw [← row6]; rfl
/-- The mixed rows of layer 7, as the body prints them, are those of the chain. -/
theorem mix7 : k0_pay79 x0 x1 x2 x3 x4 x5 x6 x7 x8 x9 x10 x11 = kA (View.ld x2 r0_25) (blockZ7 x0 x1 x2 x3 x4 x5 x6 x7 x8 x9 x10) := by
  rw [← row7]; rfl

/-- What the body leaves of a block: the chain. -/
theorem out_eq : out0_12 x0 x1 x2 x3 x4 x5 x6 x7 x8 x9 x10 x11 = View.canon [⟨r0_0, kOut (View.ld x11 r0_28) (blockZ8 x0 x1 x2 x3 x4 x5 x6 x7 x8 x9 x10)⟩] := by
  unfold out0_12 k0_pay80
  rw [piece7, mix7, row7]; rfl

end
end Flow
-- ==== Proof.KBlock.lean ====
module

public import proofs.«01_k».proof.Proof.KChain
public import proofs.«01_k».proof.Proof.Gen.KernelIdeal.Value
public import Idealize.ShloMosaic.Lib.Pipeline.ValueKit

/-!
The kernel's result array, read at an index, from what its operands hold when the grid runs.
-/

@[expose] public section

namespace Flow
open Idealize.ShloMosaic Cert.KernelIdeal Cert.KernelIdeal.Gen
open scoped BigOperators
noncomputable section

set_option maxRecDepth 16384

/-- A column after `n` of the kernel's layers: layer `i` reads the column through the places `cs i`. -/
def zAfter (cs : Fin 9 → Fin 6 → Fin 6) (Ls : Fin 8 → Layer) (z : Fin 6 → ℝ) : ℕ → Fin 6 → ℝ
  | 0 => z
  | n + 1 => if h : n < 8 then (Ls ⟨n, h⟩).apply (zAfter cs Ls z n ∘ cs ⟨n, by omega⟩) else zAfter cs Ls z n

/-- A column of the cube stays in the cube. -/
theorem abs_zAfter_le (cs : Fin 9 → Fin 6 → Fin 6) (Ls : Fin 8 → Layer) {z : Fin 6 → ℝ} (hz : ∀ k, |z k| ≤ 1) (n : ℕ) (k : Fin 6) :
    |zAfter cs Ls z n k| ≤ 1 := by
  induction n generalizing k with
  | zero => exact hz k
  | succ n ih =>
    unfold zAfter
    split
    · exact Layer.abs_apply_le _ (fun j => ih _) k
    · exact ih k

/-- What the operands of the body hold, beside the points: `cs` the places that each layer and the last reordering read, `Ls` the weights. -/
structure Packed (cs : Fin 9 → Fin 6 → Fin 6) (Ls : Fin 8 → Layer) (x1 : Vec Ideal S8x128x6 .bf16) (x2 : Vec Ideal S8x128x6 .f32)
    (x3 : Vec Ideal S8x128x1 .bf16) (x4 : Vec Ideal S8x128x128 .bf16) (x5 : Vec Ideal S8x128x1 .bf16)
    (x6 : Vec Ideal S8x128x128 .bf16) (x7 : Vec Ideal S8x128x1 .bf16) (x8 : Vec Ideal S120x1 .f32)
    (x9 : Vec Ideal S6x120 .bf16) (x10 : Vec Ideal S6x128 .bf16) (x11 : Vec Ideal S6x6 .f32) : Prop where
  h1 : ∀ (i : Fin 8) h k, x1 (ix3 i h k) = ((∑ j : Fin 3, sel (cs i.castSucc) k (lo j) * (Ls i).w1 j h : ℝ) : EReal)
  h2 : ∀ (i : Fin 8) r k, x2 (ix3 i r k) = ((aeff (cs i.castSucc) r k : ℝ) : EReal)
  h3 : ∀ (i : Fin 8) h, x3 (ix3 i h 0) = ((Ls i).b1 h : EReal)
  h4 : ∀ (i : Fin 8) g h, x4 (ix3 i g h) = ((Ls i).w2 h g : EReal)
  h5 : ∀ (i : Fin 8) g, x5 (ix3 i g 0) = ((Ls i).b2 g : EReal)
  h6 : ∀ (i : Fin 8) (q : Fin 128) g, x6 (ix3 i q g) = ((if h : q.val < 120 then (Ls i).w3 g ⟨q.val, h⟩ else 0 : ℝ) : EReal)
  h7 : ∀ (i : Fin 8) (q : Fin 128), x7 (ix3 i q 0) = ((if h : q.val < 120 then (Ls i).b3 ⟨q.val, h⟩ else 0 : ℝ) : EReal)
  hT : Tables x8 x9 x10
  h11 : ∀ k j, x11 (ix2 k j) = ((sel (cs 8) k j : ℝ) : EReal)

variable [Cert.KernelIdeal.Facts]

section
variable {cs : Fin 9 → Fin 6 → Fin 6} {Ls : Fin 8 → Layer} {x1 : Vec Ideal S8x128x6 .bf16} {x2 : Vec Ideal S8x128x6 .f32}
  {x3 : Vec Ideal S8x128x1 .bf16} {x4 : Vec Ideal S8x128x128 .bf16} {x5 : Vec Ideal S8x128x1 .bf16}
  {x6 : Vec Ideal S8x128x128 .bf16} {x7 : Vec Ideal S8x128x1 .bf16} {x8 : Vec Ideal S120x1 .f32}
  {x9 : Vec Ideal S6x120 .bf16} {x10 : Vec Ideal S6x128 .bf16} {x11 : Vec Ideal S6x6 .f32}
  (K : Packed cs Ls x1 x2 x3 x4 x5 x6 x7 x8 x9 x10 x11) (hL : ∀ i, (Ls i).Tame) (x0 : Vec Ideal S4096x6 .f32)

/-- A slab of one layer, read at an index, is the operand at that layer. -/
theorem slab_at {e : EltTy} {A B : ℕ} (X : Vec Ideal ⟨3, ![8, A, B]⟩ e) (i : Fin 8) (off : Fin 3 → ℕ) (hoff : off = ![i.val, 0, 0])
    (inb : ∀ a, off a + (![1, A, B] : Fin 3 → ℕ) a ≤ (![8, A, B] : Fin 3 → ℕ) a) (a : Fin A) (b : Fin B) :
    (View.ld (Val := Elt Ideal) X (Rect.unit (s := ⟨3, ![8, A, B]⟩) off ![1, A, B] inb) : Vec Ideal ⟨3, ![1, A, B]⟩ e) (ix3 0 a b) = X (ix3 i a b) := by
  subst hoff
  refine View.ld_unit_apply_of X _ _ inb _ _ fun d => ?_
  match d with
  | ⟨0, _⟩ => rfl
  | ⟨1, _⟩ => exact (Nat.zero_add _).symm
  | ⟨2, _⟩ => exact (Nat.zero_add _).symm

include K in
/-- The three shared tables, as the body loads them, hold what `Tables` says. -/
theorem tables : Tables (View.ld x8 r0_4) (View.ld x9 r0_5) (View.ld x10 r0_6) := by
  rw [View.ld_unit_lit _ _ (by decide), View.ld_unit_lit _ _ (by decide), View.ld_unit_lit _ _ (by decide)]
  exact K.hT

include K in
/-- The slabs of layer 0, as the body loads them, hold what `Slabs` says. -/
theorem slabs0 : Slabs (cs 0) (Ls 0) (View.ld x1 r0_1) (View.ld x2 r0_1) (View.ld x3 r0_2) (View.ld x4 r0_3) (View.ld x5 r0_2) (View.ld x6 r0_3) (View.ld x7 r0_2) where
  hA1 h k := (slab_at x1 0 _ rfl _ h k).trans (K.h1 0 h k)
  hAe h k := (slab_at x2 0 _ rfl _ h k).trans (K.h2 0 h k)
  hb1 h := (slab_at x3 0 _ rfl _ h 0).trans (K.h3 0 h)
  hW2 g h := (slab_at x4 0 _ rfl _ g h).trans (K.h4 0 g h)
  hb2 g := (slab_at x5 0 _ rfl _ g 0).trans (K.h5 0 g)
  hW3 g h := (slab_at x6 0 _ rfl _ g h).trans (K.h6 0 g h)
  hb3 g := (slab_at x7 0 _ rfl _ g 0).trans (K.h7 0 g)

include K in
/-- The slabs of layer 1, as the body loads them, hold what `Slabs` says. -/
theorem slabs1 : Slabs (cs 1) (Ls 1) (View.ld x1 r0_7) (View.ld x2 r0_7) (View.ld x3 r0_8) (View.ld x4 r0_9) (View.ld x5 r0_8) (View.ld x6 r0_9) (View.ld x7 r0_8) where
  hA1 h k := (slab_at x1 1 _ rfl _ h k).trans (K.h1 1 h k)
  hAe h k := (slab_at x2 1 _ rfl _ h k).trans (K.h2 1 h k)
  hb1 h := (slab_at x3 1 _ rfl _ h 0).trans (K.h3 1 h)
  hW2 g h := (slab_at x4 1 _ rfl _ g h).trans (K.h4 1 g h)
  hb2 g := (slab_at x5 1 _ rfl _ g 0).trans (K.h5 1 g)
  hW3 g h := (slab_at x6 1 _ rfl _ g h).trans (K.h6 1 g h)
  hb3 g := (slab_at x7 1 _ rfl _ g 0).trans (K.h7 1 g)

include K in
/-- The slabs of layer 2, as the body loads them, hold what `Slabs` says. -/
theorem slabs2 : Slabs (cs 2) (Ls 2) (View.ld x1 r0_10) (View.ld x2 r0_10) (View.ld x3 r0_11) (View.ld x4 r0_12) (View.ld x5 r0_11) (View.ld x6 r0_12) (View.ld x7 r0_11) where
  hA1 h k := (slab_at x1 2 _ rfl _ h k).trans (K.h1 2 h k)
  hAe h k := (slab_at x2 2 _ rfl _ h k).trans (K.h2 2 h k)
  hb1 h := (slab_at x3 2 _ rfl _ h 0).trans (K.h3 2 h)
  hW2 g h := (slab_at x4 2 _ rfl _ g h).trans (K.h4 2 g h)
  hb2 g := (slab_at x5 2 _ rfl _ g 0).trans (K.h5 2 g)
  hW3 g h := (slab_at x6 2 _ rfl _ g h).trans (K.h6 2 g h)
  hb3 g := (slab_at x7 2 _ rfl _ g 0).trans (K.h7 2 g)

include K in
/-- The slabs of layer 3, as the body loads them, hold what `Slabs` says. -/
theorem slabs3 : Slabs (cs 3) (Ls 3) (View.ld x1 r0_13) (View.ld x2 r0_13) (View.ld x3 r0_14) (View.ld x4 r0_15) (View.ld x5 r0_14) (View.ld x6 r0_15) (View.ld x7 r0_14) where
  hA1 h k := (slab_at x1 3 _ rfl _ h k).trans (K.h1 3 h k)
  hAe h k := (slab_at x2 3 _ rfl _ h k).trans (K.h2 3 h k)
  hb1 h := (slab_at x3 3 _ rfl _ h 0).trans (K.h3 3 h)
  hW2 g h := (slab_at x4 3 _ rfl _ g h).trans (K.h4 3 g h)
  hb2 g := (slab_at x5 3 _ rfl _ g 0).trans (K.h5 3 g)
  hW3 g h := (slab_at x6 3 _ rfl _ g h).trans (K.h6 3 g h)
  hb3 g := (slab_at x7 3 _ rfl _ g 0).trans (K.h7 3 g)

include K in
/-- The slabs of layer 4, as the body loads them, hold what `Slabs` says. -/
theorem slabs4 : Slabs (cs 4) (Ls 4) (View.ld x1 r0_16) (View.ld x2 r0_16) (View.ld x3 r0_17) (View.ld x4 r0_18) (View.ld x5 r0_17) (View.ld x6 r0_18) (View.ld x7 r0_17) where
  hA1 h k := (slab_at x1 4 _ rfl _ h k).trans (K.h1 4 h k)
  hAe h k := (slab_at x2 4 _ rfl _ h k).trans (K.h2 4 h k)
  hb1 h := (slab_at x3 4 _ rfl _ h 0).trans (K.h3 4 h)
  hW2 g h := (slab_at x4 4 _ rfl _ g h).trans (K.h4 4 g h)
  hb2 g := (slab_at x5 4 _ rfl _ g 0).trans (K.h5 4 g)
  hW3 g h := (slab_at x6 4 _ rfl _ g h).trans (K.h6 4 g h)
  hb3 g := (slab_at x7 4 _ rfl _ g 0).trans (K.h7 4 g)

include K in
/-- The slabs of layer 5, as the body loads them, hold what `Slabs` says. -/
theorem slabs5 : Slabs (cs 5) (Ls 5) (View.ld x1 r0_19) (View.ld x2 r0_19) (View.ld x3 r0_20) (View.ld x4 r0_21) (View.ld x5 r0_20) (View.ld x6 r0_21) (View.ld x7 r0_20) where
  hA1 h k := (slab_at x1 5 _ rfl _ h k).trans (K.h1 5 h k)
  hAe h k := (slab_at x2 5 _ rfl _ h k).trans (K.h2 5 h k)
  hb1 h := (slab_at x3 5 _ rfl _ h 0).trans (K.h3 5 h)
  hW2 g h := (slab_at x4 5 _ rfl _ g h).trans (K.h4 5 g h)
  hb2 g := (slab_at x5 5 _ rfl _ g 0).trans (K.h5 5 g)
  hW3 g h := (slab_at x6 5 _ rfl _ g h).trans (K.h6 5 g h)
  hb3 g := (slab_at x7 5 _ rfl _ g 0).trans (K.h7 5 g)

include K in
/-- The slabs of layer 6, as the body loads them, hold what `Slabs` says. -/
theorem slabs6 : Slabs (cs 6) (Ls 6) (View.ld x1 r0_22) (View.ld x2 r0_22) (View.ld x3 r0_23) (View.ld x4 r0_24) (View.ld x5 r0_23) (View.ld x6 r0_24) (View.ld x7 r0_23) where
  hA1 h k := (slab_at x1 6 _ rfl _ h k).trans (K.h1 6 h k)
  hAe h k := (slab_at x2 6 _ rfl _ h k).trans (K.h2 6 h k)
  hb1 h := (slab_at x3 6 _ rfl _ h 0).trans (K.h3 6 h)
  hW2 g h := (slab_at x4 6 _ rfl _ g h).trans (K.h4 6 g h)
  hb2 g := (slab_at x5 6 _ rfl _ g 0).trans (K.h5 6 g)
  hW3 g h := (slab_at x6 6 _ rfl _ g h).trans (K.h6 6 g h)
  hb3 g := (slab_at x7 6 _ rfl _ g 0).trans (K.h7 6 g)

include K in
/-- The slabs of layer 7, as the body loads them, hold what `Slabs` says. -/
theorem slabs7 : Slabs (cs 7) (Ls 7) (View.ld x1 r0_25) (View.ld x2 r0_25) (View.ld x3 r0_26) (View.ld x4 r0_27) (View.ld x5 r0_26) (View.ld x6 r0_27) (View.ld x7 r0_26) where
  hA1 h k := (slab_at x1 7 _ rfl _ h k).trans (K.h1 7 h k)
  hAe h k := (slab_at x2 7 _ rfl _ h k).trans (K.h2 7 h k)
  hb1 h := (slab_at x3 7 _ rfl _ h 0).trans (K.h3 7 h)
  hW2 g h := (slab_at x4 7 _ rfl _ g h).trans (K.h4 7 g h)
  hb2 g := (slab_at x5 7 _ rfl _ g 0).trans (K.h5 7 g)
  hW3 g h := (slab_at x6 7 _ rfl _ g h).trans (K.h6 7 g h)
  hb3 g := (slab_at x7 7 _ rfl _ g 0).trans (K.h7 7 g)

/-- Before the first layer a column of the block holds where its row starts. -/
theorem blockZ0_at (j : Fin 6) (t : Fin 4096) :
    blockZ0 x0 (ix2 j t) = ((zAfter cs Ls (start fun k => x0 (ix2 t k)) 0 j : ℝ) : EReal) := by
  unfold blockZ0
  rw [View.ld_unit_lit _ _ (by decide)]
  exact kStart_apply x0 j t

include K hL in
/-- After 1 of the layers a column of the block holds the real row after 1 of them. -/
theorem blockZ1_at (j : Fin 6) (t : Fin 4096) :
    blockZ1 x0 x1 x2 x3 x4 x5 x6 x7 x8 x9 x10 (ix2 j t)
      = ((zAfter cs Ls (start fun k => x0 (ix2 t k)) 1 j : ℝ) : EReal) := by
  unfold blockZ1
  rw [kLayer_apply (slabs0 K) (fun k => blockZ0_at x0 k t) (tables K) (abs_zAfter_le _ _ (abs_start_le _) _) (hL 0)]
  rfl

include K hL in
/-- After 2 of the layers a column of the block holds the real row after 2 of them. -/
theorem blockZ2_at (j : Fin 6) (t : Fin 4096) :
    blockZ2 x0 x1 x2 x3 x4 x5 x6 x7 x8 x9 x10 (ix2 j t)
      = ((zAfter cs Ls (start fun k => x0 (ix2 t k)) 2 j : ℝ) : EReal) := by
  unfold blockZ2
  rw [kLayer_apply (slabs1 K) (fun k => blockZ1_at K hL x0 k t) (tables K) (abs_zAfter_le _ _ (abs_start_le _) _) (hL 1)]
  rfl

include K hL in
/-- After 3 of the layers a column of the block holds the real row after 3 of them. -/
theorem blockZ3_at (j : Fin 6) (t : Fin 4096) :
    blockZ3 x0 x1 x2 x3 x4 x5 x6 x7 x8 x9 x10 (ix2 j t)
      = ((zAfter cs Ls (start fun k => x0 (ix2 t k)) 3 j : ℝ) : EReal) := by
  unfold blockZ3
  rw [kLayer_apply (slabs2 K) (fun k => blockZ2_at K hL x0 k t) (tables K) (abs_zAfter_le _ _ (abs_start_le _) _) (hL 2)]
  rfl

include K hL in
/-- After 4 of the layers a column of the block holds the real row after 4 of them. -/
theorem blockZ4_at (j : Fin 6) (t : Fin 4096) :
    blockZ4 x0 x1 x2 x3 x4 x5 x6 x7 x8 x9 x10 (ix2 j t)
      = ((zAfter cs Ls (start fun k => x0 (ix2 t k)) 4 j : ℝ) : EReal) := by
  unfold blockZ4
  rw [kLayer_apply (slabs3 K) (fun k => blockZ3_at K hL x0 k t) (tables K) (abs_zAfter_le _ _ (abs_start_le _) _) (hL 3)]
  rfl

include K hL in
/-- After 5 of the layers a column of the block holds the real row after 5 of them. -/
theorem blockZ5_at (j : Fin 6) (t : Fin 4096) :
    blockZ5 x0 x1 x2 x3 x4 x5 x6 x7 x8 x9 x10 (ix2 j t)
      = ((zAfter cs Ls (start fun k => x0 (ix2 t k)) 5 j : ℝ) : EReal) := by
  unfold blockZ5
  rw [kLayer_apply (slabs4 K) (fun k => blockZ4_at K hL x0 k t) (tables K) (abs_zAfter_le _ _ (abs_start_le _) _) (hL 4)]
  rfl

include K hL in
/-- After 6 of the layers a column of the block holds the real row after 6 of them. -/
theorem blockZ6_at (j : Fin 6) (t : Fin 4096) :
    blockZ6 x0 x1 x2 x3 x4 x5 x6 x7 x8 x9 x10 (ix2 j t)
      = ((zAfter cs Ls (start fun k => x0 (ix2 t k)) 6 j : ℝ) : EReal) := by
  unfold blockZ6
  rw [kLayer_apply (slabs5 K) (fun k => blockZ5_at K hL x0 k t) (tables K) (abs_zAfter_le _ _ (abs_start_le _) _) (hL 5)]
  rfl

include K hL in
/-- After 7 of the layers a column of the block holds the real row after 7 of them. -/
theorem blockZ7_at (j : Fin 6) (t : Fin 4096) :
    blockZ7 x0 x1 x2 x3 x4 x5 x6 x7 x8 x9 x10 (ix2 j t)
      = ((zAfter cs Ls (start fun k => x0 (ix2 t k)) 7 j : ℝ) : EReal) := by
  unfold blockZ7
  rw [kLayer_apply (slabs6 K) (fun k => blockZ6_at K hL x0 k t) (tables K) (abs_zAfter_le _ _ (abs_start_le _) _) (hL 6)]
  rfl

include K hL in
/-- After 8 of the layers a column of the block holds the real row after 8 of them. -/
theorem blockZ8_at (j : Fin 6) (t : Fin 4096) :
    blockZ8 x0 x1 x2 x3 x4 x5 x6 x7 x8 x9 x10 (ix2 j t)
      = ((zAfter cs Ls (start fun k => x0 (ix2 t k)) 8 j : ℝ) : EReal) := by
  unfold blockZ8
  rw [kLayer_apply (slabs7 K) (fun k => blockZ7_at K hL x0 k t) (tables K) (abs_zAfter_le _ _ (abs_start_le _) _) (hL 7)]
  rfl

/-- The last reordering at an index: a sum over the six coordinates. -/
theorem kOut_at (M : Vec Ideal S6x6 .f32) (Z : FVec Ideal S6x4096 .f32) (t : Fin 4096) (j : Fin 6) :
    kOut M Z (ix2 t j) = ∑ k : Fin 6, Z (ix2 k t) * M (ix2 k j) := by
  pointwise [kOut]

/-- A row of the block's result. -/
theorem rowOut_at {z : Fin 6 → ℝ} {c : Fin 6 → Fin 6} (M : Vec Ideal S6x6 .f32) (hM : ∀ k j, M (ix2 k j) = ((sel c k j : ℝ) : EReal))
    (Z : FVec Ideal S6x4096 .f32) (t : Fin 4096) (hZ : ∀ k, Z (ix2 k t) = (z k : EReal)) (j : Fin 6) :
    kOut M Z (ix2 t j) = ((z (c j) : ℝ) : EReal) := by
  rw [kOut_at, ← sum_sel c z j, coe_sum]
  exact Finset.sum_congr rfl fun k _ => by rw [hZ, hM, EReal.coe_mul, mul_comm]

include K hL in
/-- What the body leaves of a block, at an index: the real row after all layers, reordered. -/
theorem out_at (t : Fin 4096) (j : Fin 6) :
    out0_12 x0 x1 x2 x3 x4 x5 x6 x7 x8 x9 x10 x11 (ix2 t j)
      = ((zAfter cs Ls (start fun k => x0 (ix2 t k)) 8 (cs 8 j) : ℝ) : EReal) := by
  rw [out_eq, View.canon_cons_unit_lit _ _ _ (by decide), View.ld_unit_lit _ _ (by decide)]
  exact rowOut_at x11 K.h11 _ t (fun k => blockZ8_at K hL x0 k t) j

end

end
end Flow
-- ==== Proof.KFinal.lean ====
module

public import proofs.«01_k».proof.Proof.KBlock

/-!
The kernel's result array after the run, from the contents of the operands when the grid starts.
-/

@[expose] public section

namespace Flow
open Idealize.ShloMosaic Idealize.ShloMosaic.TcCoe Cert.KernelIdeal Cert.KernelIdeal.Gen
open scoped BigOperators
noncomputable section

set_option maxRecDepth 16384

variable (m : (ℓ : Loc nD τ sig) → Buf (Elt Ideal) ℓ) (c : Dev nD)

/-- Which block each window shows at a grid point. -/
theorem blk_index : ∀ t : Fin cfg0.N, win0_0.index t = ![t.val, 0] ∧ win0_12.index t = ![t.val, 0]
    ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0] ∧ win0_9.index t = ![0, 0] ∧ win0_10.index t = ![0, 0] ∧ win0_11.index t = ![0, 0] :=
  (by decide +kernel : ∀ t : Fin grid0.N, _)

/-- The window of operand 1 shows the whole array at every grid point. -/
theorem read_whole1 (A : Vec Ideal S8x128x6 .bf16) (t : Fin cfg0.N) :
    ((cfg0.win 1).blk t).view.read (Elt Ideal) A = A := by
  blk_ext! [blk_index t]

/-- The block of operand 1 is the operand that the host built, at every grid point. -/
theorem whole1 (t : Fin cfg0.N) : iblk m c 1 t = V m c main_v353 := by
  unfold iblk
  exact read_whole1 _ t

/-- The window of operand 2 shows the whole array at every grid point. -/
theorem read_whole2 (A : Vec Ideal S8x128x6 .f32) (t : Fin cfg0.N) :
    ((cfg0.win 2).blk t).view.read (Elt Ideal) A = A := by
  blk_ext! [blk_index t]

/-- The block of operand 2 is the operand that the host built, at every grid point. -/
theorem whole2 (t : Fin cfg0.N) : iblk m c 2 t = V m c main_v362 := by
  unfold iblk
  exact read_whole2 _ t

/-- The window of operand 3 shows the whole array at every grid point. -/
theorem read_whole3 (A : Vec Ideal S8x128x1 .bf16) (t : Fin cfg0.N) :
    ((cfg0.win 3).blk t).view.read (Elt Ideal) A = A := by
  blk_ext! [blk_index t]

/-- The block of operand 3 is the operand that the host built, at every grid point. -/
theorem whole3 (t : Fin cfg0.N) : iblk m c 3 t = V m c main_v364 := by
  unfold iblk
  exact read_whole3 _ t

/-- The window of operand 4 shows the whole array at every grid point. -/
theorem read_whole4 (A : Vec Ideal S8x128x128 .bf16) (t : Fin cfg0.N) :
    ((cfg0.win 4).blk t).view.read (Elt Ideal) A = A := by
  blk_ext! [blk_index t]

/-- The block of operand 4 is the operand that the host built, at every grid point. -/
theorem whole4 (t : Fin cfg0.N) : iblk m c 4 t = V m c main_v371 := by
  unfold iblk
  exact read_whole4 _ t

/-- The window of operand 5 shows the whole array at every grid point. -/
theorem read_whole5 (A : Vec Ideal S8x128x1 .bf16) (t : Fin cfg0.N) :
    ((cfg0.win 5).blk t).view.read (Elt Ideal) A = A := by
  blk_ext! [blk_index t]

/-- The block of operand 5 is the operand that the host built, at every grid point. -/
theorem whole5 (t : Fin cfg0.N) : iblk m c 5 t = V m c main_v366 := by
  unfold iblk
  exact read_whole5 _ t

/-- The window of operand 6 shows the whole array at every grid point. -/
theorem read_whole6 (A : Vec Ideal S8x128x128 .bf16) (t : Fin cfg0.N) :
    ((cfg0.win 6).blk t).view.read (Elt Ideal) A = A := by
  blk_ext! [blk_index t]

/-- The block of operand 6 is the operand that the host built, at every grid point. -/
theorem whole6 (t : Fin cfg0.N) : iblk m c 6 t = V m c main_v374 := by
  unfold iblk
  exact read_whole6 _ t

/-- The window of operand 7 shows the whole array at every grid point. -/
theorem read_whole7 (A : Vec Ideal S8x128x1 .bf16) (t : Fin cfg0.N) :
    ((cfg0.win 7).blk t).view.read (Elt Ideal) A = A := by
  blk_ext! [blk_index t]

/-- The block of operand 7 is the operand that the host built, at every grid point. -/
theorem whole7 (t : Fin cfg0.N) : iblk m c 7 t = V m c main_v369 := by
  unfold iblk
  exact read_whole7 _ t

/-- The window of operand 8 shows the whole array at every grid point. -/
theorem read_whole8 (A : Vec Ideal S120x1 .f32) (t : Fin cfg0.N) :
    ((cfg0.win 8).blk t).view.read (Elt Ideal) A = A := by
  blk_ext! [blk_index t]

/-- The block of operand 8 is the operand that the host built, at every grid point. -/
theorem whole8 (t : Fin cfg0.N) : iblk m c 8 t = V m c main_v0 := by
  unfold iblk
  exact read_whole8 _ t

/-- The window of operand 9 shows the whole array at every grid point. -/
theorem read_whole9 (A : Vec Ideal S6x120 .bf16) (t : Fin cfg0.N) :
    ((cfg0.win 9).blk t).view.read (Elt Ideal) A = A := by
  blk_ext! [blk_index t]

/-- The block of operand 9 is the operand that the host built, at every grid point. -/
theorem whole9 (t : Fin cfg0.N) : iblk m c 9 t = V m c main_v375 := by
  unfold iblk
  exact read_whole9 _ t

/-- The window of operand 10 shows the whole array at every grid point. -/
theorem read_whole10 (A : Vec Ideal S6x128 .bf16) (t : Fin cfg0.N) :
    ((cfg0.win 10).blk t).view.read (Elt Ideal) A = A := by
  blk_ext! [blk_index t]

/-- The block of operand 10 is the operand that the host built, at every grid point. -/
theorem whole10 (t : Fin cfg0.N) : iblk m c 10 t = V m c main_v376 := by
  unfold iblk
  exact read_whole10 _ t

/-- The window of operand 11 shows the whole array at every grid point. -/
theorem read_whole11 (A : Vec Ideal S6x6 .f32) (t : Fin cfg0.N) :
    ((cfg0.win 11).blk t).view.read (Elt Ideal) A = A := by
  blk_ext! [blk_index t]

/-- The block of operand 11 is the operand that the host built, at every grid point. -/
theorem whole11 (t : Fin cfg0.N) : iblk m c 11 t = V m c main_v223 := by
  unfold iblk
  exact read_whole11 _ t

/-- The block of the input at a grid point: 4096 consecutive rows. -/
theorem rows0 (t : Fin cfg0.N) (a : Fin 4096) (k : Fin 6) (r : Fin 262144) (hr : r.val = t.val * 4096 + a.val) :
    iblk m c 0 t (ix2 a k) = m ((c : Thread nD τ).loc main_arg0) (ix2 r k) := by
  unfold iblk
  rw [show V m c (Pipeline.arrRef spec0 0) = m ((c : Thread nD τ).loc main_arg0) from V_main_arg0 m c]
  generalize (m ((c : Thread nD τ).loc main_arg0)) = A
  blk_ext [blk_index t]

/-- The result array, from the operands' contents. -/
theorem result_at {cs : Fin 9 → Fin 6 → Fin 6} {Ls : Fin 8 → Layer} (hL : ∀ i, (Ls i).Tame)
    (K : Packed cs Ls (V m c main_v353) (V m c main_v362) (V m c main_v364) (V m c main_v371) (V m c main_v366) (V m c main_v374) (V m c main_v369) (V m c main_v0) (V m c main_v375) (V m c main_v376) (V m c main_v223)) :
    (dats m 0 c).arrAt 12 cfg0.N = fun i : S262144x6.Idx =>
      ((zAfter cs Ls (start fun k => m ((c : Thread nD τ).loc main_arg0) (ix2 (i 0) k)) 8 (cs 8 (i 1)) : ℝ) : EReal) := by
  refine (dats m 0 c).arrAt_eq_of_covers 12 _ (by decide +kernel) fun t hf y => ?_
  blk_simp
  rw [after0_12]
  simp only [whole1, whole2, whole3, whole4, whole5, whole6, whole7, whole8, whole9, whole10, whole11]
  have h0 : (((View.whole main_v377).slice (win0_12.rect t)).emb y 0 : Fin 262144).val = t.val * 4096 + ((y 0 : Fin 4096) : ℕ) := by
    blk_simp [blk_index t]
  have h1 : (((View.whole main_v377).slice (win0_12.rect t)).emb y 1 : Fin 6) = (y 1 : Fin 6) := by
    apply Fin.ext
    blk_simp [blk_index t]
  have hy : y = (ix2 (y 0 : Fin 4096) (y 1 : Fin 6) : S4096x6.Idx) := by
    funext a
    match a with
    | ⟨0, _⟩ => rfl
    | ⟨1, _⟩ => rfl
  have hr : (fun k => iblk m c 0 t (ix2 (y 0 : Fin 4096) k))
      = fun k => m ((c : Thread nD τ).loc main_arg0) (ix2 (((View.whole main_v377).slice (win0_12.rect t)).emb y 0 : Fin 262144) k) :=
    funext fun k => rows0 m c t (y 0) k _ h0
  refine (congrArg _ hy).trans ((out_at K hL _ (y 0) (y 1)).trans ?_)
  rw [hr, h1]

end
end Flow
-- ==== Proof.KPack.lean ====
module

public import proofs.«01_k».proof.Proof.KOperands
public import proofs.«01_k».proof.Proof.KTables
public import proofs.«01_k».proof.Proof.KFinal

/-!
What the operands of the kernel's body hold when the grid starts, from the arguments of the program.
-/

@[expose] public section

namespace Flow
open Idealize.ShloMosaic Idealize.ShloMosaic.TcCoe Cert.KernelIdeal Cert.KernelIdeal.Gen Idealize.ShloMosaic.StableHlo
open scoped BigOperators
noncomputable section

set_option maxRecDepth 16384

/-! ### The lines before the reordering matrices -/

section
variable (U : Valuation τ sig (Elt Ideal))

/-- The host lines before the reordering matrices. -/
abbrev headOps : List (HloOp τ sig (Elt Ideal)) := hostOps0 ++ hostOps0_1

/-- The unit matrix. -/
theorem head_eye (a b : Fin 6) : (after headOps U (Proc.devRef .tc main_v6) : FVec Ideal S6x6 .f32) (ix2 a b)
    = ((if a = b then 1 else 0 : ℝ) : EReal) := by
  have h : after headOps U (Proc.devRef .tc main_v6) = (uitofp .f32 (cmpi .eq (addi (iotaInDim S6x6 32 0) (broadcastInDim S6x6 ![] bcast_S_S6x6 (constantI S_ 32 0#32))) (iotaInDim S6x6 32 1)) : FVec Ideal S6x6 .f32) := by
    after_reads_simp
  rw [h]
  have e : ∀ a b : Fin 6, (cmpi .eq (addi (iotaInDim S6x6 32 0) (broadcastInDim S6x6 ![] bcast_S_S6x6 (constantI S_ 32 0#32))) (iotaInDim S6x6 32 1) : IVec S6x6 1) (ix2 a b)
      = if a = b then 1#1 else 0#1 := by decide +kernel
  show ((((cmpi .eq (addi (iotaInDim S6x6 32 0) (broadcastInDim S6x6 ![] bcast_S_S6x6 (constantI S_ 32 0#32))) (iotaInDim S6x6 32 1) : IVec S6x6 1) (ix2 a b)).toNat : ℝ) : EReal) = _
  rw [e]
  split_ifs <;> simp

/-- The way back. -/
theorem head_back : after headOps U (Proc.devRef .tc main_v7)
    = (Host.sort2 S8x6 1 comparator_i32_i32_d1 (U (Proc.devRef .tc main_arg7) : IVec S8x6 32) (iotaInDim S8x6 32 1)).2 := by
  after_reads_simp
  try rfl

/-- The edges of the bins, from their words. -/
theorem head_edges (q : Fin 120) : (after headOps U (Proc.devRef .tc main_v0) : FVec Ideal S120x1 .f32) (ix2 q 0) = ((20 - ((q.val % 40 : ℕ) : ℝ) : ℝ) : EReal) := by
  have h : after headOps U (Proc.devRef .tc main_v0) = (broadcastInDim S120x1 ![0] bcast_S120_S120x1_0
      (fun i => Ideal.ofBits .f32 (lit0 (S120.rowMajor i)) : FVec Ideal S120 .f32) : FVec Ideal S120x1 .f32) := by
    after_reads_simp; rfl
  rw [h, ← edge_at q]
  obtain ⟨G, hG⟩ : ∃ G : FVec Ideal S120 .f32, (fun i => Ideal.ofBits .f32 (lit0 (S120.rowMajor i)) : FVec Ideal S120 .f32) = G := ⟨_, rfl⟩
  rw [hG]
  refine Eq.trans (b := G (ix1 q)) (by pointwise) ?_
  rw [← hG]

/-- The table of the ramps' sums, in words. -/
theorem head_spread : after headOps U (Proc.devRef .tc main_cst_0) = (fun i => Ideal.ofBits .f32 (lit1 (S6x120.rowMajor i)) : FVec Ideal S6x120 .f32) := by
  after_reads_simp; rfl
/-- The table of the bins' sums, in words. -/
theorem head_gather : after headOps U (Proc.devRef .tc main_cst_1) = (fun i => Ideal.ofBits .f32 (lit2 (S6x128.rowMajor i)) : FVec Ideal S6x128 .f32) := by
  after_reads_simp; rfl

/-- The first lines leave argument 1 alone. -/
theorem head_arg1 : after headOps U (Proc.devRef .tc main_arg1) = U (Proc.devRef .tc main_arg1) := by after_reads_simp
/-- The first lines leave argument 2 alone. -/
theorem head_arg2 : after headOps U (Proc.devRef .tc main_arg2) = U (Proc.devRef .tc main_arg2) := by after_reads_simp
/-- The first lines leave argument 3 alone. -/
theorem head_arg3 : after headOps U (Proc.devRef .tc main_arg3) = U (Proc.devRef .tc main_arg3) := by after_reads_simp
/-- The first lines leave argument 4 alone. -/
theorem head_arg4 : after headOps U (Proc.devRef .tc main_arg4) = U (Proc.devRef .tc main_arg4) := by after_reads_simp
/-- The first lines leave argument 5 alone. -/
theorem head_arg5 : after headOps U (Proc.devRef .tc main_arg5) = U (Proc.devRef .tc main_arg5) := by after_reads_simp
/-- The first lines leave argument 6 alone. -/
theorem head_arg6 : after headOps U (Proc.devRef .tc main_arg6) = U (Proc.devRef .tc main_arg6) := by after_reads_simp
/-- The first lines leave argument 7 alone. -/
theorem head_arg7 : after headOps U (Proc.devRef .tc main_arg7) = U (Proc.devRef .tc main_arg7) := by after_reads_simp
/-- The first lines leave argument 8 alone. -/
theorem head_arg8 : after headOps U (Proc.devRef .tc main_arg8) = U (Proc.devRef .tc main_arg8) := by after_reads_simp

/-- The lines of the reordering matrices leave argument 1 alone. -/
theorem mat_arg1 : after matOps U (Proc.devRef .tc main_arg1) = U (Proc.devRef .tc main_arg1) := by after_reads_simp
/-- The lines of the reordering matrices leave argument 2 alone. -/
theorem mat_arg2 : after matOps U (Proc.devRef .tc main_arg2) = U (Proc.devRef .tc main_arg2) := by after_reads_simp
/-- The lines of the reordering matrices leave argument 3 alone. -/
theorem mat_arg3 : after matOps U (Proc.devRef .tc main_arg3) = U (Proc.devRef .tc main_arg3) := by after_reads_simp
/-- The lines of the reordering matrices leave argument 4 alone. -/
theorem mat_arg4 : after matOps U (Proc.devRef .tc main_arg4) = U (Proc.devRef .tc main_arg4) := by after_reads_simp
/-- The lines of the reordering matrices leave argument 5 alone. -/
theorem mat_arg5 : after matOps U (Proc.devRef .tc main_arg5) = U (Proc.devRef .tc main_arg5) := by after_reads_simp
/-- The lines of the reordering matrices leave argument 6 alone. -/
theorem mat_arg6 : after matOps U (Proc.devRef .tc main_arg6) = U (Proc.devRef .tc main_arg6) := by after_reads_simp
/-- The lines of the reordering matrices leave the edges of the bins alone. -/
theorem mat_edges : after matOps U (Proc.devRef .tc main_v0) = U (Proc.devRef .tc main_v0) := by after_reads_simp
/-- The lines of the reordering matrices leave the table of the ramps' sums alone. -/
theorem mat_spread : after matOps U (Proc.devRef .tc main_cst_0) = U (Proc.devRef .tc main_cst_0) := by after_reads_simp
/-- The lines of the reordering matrices leave the table of the bins' sums alone. -/
theorem mat_gather : after matOps U (Proc.devRef .tc main_cst_1) = U (Proc.devRef .tc main_cst_1) := by after_reads_simp
end

/-- Seven stretches of lines, the third cut in two. -/
theorem flatten_cut {α : Type} (n : ℕ) (a b c d e f g : List α) :
    List.flatten [a, b, c, d, e, f, g] = (a ++ b) ++ (List.take n c ++ (List.drop n c ++ (d ++ (e ++ (f ++ g))))) := by
  rw [← List.append_assoc (List.take n c), List.take_append_drop]
  simp

/-- The contents when the grid starts, stretch by stretch. -/
theorem V_cut (m : (ℓ : Loc nD τ sig) → Buf (Elt Ideal) ℓ) (c : Dev nD) (b : Ref sig .tc) :
    V m c b = after packOps (after matOps (after headOps (fun b => m (c, b)))) (Proc.devRef .tc b) := by
  unfold V
  rw [flatten_cut 262, after_append, after_append]

/-- First weights behind a matrix that selects by `cs`. -/
theorem kFirst_packed {M : FVec Ideal S6x6 .f32} {W : FVec Ideal S8x3x128 .f32} {i : Fin 8} {cs : Fin 6 → Fin 6} {L : Layer}
    (hM : ∀ k j, M (ix2 k j) = ((sel cs k j : ℝ) : EReal)) (hW : ∀ j h, W (ix3 i j h) = ((L.w1 j h : ℝ) : EReal))
    (off : Fin 3 → ℕ) (hoff : off = ![i.val, 0, 0]) (hs : S8x3x128.Slices off S1x3x128) (h : Fin 128) (k : Fin 6) :
    kFirst M W off hs (ix2 h k) = ((∑ j : Fin 3, sel cs k (lo j) * L.w1 j h : ℝ) : EReal) := by
  rw [kFirst_at M W i off hoff hs, coe_sum]
  refine Finset.sum_congr rfl fun j _ => ?_
  rw [hM, hW, EReal.coe_mul]

/-- Mixed rows of a matrix that selects by `cs`. -/
theorem kMixed_packed {M : FVec Ideal S6x6 .f32} {cs : Fin 6 → Fin 6} (hM : ∀ k j, M (ix2 k j) = ((sel cs k j : ℝ) : EReal))
    (r : Fin 128) (k : Fin 6) : kMixed M (ix2 r k) = ((aeff cs r k : ℝ) : EReal) := by
  rw [kMixed_at, aeff]
  split_ifs
  · rw [hM, EReal.coe_mul]
  · rw [hM]
  · exact EReal.coe_zero.symm

/-- The stack of the layers' first weights. -/
theorem first_stack {A0 A1 A2 A3 A4 A5 A6 A7 : FVec Ideal S6x6 .f32} {W : FVec Ideal S8x3x128 .f32} (cs : Fin 8 → Fin 6 → Fin 6) {Ls : Fin 8 → Layer}
    (hW : ∀ i j h, W (ix3 i j h) = (((Ls i).w1 j h : ℝ) : EReal))
    (h0 : ∀ k j, A0 (ix2 k j) = ((sel (cs 0) k j : ℝ) : EReal)) (h1 : ∀ k j, A1 (ix2 k j) = ((sel (cs 1) k j : ℝ) : EReal)) (h2 : ∀ k j, A2 (ix2 k j) = ((sel (cs 2) k j : ℝ) : EReal)) (h3 : ∀ k j, A3 (ix2 k j) = ((sel (cs 3) k j : ℝ) : EReal)) (h4 : ∀ k j, A4 (ix2 k j) = ((sel (cs 4) k j : ℝ) : EReal)) (h5 : ∀ k j, A5 (ix2 k j) = ((sel (cs 5) k j : ℝ) : EReal)) (h6 : ∀ k j, A6 (ix2 k j) = ((sel (cs 6) k j : ℝ) : EReal)) (h7 : ∀ k j, A7 (ix2 k j) = ((sel (cs 7) k j : ℝ) : EReal))
    (i : Fin 8) (h : Fin 128) (k : Fin 6) :
    stack8 ![kFirst A0 W ![0, 0, 0] slices_S8x3x128_S1x3x128_0_0_0,
      kFirst A1 W ![1, 0, 0] slices_S8x3x128_S1x3x128_1_0_0,
      kFirst A2 W ![2, 0, 0] slices_S8x3x128_S1x3x128_2_0_0,
      kFirst A3 W ![3, 0, 0] slices_S8x3x128_S1x3x128_3_0_0,
      kFirst A4 W ![4, 0, 0] slices_S8x3x128_S1x3x128_4_0_0,
      kFirst A5 W ![5, 0, 0] slices_S8x3x128_S1x3x128_5_0_0,
      kFirst A6 W ![6, 0, 0] slices_S8x3x128_S1x3x128_6_0_0,
      kFirst A7 W ![7, 0, 0] slices_S8x3x128_S1x3x128_7_0_0] (ix3 i h k)
      = ((∑ j : Fin 3, sel (cs i) k (lo j) * (Ls i).w1 j h : ℝ) : EReal) := by
  rw [stack8_at]
  match i with
  | 0 => exact kFirst_packed (i := 0) h0 (hW 0) ![0, 0, 0] rfl _ h k
  | 1 => exact kFirst_packed (i := 1) h1 (hW 1) ![1, 0, 0] rfl _ h k
  | 2 => exact kFirst_packed (i := 2) h2 (hW 2) ![2, 0, 0] rfl _ h k
  | 3 => exact kFirst_packed (i := 3) h3 (hW 3) ![3, 0, 0] rfl _ h k
  | 4 => exact kFirst_packed (i := 4) h4 (hW 4) ![4, 0, 0] rfl _ h k
  | 5 => exact kFirst_packed (i := 5) h5 (hW 5) ![5, 0, 0] rfl _ h k
  | 6 => exact kFirst_packed (i := 6) h6 (hW 6) ![6, 0, 0] rfl _ h k
  | 7 => exact kFirst_packed (i := 7) h7 (hW 7) ![7, 0, 0] rfl _ h k

/-- The stack of the rows that the reorderings give the splines. -/
theorem mixed_stack {A0 A1 A2 A3 A4 A5 A6 A7 : FVec Ideal S6x6 .f32} (cs : Fin 8 → Fin 6 → Fin 6)
    (h0 : ∀ k j, A0 (ix2 k j) = ((sel (cs 0) k j : ℝ) : EReal)) (h1 : ∀ k j, A1 (ix2 k j) = ((sel (cs 1) k j : ℝ) : EReal)) (h2 : ∀ k j, A2 (ix2 k j) = ((sel (cs 2) k j : ℝ) : EReal)) (h3 : ∀ k j, A3 (ix2 k j) = ((sel (cs 3) k j : ℝ) : EReal)) (h4 : ∀ k j, A4 (ix2 k j) = ((sel (cs 4) k j : ℝ) : EReal)) (h5 : ∀ k j, A5 (ix2 k j) = ((sel (cs 5) k j : ℝ) : EReal)) (h6 : ∀ k j, A6 (ix2 k j) = ((sel (cs 6) k j : ℝ) : EReal)) (h7 : ∀ k j, A7 (ix2 k j) = ((sel (cs 7) k j : ℝ) : EReal))
    (i : Fin 8) (r : Fin 128) (k : Fin 6) :
    stack8 (fun i => kMixed (![A0, A1, A2, A3, A4, A5, A6, A7] i)) (ix3 i r k) = ((aeff (cs i) r k : ℝ) : EReal) := by
  rw [stack8_at]
  match i with
  | 0 => exact kMixed_packed h0 r k
  | 1 => exact kMixed_packed h1 r k
  | 2 => exact kMixed_packed h2 r k
  | 3 => exact kMixed_packed h3 r k
  | 4 => exact kMixed_packed h4 r k
  | 5 => exact kMixed_packed h5 r k
  | 6 => exact kMixed_packed h6 r k
  | 7 => exact kMixed_packed h7 r k

section
variable (m : (ℓ : Loc nD τ sig) → Buf (Elt Ideal) ℓ) (c : Dev nD) {Ls : Fin 8 → Layer}
  (hW : Weights Ls (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)))
  {o : Fin 8 → Fin 6 → BitVec 32} {p : Fin 7 → Fin 6 → BitVec 32} {v : Fin 8 → Fin 6 → BitVec 32}
  (ho : ∀ i j, (m ((c : Thread nD τ).loc main_arg7) : IVec S8x6 32) (ix2 i j) = o i j)
  (hp : ∀ i j, (m ((c : Thread nD τ).loc main_arg8) : IVec S7x6 32) (ix2 i j) = p i j)
  (hv : ∀ i j, (Host.sort2 S8x6 1 comparator_i32_i32_d1 (m ((c : Thread nD τ).loc main_arg7) : IVec S8x6 32) (iotaInDim S8x6 32 1)).2 (ix2 i j) = v i j)

/-- The contents before the reordering matrices. -/
abbrev base : Valuation τ sig (Elt Ideal) := after headOps (fun b => m (c, b))

include ho hp hv in
/-- The reordering matrices. -/
theorem mats_at :
    (∀ k j, (after matOps (base m c) (Proc.devRef .tc main_v17) : FVec Ideal S6x6 .f32) (ix2 k j) = ((sel (places o p v 0) k j : ℝ) : EReal))
    ∧ (∀ k j, (after matOps (base m c) (Proc.devRef .tc main_v45) : FVec Ideal S6x6 .f32) (ix2 k j) = ((sel (places o p v 1) k j : ℝ) : EReal))
    ∧ (∀ k j, (after matOps (base m c) (Proc.devRef .tc main_v73) : FVec Ideal S6x6 .f32) (ix2 k j) = ((sel (places o p v 2) k j : ℝ) : EReal))
    ∧ (∀ k j, (after matOps (base m c) (Proc.devRef .tc main_v101) : FVec Ideal S6x6 .f32) (ix2 k j) = ((sel (places o p v 3) k j : ℝ) : EReal))
    ∧ (∀ k j, (after matOps (base m c) (Proc.devRef .tc main_v129) : FVec Ideal S6x6 .f32) (ix2 k j) = ((sel (places o p v 4) k j : ℝ) : EReal))
    ∧ (∀ k j, (after matOps (base m c) (Proc.devRef .tc main_v157) : FVec Ideal S6x6 .f32) (ix2 k j) = ((sel (places o p v 5) k j : ℝ) : EReal))
    ∧ (∀ k j, (after matOps (base m c) (Proc.devRef .tc main_v185) : FVec Ideal S6x6 .f32) (ix2 k j) = ((sel (places o p v 6) k j : ℝ) : EReal))
    ∧ (∀ k j, (after matOps (base m c) (Proc.devRef .tc main_v213) : FVec Ideal S6x6 .f32) (ix2 k j) = ((sel (places o p v 7) k j : ℝ) : EReal))
    ∧ (∀ k j, (after matOps (base m c) (Proc.devRef .tc main_v223) : FVec Ideal S6x6 .f32) (ix2 k j) = ((sel (places o p v 8) k j : ℝ) : EReal)) := by
  have h7 : ∀ i j, (base m c (Proc.devRef .tc main_arg7) : IVec S8x6 32) (ix2 i j) = o i j := fun i j => by
    rw [base, head_arg7]; exact ho i j
  have h8 : ∀ i j, (base m c (Proc.devRef .tc main_arg8) : IVec S7x6 32) (ix2 i j) = p i j := fun i j => by
    rw [base, head_arg8]; exact hp i j
  have hb : ∀ i j, (base m c (Proc.devRef .tc main_v7) : IVec S8x6 32) (ix2 i j) = v i j := fun i j => by
    rw [base, head_back]; exact hv i j
  have hE := head_eye (fun b => m (c, b))
  exact ⟨mat0_at _ hE h7 h8 hb, mat1_at _ hE h7 h8 hb, mat2_at _ hE h7 h8 hb, mat3_at _ hE h7 h8 hb, mat4_at _ hE h7 h8 hb, mat5_at _ hE h7 h8 hb, mat6_at _ hE h7 h8 hb, mat7_at _ hE h7 h8 hb, mat8_at _ hE h7 h8 hb⟩

include hW ho hp hv in
/-- The operands hold the layers' weights behind the reorderings. -/
theorem packed : Packed (places o p v) Ls (V m c main_v353) (V m c main_v362) (V m c main_v364) (V m c main_v371) (V m c main_v366)
    (V m c main_v374) (V m c main_v369) (V m c main_v0) (V m c main_v375) (V m c main_v376) (V m c main_v223) := by
  obtain ⟨m0, m1, m2, m3, m4, m5, m6, m7, m8⟩ := mats_at m c ho hp hv
  refine ⟨?_, ?_, ?_, ?_, ?_, ?_, ?_, ⟨?_, ?_, ?_⟩, ?_⟩
  · intro i h k
    rw [V_cut, firsts, mat_arg1, head_arg1]
    exact first_stack (fun i => places o p v i.castSucc) hW.w1 m0 m1 m2 m3 m4 m5 m6 m7 i h k
  · intro i r k
    rw [V_cut, mixeds]
    exact mixed_stack (fun i => places o p v i.castSucc) m0 m1 m2 m3 m4 m5 m6 m7 i r k
  · intro i h
    rw [V_cut, read_b1, mat_arg2, head_arg2]
    exact (kBias_at _ i h).trans (hW.b1 i h)
  · intro i g h
    rw [V_cut, read_w2, mat_arg3, head_arg3]
    exact (kSide_at _ i g h).trans (hW.w2 i h g)
  · intro i h
    rw [V_cut, read_b2, mat_arg4, head_arg4]
    exact (kBias_at _ i h).trans (hW.b2 i h)
  · intro i q g
    rw [V_cut, read_w3, mat_arg5, head_arg5]
    refine (kSide_at _ i q g).trans ((kPad3_at _ i g q).trans ?_)
    split_ifs
    · exact hW.w3 i g _
    · exact EReal.coe_zero.symm
  · intro i q
    rw [V_cut, read_b3, mat_arg6, head_arg6]
    refine (kBias_at _ i q).trans ((kPad2_at _ i q).trans ?_)
    split_ifs
    · exact hW.b3 i _
    · exact EReal.coe_zero.symm
  · intro q
    rw [V_cut, keep_edges, mat_edges]
    exact head_edges _ q
  · intro r q
    rw [V_cut, read_spread, mat_spread, head_spread]
    exact spread_at r q
  · intro r q
    rw [V_cut, read_gather, mat_gather, head_gather]
    exact gather_at r q
  · intro k j
    rw [V_cut, keep_last]
    exact m8 k j
end

end
end Flow
-- ==== Proof.Slot.lean ====
module

public import proofs.«01_k».proof.Proof.Core

/-!
The bin of a coordinate: its place among the forty, and the word that names it.
-/

@[expose] public section

namespace Flow
open Idealize.ShloMosaic
open scoped BigOperators
noncomputable section

/-- The place of a coordinate among the forty bins of `[-1, 1]`. -/
def place (u : ℝ) : ℝ := min 1 (max 0 ((u + 1) * 2⁻¹)) * 40

/-- No place is negative. -/
theorem place_nonneg (u : ℝ) : 0 ≤ place u := mul_nonneg (le_min zero_le_one (le_max_left _ _)) (by norm_num)
/-- No place is beyond the last bin. -/
theorem place_le (u : ℝ) : place u ≤ 40 := by
  have : min 1 (max 0 ((u + 1) * 2⁻¹)) ≤ 1 := min_le_left _ _
  unfold place; linarith

/-- The bin of a coordinate. -/
def slot (u : ℝ) : Fin 40 := ⟨min 39 ⌊place u⌋₊, by omega⟩

/-- A coordinate's bin starts at or before its place. -/
theorem slot_le (u : ℝ) : ((slot u).val : ℝ) ≤ place u :=
  (Nat.cast_le.2 (min_le_right _ _)).trans (Nat.floor_le (place_nonneg u))

/-- A coordinate's bin ends at or after its place. -/
theorem le_slot (u : ℝ) : place u ≤ (slot u).val + 1 := by
  by_cases h : ⌊place u⌋₊ ≤ 39
  · have e : (slot u).val = ⌊place u⌋₊ := min_eq_right h
    rw [e]; exact (Nat.lt_floor_add_one _).le
  · have e : (slot u).val = 39 := min_eq_left (by omega)
    rw [e]; have := place_le u; norm_num; linarith

/-- How much of a bin lies below a coordinate, from its place. -/
theorem ramp_place (u : ℝ) (k : Fin 40) : min 1 (max 0 (place u - k.val)) = ramp u k := by
  have hk : (k.val : ℝ) ≤ 39 := by exact_mod_cast (by omega : k.val ≤ 39)
  have hk0 : (0 : ℝ) ≤ k.val := Nat.cast_nonneg _
  unfold place ramp
  rcases le_total ((u + 1) * 2⁻¹) 0 with h | h
  · rw [max_eq_left h, min_eq_right zero_le_one, max_eq_left (by linarith), max_eq_left (by linarith)]
  · rw [max_eq_right h]
    rcases le_total 1 ((u + 1) * 2⁻¹) with h1 | h1
    · rw [min_eq_left h1, min_eq_left (le_max_of_le_right (by linarith)), min_eq_left (le_max_of_le_right (by linarith))]
    · rw [min_eq_right h1]; congr 2; ring

/-- The word of a bin, from the floor of the place. -/
theorem slot_word (u : ℝ) :
    IntOp.minsi 39#32 (IntOp.maxsi 0#32 (Ideal.fptosi 32 (Ideal.liftRound Int.floor ((place u : ℝ) : EReal)))) = BitVec.ofNat 32 (slot u).val := by
  have h0 := place_nonneg u
  have hn : ⌊place u⌋₊ ≤ 40 := Nat.floor_le_of_le (by exact_mod_cast place_le u)
  have e : ⌊place u⌋ = ((⌊place u⌋₊ : ℕ) : ℤ) := (Int.natCast_floor_eq_floor h0).symm
  have d : ∀ n : Fin 41, IntOp.minsi 39#32 (IntOp.maxsi 0#32 (BitVec.ofInt 32 (max (-(2 ^ (32 - 1) : Nat)) (min ((2 ^ (32 - 1) : Nat) - 1) (n.val : ℤ)))))
      = BitVec.ofNat 32 (min 39 n.val) := by decide
  rw [Ideal.liftRound_coe, Ideal.fptosi, Ideal.toIntClamped_coe, if_pos (by exact_mod_cast Int.floor_nonneg.2 h0), Int.floor_intCast, e]
  exact d ⟨⌊place u⌋₊, Nat.lt_succ_of_le hn⟩

/-- The word of a bin, read by the host as a position. -/
theorem slot_read (k : Fin 40) :
    min (Scalar.select (IntOp.cmpi .slt (BitVec.ofNat 32 k.val) 0#32) (IntOp.addi (BitVec.ofNat 32 k.val) 40#32) (BitVec.ofNat 32 k.val)).toInt.toNat 39 = k.val := by
  revert k; decide

/-- The word of one half. -/
theorem bits_half1 : Ideal.ofBits .f32 1056964608#32 = ((2⁻¹ : ℝ) : EReal) := by
  simp [Ideal.ofBits, Ideal.ieee, -EReal.coe_mul, -EReal.coe_neg]; norm_num
/-- The word of forty. -/
theorem bits_40 : Ideal.ofBits .f32 1109393408#32 = ((40 : ℝ) : EReal) := by
  simp [Ideal.ofBits, Ideal.ieee, -EReal.coe_mul, -EReal.coe_neg]; norm_num
/-- The word of two. -/
theorem bits_2 : Ideal.ofBits .f32 1073741824#32 = ((2 : ℝ) : EReal) := by
  simp [Ideal.ofBits, Ideal.ieee, -EReal.coe_mul, -EReal.coe_neg]; norm_num
/-- The word of minus infinity. -/
theorem bits_bot : Ideal.ofBits .f32 4286578688#32 = ⊥ := by
  simp [Ideal.ofBits, Ideal.ieee, -EReal.coe_mul, -EReal.coe_neg]

/-- The greatest of forty reals, taken over the extended reals, is a real. -/
theorem fold_max_real (f : Fin 40 → ℝ) : ∃ m : ℝ, Finset.fold max (⊥ : EReal) (fun k => (f k : EReal)) Finset.univ = m := by
  obtain ⟨k, _, hk⟩ := Finset.exists_mem_eq_sup (Finset.univ : Finset (Fin 40)) ⟨0, Finset.mem_univ _⟩ (fun k => (f k : EReal))
  exact ⟨f k, hk⟩

end
end Flow
-- ==== Proof.RLayer.lean ====
module

public import proofs.«01_k».proof.Proof.Slot
public import proofs.«01_k».proof.Proof.HostOps
public import proofs.«01_k».proof.Proof.Gen.ReferenceIdeal.Run
public import Idealize.ShloMosaic.Lib.Pointwise
public import Idealize.ShloMosaic.Lib.Tactic.CleanTypes

/-!
One trip of the plain flow's loop, read at an index.
-/

@[expose] public section

namespace Flow
open Idealize.ShloMosaic Cert.ReferenceIdeal Cert.ReferenceIdeal.Gen Cert.ReferenceIdeal.Value
open scoped BigOperators
noncomputable section

set_option maxRecDepth 16384

/-- The contents of the plain flow's buffers. -/
abbrev Vals : Type := Valuation τ sig (Elt Ideal)

/-- What a trip finds: the counter at `i`, the weights `L`, and the words of the places that it reads. -/
structure Trip (V : Vals) (i : Fin 8) (L : Layer) (o q v : Fin 6 → BitVec 32) : Prop where
  ctr : (V (Proc.devRef .tc main_v81_9) : IVec S_ 32) = fun _ => BitVec.ofNat 32 i.val
  w1 : ∀ j h, (V (Proc.devRef .tc main_v81_0) : FVec Ideal S8x3x128 .f32) (ix3 i j h) = (L.w1 j h : EReal)
  b1 : ∀ h, (V (Proc.devRef .tc main_v81_1) : FVec Ideal S8x128 .f32) (ix2 i h) = (L.b1 h : EReal)
  w2 : ∀ j h, (V (Proc.devRef .tc main_v81_2) : FVec Ideal S8x128x128 .f32) (ix3 i j h) = (L.w2 j h : EReal)
  b2 : ∀ h, (V (Proc.devRef .tc main_v81_3) : FVec Ideal S8x128 .f32) (ix2 i h) = (L.b2 h : EReal)
  w3 : ∀ j h, (V (Proc.devRef .tc main_v81_4) : FVec Ideal S8x128x120 .f32) (ix3 i j h) = (L.w3 j h : EReal)
  b3 : ∀ h, (V (Proc.devRef .tc main_v81_5) : FVec Ideal S8x120 .f32) (ix2 i h) = (L.b3 h : EReal)
  order : ∀ j, (V (Proc.devRef .tc main_v81_6) : IVec S8x6 32) (ix2 i j) = o j
  back : ∀ j, (V (Proc.devRef .tc main_v81_7) : IVec S8x6 32) (ix2 i j) = v j
  before : ∀ j, (V (Proc.devRef .tc main_v81_8) : IVec S8x6 32) (ix2 i j) = q j

variable {V : Vals} {i : Fin 8} {L : Layer} {o q v : Fin 6 → BitVec 32} (T : Trip V i L o q v)
include T

/-- The counter of a trip, read as a position. -/
theorem Trip.start0 {n : Nat} (w : Fin n → IVec S_ 32) (k : Fin n) (h : w k = (V (Proc.devRef .tc main_v81_9) : IVec S_ 32)) :
    (w k (Shape.Idx.first h_S_)).toInt = i.val := by
  rw [h, T.ctr]
  show (BitVec.ofNat 32 i.val).toInt = i.val
  clear T h w
  revert i
  decide

/-- The order of a trip. -/
theorem Trip.order_at (j : Fin 6) : (res_main_while0b_v88 V : IVec S6 32) (ix1 j) = o j := by
  unfold res_main_while0b_v88
  clean_types
  rw [member_row i _ _ rfl (T.start0 _ 0 rfl) rfl]
  pointwise
  exact T.order j

/-- The way back of a trip. -/
theorem Trip.back_at (j : Fin 6) : (res_main_while0b_v89 V : IVec S6 32) (ix1 j) = v j := by
  unfold res_main_while0b_v89
  clean_types
  rw [member_row i _ _ rfl (T.start0 _ 0 rfl) rfl]
  pointwise
  exact T.back j

/-- The permutation before a trip. -/
theorem Trip.before_at (j : Fin 6) : (res_main_while0b_v90 V : IVec S6 32) (ix1 j) = q j := by
  unfold res_main_while0b_v90
  clean_types
  rw [member_row i _ _ rfl (T.start0 _ 0 rfl) rfl]
  pointwise
  exact T.before j

omit T in
/-- The column that an index word names, through the wrap and the clamp of the host. -/
theorem cols_at (x : FVec Ideal S262144x6 .f32) (w : IVec S6 32) (r : Fin 262144) (j : Fin 6) :
    Host.gather gather_S262144x6_S6x1_S262144x6_0_1_n_n_1_1_2621441 x (broadcastInDim S6x1 ![0] bcast_S6_S6x1_0 (select (cmpi .slt w (broadcastInDim S6 ![] bcast_S_S6 (constantI S_ 32 0#32))) (addi w (broadcastInDim S6 ![] bcast_S_S6 (constantI S_ 32 6#32))) w)) (ix2 r j)
      = x (ix2 r (pick (w (ix1 j)))) := by
  rw [gather_cols _ rfl rfl rfl rfl rfl rfl rfl]
  pointwise [pick, wrap]

/-- The permuted and ordered rows of a trip. -/
theorem Trip.in_at (r : Fin 262144) (j : Fin 6) : (res_main_while0b_v104 V : FVec Ideal S262144x6 .f32) (ix2 r j)
    = (V (Proc.devRef .tc main_v81_10) : FVec Ideal S262144x6 .f32) (ix2 r (pick (q (pick (o j))))) := by
  unfold res_main_while0b_v104
  clean_types
  rw [cols_at, cols_at, T.order_at, T.before_at]

variable {x : Fin 262144 → Fin 6 → ℝ} (hx : ∀ r j, (res_main_while0b_v104 V : FVec Ideal S262144x6 .f32) (ix2 r j) = (x r j : EReal))
include hx

/-- The logits of a trip. -/
theorem Trip.theta_at (r : Fin 262144) (g : Fin 3) (k : Fin 40) :
    (res_main_while0b_v121 V : FVec Ideal S262144x3x40 .f32) (ix3 r g k) = ((L.theta (x r) (bin g k) : ℝ) : EReal) := by
  unfold res_main_while0b_v121 res_main_while0b_v105
  clean_types
  rw [member_row i _ _ rfl (T.start0 _ 0 rfl) rfl, member_row i _ _ rfl (T.start0 _ 0 rfl) rfl, member_row i _ _ rfl (T.start0 _ 0 rfl) rfl,
    member_mat i _ _ rfl (T.start0 _ 0 rfl) rfl rfl, member_mat i _ _ rfl (T.start0 _ 0 rfl) rfl rfl, member_mat i _ _ rfl (T.start0 _ 0 rfl) rfl rfl]
  pointwise
  have hb : (⟨g.val * 40 + k.val, by omega⟩ : Fin 120) = bin g k := Fin.ext (by simp only [bin]; omega)
  rw [hb]
  simp only [hx, T.w1, T.b1, T.w2, T.b2, T.w3, T.b3, ← EReal.coe_mul, ← coe_sum, ← EReal.coe_add, ← EReal.coe_zero, ← coe_max]
  rfl

end
end Flow
-- ==== Proof.RSpline.lean ====
module

public import proofs.«01_k».proof.Proof.RLayer
public import proofs.«01_k».proof.Proof.HostOps
public import proofs.«01_k».proof.Proof.Gen.ReferenceIdeal.Run
public import Idealize.ShloMosaic.Lib.Pointwise
public import Idealize.ShloMosaic.Lib.Tactic.CleanTypes

/-!
The spline of one trip of the plain flow's loop, read at an index.
-/

@[expose] public section

namespace Flow
open Idealize.ShloMosaic Cert.ReferenceIdeal Cert.ReferenceIdeal.Gen Cert.ReferenceIdeal.Value
open scoped BigOperators
noncomputable section

set_option maxRecDepth 16384

variable {V : Vals} {i : Fin 8} {L : Layer} {o q v : Fin 6 → BitVec 32} (T : Trip V i L o q v)
variable {x : Fin 262144 → Fin 6 → ℝ} (hx : ∀ r j, (res_main_while0b_v104 V : FVec Ideal S262144x6 .f32) (ix2 r j) = (x r j : EReal))
include T hx

/-- The place of a coordinate among the bins. -/
theorem Trip.pos_at (r : Fin 262144) (g : Fin 3) :
    (res_main_while0b_v140 V : FVec Ideal S262144x3 .f32) (ix2 r g) = ((place (x r (hi g)) : ℝ) : EReal) := by
  unfold res_main_while0b_v140
  clean_types
  pointwise
  have h1 : (id (constant S_ .f32 1065353216#32 : FVec Ideal S_ .f32)) ix0 = ((1 : ℝ) : EReal) := Ideal.ofBits_one_f32
  have h0 : (id (constant S_ .f32 0#32 : FVec Ideal S_ .f32)) ix0 = ((0 : ℝ) : EReal) := Ideal.ofBits_zero_f32
  rw [h1, h0]
  simp only [hx, bits_half1, bits_40, ← EReal.coe_one, ← EReal.coe_zero, ← EReal.coe_add, ← EReal.coe_mul, ← coe_max, ← coe_min]
  rfl

/-- The bin of a coordinate, as a word. -/
theorem Trip.idx_at (r : Fin 262144) (g : Fin 3) :
    (res_main_while0b_v143 V : IVec S262144x3 32) (ix2 r g) = BitVec.ofNat 32 (slot (x r (hi g))).val := by
  unfold res_main_while0b_v143
  clean_types
  pointwise
  rw [T.pos_at hx]
  exact slot_word _

omit T hx in
/-- The greatest logit of a spline, as the host reduces it. -/
theorem rowmax_at (y : FVec Ideal S262144x3x40 .f32) (r : Fin 262144) (g : Fin 3) :
    Host.reduce FloatOps.maximumf y (constant S_ .f32 0xFF800000#32) reducesTo_S262144x3x40_S262144x3_d2 h_S_ (ix2 r g)
      = Finset.fold max (⊥ : EReal) (fun k : Fin 40 => y (ix3 r g k)) Finset.univ := by
  pointwise
  rw [bits_bot]

omit T hx in
/-- The exponentials of an array of logits, a row's shift taken away. -/
theorem exp_row (y : FVec Ideal S262144x3x40 .f32) (M : FVec Ideal S262144x3 .f32) (r : Fin 262144) (g : Fin 3) (k : Fin 40) :
    Host.exp (subf y (broadcastInDim S262144x3x40 ![0, 1, 2] bcast_S262144x3x1_S262144x3x40_0_1_2 (broadcastInDim S262144x3x1 ![0, 1] bcast_S262144x3_S262144x3x1_0_1 (maximumf (broadcastInDim S262144x3 ![] bcast_S_S262144x3 (constant S_ .f32 0xFF800000#32)) M)))) (ix3 r g k)
      = Ideal.exp (y (ix3 r g k) - M (ix2 r g)) := by
  pointwise
  rw [bits_bot]
  rw [max_eq_right bot_le]

/-- The shifted exponentials of a spline's logits. -/
theorem Trip.exp_at (r : Fin 262144) (g : Fin 3) : ∃ m : ℝ, ∀ k : Fin 40,
    (res_main_while0b_v133 V : FVec Ideal S262144x3x40 .f32) (ix3 r g k) = ((Real.exp (L.theta (x r) (bin g k) - m) : ℝ) : EReal) := by
  obtain ⟨m, hm⟩ := fold_max_real (fun k => L.theta (x r) (bin g k))
  have hm' : (Host.reduce FloatOps.maximumf (res_main_while0b_v121 V : FVec Ideal S262144x3x40 .f32) (constant S_ .f32 0xFF800000#32) reducesTo_S262144x3x40_S262144x3_d2 h_S_ : FVec Ideal S262144x3 .f32) (ix2 r g) = (m : EReal) := by
    rw [rowmax_at]
    simp only [T.theta_at hx]
    exact hm
  refine ⟨m, fun k => ?_⟩
  unfold res_main_while0b_v133
  clean_types
  rw [exp_row, hm', T.theta_at hx, ← EReal.coe_sub, Ideal.exp_coe]

/-- The normalised exponentials of a spline's logits. -/
theorem Trip.pdf_at (r : Fin 262144) (g : Fin 3) (k : Fin 40) :
    (res_main_while0b_v137 V : FVec Ideal S262144x3x40 .f32) (ix3 r g k) = ((Real.exp (L.theta (x r) (bin g k)) / L.den (x r) g : ℝ) : EReal) := by
  obtain ⟨m, hm⟩ := T.exp_at hx r g
  unfold res_main_while0b_v137
  clean_types
  pointwise
  simp only [hm, ← coe_sum]
  rw [div_coe_coe _ (Finset.sum_pos (fun _ _ => Real.exp_pos _) ⟨0, Finset.mem_univ _⟩).ne']
  simp only [Real.exp_sub, ← Finset.sum_div]
  rw [div_div_div_cancel_right₀ (Real.exp_pos m).ne']
  rfl

omit T hx in
/-- The entry of a row that a bin's word names, through the wrap and the clamp of the host. -/
theorem bins_at (y : FVec Ideal S262144x3x40 .f32) (w : IVec S262144x3 32) (r : Fin 262144) (g : Fin 3) (k : Fin 40)
    (hk : w (ix2 r g) = BitVec.ofNat 32 k.val) :
    Host.gather gather_S262144x3x40_S262144x3x1x1_S262144x3x1_n_2_01_01_2_3_111 y (shapeCast S262144x3x1x1 (select (cmpi .slt (broadcastInDim S262144x3x1 ![0, 1] bcast_S262144x3_S262144x3x1_0_1 w) (broadcastInDim S262144x3x1 ![] bcast_S_S262144x3x1 (constantI S_ 32 0#32))) (addi (broadcastInDim S262144x3x1 ![0, 1] bcast_S262144x3_S262144x3x1_0_1 w) (broadcastInDim S262144x3x1 ![] bcast_S_S262144x3x1 (constantI S_ 32 40#32))) (broadcastInDim S262144x3x1 ![0, 1] bcast_S262144x3_S262144x3x1_0_1 w)) shapeCasts_S262144x3x1_S262144x3x1x1) (ix3 r g 0)
      = y (ix3 r g k) := by
  rw [gather_last _ rfl rfl rfl rfl rfl rfl rfl]
  refine congrArg (fun l : Fin 40 => y (ix3 r g l)) (Fin.ext ?_)
  refine Eq.trans ?_ (slot_read k)
  rw [← hk]
  pointwise

/-- The weight of the coordinate's own bin. -/
theorem Trip.p_at (r : Fin 262144) (g : Fin 3) :
    (res_main_while0b_v146 V : FVec Ideal S262144x3 .f32) (ix2 r g) =
      ((Real.exp (L.theta (x r) (bin g (slot (x r (hi g))))) / L.den (x r) g : ℝ) : EReal) := by
  rw [← T.pdf_at hx, ← bins_at (res_main_while0b_v137 V) _ _ _ _ (T.idx_at hx r g)]
  unfold res_main_while0b_v146 res_main_while0b_v144
  clean_types
  generalize Host.gather _ _ _ = M
  pointwise

omit T hx in
/-- The running sum along the last axis. -/
theorem running_at (y : FVec Ideal S262144x3x40 .f32) (r : Fin 262144) (g : Fin 3) (i : Fin 40) :
    (Host.reduceWindowAdd ![1, 1, 40] ![1, 1, 1] ![0, 0, 39] ![0, 0, 0] y (broadcastInDim S_ ![] bcast_S_S_ (constant S_ .f32 0#32))
      reduceWindows_S262144x3x40_S262144x3x40_w1s1p0_0_w1s1p0_0_w40s1p39_0 h_S_ : FVec Ideal S262144x3x40 .f32) (ix3 r g i)
      = ∑ k : Fin 40, if k ≤ i then y (ix3 r g k) else 0 :=
  cumsum_last y _ (by pointwise) reduceWindows_S262144x3x40_S262144x3x40_w1s1p0_0_w1s1p0_0_w40s1p39_0 r g i

omit T hx in
/-- A bin's word as a number. -/
theorem slot_cast (k : Fin 40) : (FloatOps.sitofp .f32 (BitVec.ofNat 32 k.val) : Ideal .f32) = ((k.val : ℝ) : EReal) := by
  have e : (BitVec.ofNat 32 k.val).toInt = k.val := by revert k; decide
  show (((BitVec.ofNat 32 k.val).toInt : ℝ) : EReal) = _
  rw [e, Int.cast_natCast]

/-- A trip puts the layer's coordinate, at the place that the way back names. -/
theorem Trip.step_at (r : Fin 262144) (j : Fin 6) :
    (step_main_v81_10 V : FVec Ideal S262144x6 .f32) (ix2 r j) = ((L.apply (x r) (pick (v j)) : ℝ) : EReal) := by
  unfold step_main_v81_10 res_main_while0b_v105 res_main_while0b_v147
  clean_types
  rw [id, cols_at, T.back_at]
  generalize hG : Host.gather gather_S262144x3x40_S262144x3x1x1_S262144x3x1_n_2_01_01_2_3_111 _ _ = G
  have hG' : ∀ g, G (ix3 r g 0) = ((∑ k : Fin 40, if k ≤ slot (x r (hi g)) then Real.exp (L.theta (x r) (bin g k)) / L.den (x r) g else 0 : ℝ) : EReal) := by
    intro g
    rw [← hG, bins_at _ _ _ _ _ (T.idx_at hx r g), running_at, coe_sum]
    refine Finset.sum_congr rfl fun k _ => ?_
    rw [T.pdf_at hx]
    split <;> simp
  pointwise
  unfold Layer.apply
  split
  · rw [hx]
  · rename_i h
    rw [hG', T.p_at hx, T.pos_at hx, T.idx_at hx, slot_cast, bits_2, ← EReal.coe_one]
    simp only [← EReal.coe_sub, ← EReal.coe_mul, ← EReal.coe_add]
    congr 1
    have hs := spline_lookup (fun k => Real.exp (L.theta (x r) (bin ⟨(pick (v j)).val - 3, by omega⟩ k)) / L.den (x r) ⟨(pick (v j)).val - 3, by omega⟩)
      (place (x r (hi ⟨(pick (v j)).val - 3, by omega⟩))) (slot _) (slot_le _) (le_slot _)
    simp only [ramp_place] at hs
    simp only [Fin.le_def]
    rw [hs]
    simp only [Layer.spl, Layer.num, Finset.mul_sum, Finset.sum_mul, Finset.sum_div]
    congr 1
    exact Finset.sum_congr rfl fun k _ => by ring

end
end Flow
-- ==== Proof.REntry.lean ====
module

public import proofs.«01_k».proof.Proof.RSpline
public import proofs.«01_k».proof.Proof.Start
public import Idealize.ShloMosaic.Lib.StableHlo.RunRead

/-!
What the plain flow's loop starts from.
-/

@[expose] public section

namespace Flow
open Idealize.ShloMosaic Cert.ReferenceIdeal Cert.ReferenceIdeal.Gen Cert.ReferenceIdeal.Value
open Idealize.ShloMosaic.StableHlo
open scoped BigOperators
noncomputable section

set_option maxRecDepth 16384

/-- The polynomial as the plain flow nests it, on real numbers. -/
theorem rpoly (r : ℝ) : r * (1 + r * r * (-5592399 / 16777216 + r * r * (13420787 / 67108864 + r * r * (-9572751 / 67108864 + r * r * (7351775 / 67108864
    + r * r * (-11293761 / 134217728 + r * r * (15618543 / 268435456 + r * r * (-8437541 / 268435456
    + r * r * (5940071 / 536870912 + r * r * (-15715825 / 8589934592)))))))))) = arctan1 r := rfl

variable (m : (ℓ : Loc nD τ sig) → Buf (Elt Ideal) ℓ) (c : Dev nD)

/-- Two arrays joined, each known. -/
theorem concat_congr {t s₁ s₂ : Shape} {α : Type} {d} {A A' : s₁.Idx → α} {B B' : s₂.Idx → α} (h) (hA : A = A') (hB : B = B') :
    id (concatenate t d [⟨s₁, A⟩, ⟨s₂, B⟩] h) = concatenate t d [⟨s₁, A'⟩, ⟨s₂, B'⟩] h := by
  subst hA hB; rfl

/-- The loop finds the first weights as given. -/
theorem entry_w1 : entryContents preI m c (Proc.devRef .tc main_v81_0) = m ((c.tc : Thread nD τ).loc main_arg1) := by
  simp only [entryContents, afterL_cons, afterL_nil]
  after_reads_simp
  rfl

/-- The loop finds the first bias as given. -/
theorem entry_b1 : entryContents preI m c (Proc.devRef .tc main_v81_1) = m ((c.tc : Thread nD τ).loc main_arg2) := by
  simp only [entryContents, afterL_cons, afterL_nil]
  after_reads_simp
  rfl

/-- The loop finds the second weights as given. -/
theorem entry_w2 : entryContents preI m c (Proc.devRef .tc main_v81_2) = m ((c.tc : Thread nD τ).loc main_arg3) := by
  simp only [entryContents, afterL_cons, afterL_nil]
  after_reads_simp
  rfl

/-- The loop finds the second bias as given. -/
theorem entry_b2 : entryContents preI m c (Proc.devRef .tc main_v81_3) = m ((c.tc : Thread nD τ).loc main_arg4) := by
  simp only [entryContents, afterL_cons, afterL_nil]
  after_reads_simp
  rfl

/-- The loop finds the last weights as given. -/
theorem entry_w3 : entryContents preI m c (Proc.devRef .tc main_v81_4) = m ((c.tc : Thread nD τ).loc main_arg5) := by
  simp only [entryContents, afterL_cons, afterL_nil]
  after_reads_simp
  rfl

/-- The loop finds the last bias as given. -/
theorem entry_b3 : entryContents preI m c (Proc.devRef .tc main_v81_5) = m ((c.tc : Thread nD τ).loc main_arg6) := by
  simp only [entryContents, afterL_cons, afterL_nil]
  after_reads_simp
  rfl

/-- The loop finds the orders as given. -/
theorem entry_orders : entryContents preI m c (Proc.devRef .tc main_v81_6) = m ((c.tc : Thread nD τ).loc main_arg7) := by
  simp only [entryContents, afterL_cons, afterL_nil]
  after_reads_simp
  rfl

/-- The loop finds the places that sort the orders. -/
theorem entry_inv : entryContents preI m c (Proc.devRef .tc main_v81_7) = (Host.sort2 S8x6 1 comparator_i32_i32_d1 (m ((c.tc : Thread nD τ).loc main_arg7) : IVec S8x6 32) (iotaInDim S8x6 32 1)).2 := by
  simp only [entryContents, afterL_cons, afterL_nil]
  after_reads_simp
  rfl

/-- The loop finds the permutations, the identity in front. -/
theorem entry_before : entryContents preI m c (Proc.devRef .tc main_v81_8) = concatenate S8x6 0 [⟨S1x6, broadcastInDim S1x6 ![1] bcast_S6_S1x6_1 (iotaInDim S6 32 0)⟩, ⟨S7x6, (m ((c.tc : Thread nD τ).loc main_arg8) : IVec S7x6 32)⟩] concatenates_S1x6_S7x6_S8x6_d0 := by
  simp only [entryContents, afterL_cons, afterL_nil]
  after_reads_simp
  refine concat_congr _ ?_ ?_ <;> after_reads_simp

/-- The loop finds the rows where `start` says. -/
theorem entry_y (x : FVec Ideal S262144x6 .f32) (hx : (m ((c.tc : Thread nD τ).loc main_arg0) : FVec Ideal S262144x6 .f32) = x) (r : Fin 262144) (j : Fin 6) :
    (entryContents preI m c (Proc.devRef .tc main_v81_10) : FVec Ideal S262144x6 .f32) (ix2 r j) = ((start (fun k => x (ix2 r k)) j : ℝ) : EReal) := by
  have hx' : launchContents m c (Proc.tc.devRef main_arg0) = x := hx
  simp only [entryContents, afterL_cons, afterL_nil]
  after_reads_simp
  refine (congrFun (concat_congr _ rfl rfl) (ix2 r j)).trans ?_
  pointwise
  split
  · next hj =>
    after_reads_simp
    simp -implicitDefEqProofs only [StableHlo.TRef.toBuf, StableHlo.TRef.ofBuf, cast_cast, cast_eq]
    clean_types
    simp only [hx', id_eq]
    pointwise
    rw [bits_neg1]
    exact clip_eq (fun k => x (ix2 r k)) j hj
  · next hj =>
    after_reads_simp
    simp -implicitDefEqProofs only [StableHlo.TRef.toBuf, StableHlo.TRef.ofBuf, cast_cast, cast_eq]
    clean_types
    simp only [hx']
    simp only [id_eq]
    obtain ⟨D, hD⟩ : ∃ D : FVec Ideal S262144x3 .f32, Host.divf (extractStridedSlice S262144x3 ![0, 3] x slices_S262144x6_S262144x3_0_3) (broadcastInDim S262144x3 ![] bcast_S_S262144x3 (constant S_ .f32 1078530011#32)) = D := ⟨_, rfl⟩
    rw [hD]
    obtain ⟨N, hN⟩ : ∃ N : FVec Ideal S262144 .f32, Host.reduceAdd (mulf D D) (constant S_ .f32 0#32) reducesTo_S262144x3_S262144_d1 h_S_ = N := ⟨_, rfl⟩
    rw [hN]
    obtain ⟨S, hS⟩ : ∃ S : FVec Ideal S262144x3 .f32, mulf D (broadcastInDim S262144x3 ![0, 1] bcast_S262144x1_S262144x3_0_1 (broadcastInDim S262144x1 ![0] bcast_S262144_S262144x1_0 (Host.divf (broadcastInDim S262144 ![] bcast_S_S262144 (constant S_ .f32 1065353216#32)) (Host.sqrt (maximumf (broadcastInDim S262144 ![] bcast_S_S262144 (constant S_ .f32 730643660#32)) (subf (broadcastInDim S262144 ![] bcast_S_S262144 (constant S_ .f32 1065353216#32)) N)))))) = S := ⟨_, rfl⟩
    rw [hS]
    obtain ⟨M, hM⟩ : ∃ M : FVec Ideal S262144x3 .f32, Host.absf S = M := ⟨_, rfl⟩
    rw [hM]
    obtain ⟨A, hA⟩ : ∃ A : FVec Ideal S262144x3 .f32, select (cmpf .ogt M (broadcastInDim S262144x3 ![] bcast_S_S262144x3 (constant S_ .f32 1065353216#32))) (Host.divf (broadcastInDim S262144x3 ![] bcast_S_S262144x3 (constant S_ .f32 1065353216#32)) M) M = A := ⟨_, rfl⟩
    rw [hA]
    pointwise
    obtain ⟨g, rfl⟩ : ∃ g : Fin 3, j = hi g := ⟨⟨j.val - 3, by omega⟩, Fin.ext (by simp only [hi]; omega)⟩
    have hg : (⟨(hi g).val - 3, by omega⟩ : Fin 3) = g := Fin.ext (by simp only [hi]; omega)
    rw [hg]
    set X : Fin 6 → EReal := fun k => x (ix2 r k) with hX
    have hd : ∀ k, D (ix2 r k) = X (hi k) * ((1 / pif : ℝ) : EReal) := by
      intro k
      rw [← hD]
      pointwise
      rw [bits_pif, Ideal.div_coe pif_pos.ne']
      simp only [one_div, hX]
      rfl
    have hn : N (ix1 r) = ball X := by
      rw [← hN]
      pointwise
      simp only [hd]
      rfl
    rw [hn]
    unfold start
    rw [if_neg hj]
    split
    · next hb =>
      obtain ⟨n, hn'⟩ : ∃ n, n = (ball X).toReal := ⟨_, rfl⟩
      obtain ⟨v, hv⟩ : ∃ v, v = (X (hi g)).toReal := ⟨_, rfl⟩
      rw [← hn', ← hv]
      obtain ⟨τ, hτ⟩ : ∃ τ, τ = v / pif * (√(max (1 - n) eps))⁻¹ := ⟨_, rfl⟩
      have hu : 0 < max (1 - n) eps := lt_max_of_lt_right eps_pos
      have es : S (ix2 r g) = (τ : EReal) := by
        rw [← hS]
        pointwise
        rw [hd, real_of_ball hb g, hn, ball_real hb, ← hn', ← hv, bits_eps]
        simp only [← EReal.coe_one, ← EReal.coe_sub, ← coe_max]
        rw [max_comm eps, Ideal.sqrt_coe, if_neg hu.not_gt, div_coe_coe _ (Real.sqrt_pos.2 hu).ne', ← EReal.coe_mul, ← EReal.coe_mul, hτ]
        congr 1; ring
      have em : M (ix2 r g) = ((|τ| : ℝ) : EReal) := by
        rw [← hM]
        show max (S (ix2 r g)) (-S (ix2 r g)) = _
        rw [es, ← EReal.coe_neg, ← coe_max]; rfl
      obtain ⟨q, hq⟩ : ∃ q, q = (if 1 < |τ| then 1 / |τ| else |τ| : ℝ) := ⟨_, rfl⟩
      have ea : A (ix2 r g) = (q : EReal) := by
        rw [← hA]
        pointwise
        rw [em, hq]
        simp only [← EReal.coe_one, EReal.coe_lt_coe_iff]
        split
        · next h1 => rw [div_coe_coe _ (by linarith)]
        · rfl
      simp only [ea, em, es, bits_a9, bits_a8, bits_a7, bits_a6, bits_a5, bits_a4, bits_a3, bits_a2, bits_a1, bits_half]
      simp only [← EReal.coe_one, ← EReal.coe_zero, ← EReal.coe_mul, ← EReal.coe_add, ← EReal.coe_sub, EReal.coe_lt_coe_iff]
      simp only [rpoly]
      have ey : (if 1 < |τ| then ((pif / 2 - arctan1 q : ℝ) : EReal) else ((arctan1 q : ℝ) : EReal)) = ((arctanMag |τ| : ℝ) : EReal) := by
        unfold arctanMag
        split
        · next h1 => rw [hq, if_pos h1]
        · next h1 => rw [hq, if_neg h1]
      rw [ey]
      have hp : pif / 2 ≠ 0 := by have := pif_pos; positivity
      unfold chart arctan
      rw [← hτ]
      split
      · rw [← EReal.coe_neg, div_coe_coe _ hp]
      · rw [div_coe_coe _ hp]
    · simp

end
end Flow
-- ==== Proof.RFlow.lean ====
module

public import proofs.«01_k».proof.Proof.REntry
public import proofs.«01_k».proof.Proof.Flow

/-!
The plain flow's loop, from its entry to its eighth trip.
-/

@[expose] public section

namespace Flow
open Idealize.ShloMosaic Cert.ReferenceIdeal Cert.ReferenceIdeal.Gen Cert.ReferenceIdeal.Value
open Idealize.ShloMosaic.StableHlo
open scoped BigOperators
noncomputable section

set_option maxRecDepth 16384

variable (m : (ℓ : Loc nD τ sig) → Buf (Elt Ideal) ℓ) (c : Dev nD)

/-- The carried buffers that no trip writes. -/
theorem iterate_kept (k : ℕ) (V : Vals) :
    ((STEP^[k] V) (Proc.devRef .tc main_v81_0) = V (Proc.devRef .tc main_v81_0))
    ∧ ((STEP^[k] V) (Proc.devRef .tc main_v81_1) = V (Proc.devRef .tc main_v81_1))
    ∧ ((STEP^[k] V) (Proc.devRef .tc main_v81_2) = V (Proc.devRef .tc main_v81_2))
    ∧ ((STEP^[k] V) (Proc.devRef .tc main_v81_3) = V (Proc.devRef .tc main_v81_3))
    ∧ ((STEP^[k] V) (Proc.devRef .tc main_v81_4) = V (Proc.devRef .tc main_v81_4))
    ∧ ((STEP^[k] V) (Proc.devRef .tc main_v81_5) = V (Proc.devRef .tc main_v81_5))
    ∧ ((STEP^[k] V) (Proc.devRef .tc main_v81_6) = V (Proc.devRef .tc main_v81_6))
    ∧ ((STEP^[k] V) (Proc.devRef .tc main_v81_7) = V (Proc.devRef .tc main_v81_7))
    ∧ ((STEP^[k] V) (Proc.devRef .tc main_v81_8) = V (Proc.devRef .tc main_v81_8)) := by
  induction k with
  | zero => exact ⟨rfl, rfl, rfl, rfl, rfl, rfl, rfl, rfl, rfl⟩
  | succ k ih =>
    obtain ⟨h0, h1, h2, h3, h4, h5, h6, h7, h8⟩ := ih
    rw [Function.iterate_succ_apply']
    exact ⟨(STEP_main_v81_0 _).trans h0, (STEP_main_v81_1 _).trans h1, (STEP_main_v81_2 _).trans h2, (STEP_main_v81_3 _).trans h3,
      (STEP_main_v81_4 _).trans h4, (STEP_main_v81_5 _).trans h5, (STEP_main_v81_6 _).trans h6, (STEP_main_v81_7 _).trans h7,
      (STEP_main_v81_8 _).trans h8⟩

/-- The counter before trip `k`. -/
theorem iterate_ctr (k : ℕ) (V : Vals) (h : (V (Proc.devRef .tc main_v81_9) : IVec S_ 32) = fun _ => 0#32) :
    ((STEP^[k] V) (Proc.devRef .tc main_v81_9) : IVec S_ 32) = fun _ => BitVec.ofNat 32 k := by
  induction k with
  | zero => exact h
  | succ k ih =>
    rw [Function.iterate_succ_apply', STEP_main_v81_9]
    unfold step_main_v81_9
    funext a
    show IntOp.addi (((STEP^[k] V) (Proc.devRef .tc main_v81_9) : IVec S_ 32) a) 1#32 = _
    rw [ih]
    show BitVec.ofNat 32 k + 1#32 = _
    rw [BitVec.ofNat_add]

/-- The words of the order, at the loop's entry. -/
def orderW (O : IVec S8x6 32) (i : Fin 8) (j : Fin 6) : BitVec 32 := O (ix2 i j)
/-- The words of the way back: the places that sort the order. -/
def backW (O : IVec S8x6 32) (i : Fin 8) (j : Fin 6) : BitVec 32 :=
  (Host.sort2 S8x6 1 comparator_i32_i32_d1 O (iotaInDim S8x6 32 1)).2 (ix2 i j)
/-- The words of the reordering before a layer: none before the first. -/
def beforeW (P : IVec S7x6 32) (i : Fin 8) (j : Fin 6) : BitVec 32 :=
  if h : i.val < 1 then BitVec.ofNat 32 j.val else P (ix2 ⟨i.val - 1, by omega⟩ j)

/-- The permutation before a layer, as the loop finds it. -/
theorem entry_before_at (P : IVec S7x6 32) (h : (m ((c.tc : Thread nD τ).loc main_arg8) : IVec S7x6 32) = P) (i : Fin 8) (j : Fin 6) :
    (entryContents preI m c (Proc.devRef .tc main_v81_8) : IVec S8x6 32) (ix2 i j) = beforeW P i j := by
  rw [entry_before, h]
  clean_types
  pointwise
  rfl

variable {x : FVec Ideal S262144x6 .f32} {O : IVec S8x6 32} {P : IVec S7x6 32} {Ls : Fin 8 → Layer}
  (hx : (m ((c.tc : Thread nD τ).loc main_arg0) : FVec Ideal S262144x6 .f32) = x)
  (hO : (m ((c.tc : Thread nD τ).loc main_arg7) : IVec S8x6 32) = O)
  (hP : (m ((c.tc : Thread nD τ).loc main_arg8) : IVec S7x6 32) = P)
  (hW : Weights Ls (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)))
include hx hO hP hW

/-- What trip `i` finds. -/
theorem trip_at (i : Fin 8) : Trip (STEP^[i.val] (entryContents preI m c)) i (Ls i) (orderW O i) (beforeW P i) (backW O i) := by
  obtain ⟨h0, h1, h2, h3, h4, h5, h6, h7, h8⟩ := iterate_kept i.val (entryContents preI m c)
  refine ⟨iterate_ctr _ _ (ctr_entry m c), ?_, ?_, ?_, ?_, ?_, ?_, ?_, ?_, ?_⟩
  · rw [h0, entry_w1]; exact hW.w1 i
  · rw [h1, entry_b1]; exact hW.b1 i
  · rw [h2, entry_w2]; exact hW.w2 i
  · rw [h3, entry_b2]; exact hW.b2 i
  · rw [h4, entry_w3]; exact hW.w3 i
  · rw [h5, entry_b3]; exact hW.b3 i
  · rw [h6, entry_orders, hO]; exact fun _ => rfl
  · rw [h7, entry_inv, hO]; exact fun _ => rfl
  · rw [h8]; exact entry_before_at m c P hP i

/-- The rows before trip `k`. -/
theorem rows_at (k : ℕ) (hk : k ≤ 8) (r : Fin 262144) (j : Fin 6) :
    ((STEP^[k] (entryContents preI m c)) (Proc.devRef .tc main_v81_10) : FVec Ideal S262144x6 .f32) (ix2 r j)
      = ((rowAfter Ls (orderW O) (beforeW P) (backW O) (start fun l => x (ix2 r l)) k j : ℝ) : EReal) := by
  induction k generalizing r j with
  | zero => exact entry_y m c x hx r j
  | succ k ih =>
    have T := trip_at m c hx hO hP hW ⟨k, by omega⟩
    rw [Function.iterate_succ_apply', STEP_main_v81_10, rowAfter, dif_pos (by omega : k < 8)]
    refine T.step_at (x := fun r l => rowAfter Ls (orderW O) (beforeW P) (backW O) (start fun l => x (ix2 r l)) k (pick (beforeW P ⟨k, by omega⟩ (pick (orderW O ⟨k, by omega⟩ l))))) ?_ r j
    intro r l
    rw [T.in_at]
    exact ih (by omega) r _

end
end Flow
-- ==== Proof.Link.lean ====
module

public import proofs.«01_k».proof.Proof.KFinal
public import proofs.«01_k».proof.Proof.KMat
public import proofs.«01_k».proof.Proof.RFlow

/-!
The kernel's eight layers, which read their columns through merged reorderings, give the reference's row.
-/

@[expose] public section

namespace Flow
open Idealize.ShloMosaic
open scoped BigOperators
noncomputable section

/-- A small word names its own place. -/
theorem pick_ofNat : ∀ k : Fin 6, pick (BitVec.ofNat 32 k.val) = k := by decide

variable (Ls : Fin 8 → Layer) (o v : Fin 8 → Fin 6 → BitVec 32) (P : IVec Cert.ReferenceIdeal.S7x6 32) (z : Fin 6 → ℝ)

/-- One more layer of the kernel. -/
theorem zAfter_succ (cs : Fin 9 → Fin 6 → Fin 6) (i : Fin 8) (j : Fin 6) :
    zAfter cs Ls z (i.val + 1) j = (Ls i).apply (fun k => zAfter cs Ls z i.val (cs i.castSucc k)) j := by
  rw [zAfter, dif_pos i.isLt]
  rfl

/-- Before the first layer nothing is reordered. -/
theorem pick_before_first (k : Fin 6) : pick (beforeW P 0 k) = k := by
  have h : beforeW P 0 k = BitVec.ofNat 32 k.val := dif_pos Nat.zero_lt_one
  rw [h, pick_ofNat]

/-- After each layer, the reference's row is the kernel's column, put back. -/
theorem rowAfter_eq (n : ℕ) (hn : n < 8) (j : Fin 6) :
    rowAfter Ls o (beforeW P) v z (n + 1) j
      = zAfter (places o (fun i j => P (ix2 i j)) v) Ls z (n + 1) (pick (v ⟨n, hn⟩ j)) := by
  rw [rowAfter_succ Ls o (beforeW P) v z ⟨n, hn⟩, zAfter_succ Ls z (places o (fun i j => P (ix2 i j)) v) ⟨n, hn⟩, trip]
  refine congrArg (fun f => Layer.apply (Ls ⟨n, hn⟩) f (pick (v ⟨n, hn⟩ j))) (funext fun k => ?_)
  cases n with
  | zero =>
    show z (pick (beforeW P 0 (pick (o 0 k)))) = z (places o (fun i j => P (ix2 i j)) v 0 k)
    rw [pick_before_first]
    refine congrArg z ?_
    unfold places
    rw [dif_pos (show (0 : Fin 9).val = 0 from rfl)]
  | succ n =>
    show rowAfter Ls o (beforeW P) v z (n + 1) _ = zAfter _ Ls z (n + 1) _
    rw [rowAfter_eq n (by omega)]
    refine congrArg _ ?_
    unfold places
    rw [dif_neg (show ¬ ((⟨n + 1, hn⟩ : Fin 8).castSucc.val = 0) from Nat.succ_ne_zero n),
      dif_neg (show ¬ ((⟨n + 1, hn⟩ : Fin 8).castSucc.val = 8) from hn.ne)]
    have h : ∀ l, beforeW P ⟨n + 1, hn⟩ l = P (ix2 ⟨n, by omega⟩ l) := fun l => dif_neg (by show ¬ n + 1 < 1; omega)
    rw [h]
    rfl

/-- The kernel's last reordering puts back the reference's row. -/
theorem flow_eq (j : Fin 6) :
    zAfter (places o (fun i j => P (ix2 i j)) v) Ls z 8 (places o (fun i j => P (ix2 i j)) v 8 j)
      = rowAfter Ls o (beforeW P) v z 8 j := by
  rw [rowAfter_eq Ls o v P z 7 (by decide) j]
  have h : places o (fun i j => P (ix2 i j)) v 8 j = pick (v 7 j) := by
    unfold places
    rw [dif_neg (by decide), dif_pos (by decide)]
  rw [h]
  rfl

end
end Flow
-- ==== Proof.Same.lean ====
module

public import proofs.«01_k».proof.Proof.KPack
public import proofs.«01_k».proof.Proof.Link

/-!
The kernel's result array and the reference's result array, from the same arguments, are the same array.
-/

@[expose] public section

namespace Flow
open Idealize.ShloMosaic
open scoped BigOperators
noncomputable section

/-- Both programs sort the orders by the same comparison. -/
theorem comparator_eq : Cert.KernelIdeal.comparator_i32_i32_d1 = Cert.ReferenceIdeal.comparator_i32_i32_d1 := rfl

/-- From equal arguments, whose weights are those of eight tame layers, both programs end with the same array. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) {Ls : Fin 8 → Layer} (hL : ∀ i, (Ls i).Tame)
    (x : FVec Ideal Cert.ReferenceIdeal.S262144x6 .f32) (w1 : FVec Ideal Cert.ReferenceIdeal.S8x3x128 .f32)
    (b1 : FVec Ideal Cert.ReferenceIdeal.S8x128 .f32) (w2 : FVec Ideal Cert.ReferenceIdeal.S8x128x128 .f32)
    (b2 : FVec Ideal Cert.ReferenceIdeal.S8x128 .f32) (w3 : FVec Ideal Cert.ReferenceIdeal.S8x128x120 .f32)
    (b3 : FVec Ideal Cert.ReferenceIdeal.S8x120 .f32) (O : IVec Cert.ReferenceIdeal.S8x6 32) (P : IVec Cert.ReferenceIdeal.S7x6 32)
    (hW : Weights Ls w1 b1 w2 b2 w3 b3)
    (a0 : m ((c.tc : Thread Cert.KernelIdeal.nD Cert.KernelIdeal.τ).loc Cert.KernelIdeal.main_arg0) = x)
    (a1 : m ((c.tc : Thread Cert.KernelIdeal.nD Cert.KernelIdeal.τ).loc Cert.KernelIdeal.main_arg1) = w1)
    (a2 : m ((c.tc : Thread Cert.KernelIdeal.nD Cert.KernelIdeal.τ).loc Cert.KernelIdeal.main_arg2) = b1)
    (a3 : m ((c.tc : Thread Cert.KernelIdeal.nD Cert.KernelIdeal.τ).loc Cert.KernelIdeal.main_arg3) = w2)
    (a4 : m ((c.tc : Thread Cert.KernelIdeal.nD Cert.KernelIdeal.τ).loc Cert.KernelIdeal.main_arg4) = b2)
    (a5 : m ((c.tc : Thread Cert.KernelIdeal.nD Cert.KernelIdeal.τ).loc Cert.KernelIdeal.main_arg5) = w3)
    (a6 : m ((c.tc : Thread Cert.KernelIdeal.nD Cert.KernelIdeal.τ).loc Cert.KernelIdeal.main_arg6) = b3)
    (a7 : m ((c.tc : Thread Cert.KernelIdeal.nD Cert.KernelIdeal.τ).loc Cert.KernelIdeal.main_arg7) = O)
    (a8 : m ((c.tc : Thread Cert.KernelIdeal.nD Cert.KernelIdeal.τ).loc Cert.KernelIdeal.main_arg8) = P)
    (r0 : m' ((c.tc : Thread Cert.ReferenceIdeal.nD Cert.ReferenceIdeal.τ).loc Cert.ReferenceIdeal.main_arg0) = x)
    (r1 : m' ((c.tc : Thread Cert.ReferenceIdeal.nD Cert.ReferenceIdeal.τ).loc Cert.ReferenceIdeal.main_arg1) = w1)
    (r2 : m' ((c.tc : Thread Cert.ReferenceIdeal.nD Cert.ReferenceIdeal.τ).loc Cert.ReferenceIdeal.main_arg2) = b1)
    (r3 : m' ((c.tc : Thread Cert.ReferenceIdeal.nD Cert.ReferenceIdeal.τ).loc Cert.ReferenceIdeal.main_arg3) = w2)
    (r4 : m' ((c.tc : Thread Cert.ReferenceIdeal.nD Cert.ReferenceIdeal.τ).loc Cert.ReferenceIdeal.main_arg4) = b2)
    (r5 : m' ((c.tc : Thread Cert.ReferenceIdeal.nD Cert.ReferenceIdeal.τ).loc Cert.ReferenceIdeal.main_arg5) = w3)
    (r6 : m' ((c.tc : Thread Cert.ReferenceIdeal.nD Cert.ReferenceIdeal.τ).loc Cert.ReferenceIdeal.main_arg6) = b3)
    (r7 : m' ((c.tc : Thread Cert.ReferenceIdeal.nD Cert.ReferenceIdeal.τ).loc Cert.ReferenceIdeal.main_arg7) = O)
    (r8 : m' ((c.tc : Thread Cert.ReferenceIdeal.nD Cert.ReferenceIdeal.τ).loc Cert.ReferenceIdeal.main_arg8) = P) :
    ((Cert.ReferenceIdeal.Value.STEP^[8] (StableHlo.entryContents Cert.ReferenceIdeal.Value.preI m' c))
        (Proc.devRef .tc Cert.ReferenceIdeal.main_v81_10) : FVec Ideal Cert.ReferenceIdeal.S262144x6 .f32)
      = (Cert.KernelIdeal.Gen.dats m 0 c).arrAt 12 Cert.KernelIdeal.cfg0.N := by
  have hK := result_at m c hL (packed m c (Ls := Ls) (o := orderW O) (p := fun i j => P (ix2 i j)) (v := backW O)
    (by rw [a1, a2, a3, a4, a5, a6]; exact hW) (fun i j => by rw [a7]; rfl) (fun i j => by rw [a8])
    (fun i j => by rw [a7, comparator_eq]; rfl))
  rw [hK, a0]
  funext i
  obtain ⟨r, j, rfl⟩ : ∃ (r : Fin 262144) (j : Fin 6), i = ix2 r j := ⟨i 0, i 1, by funext a; match a with | ⟨0, _⟩ => rfl | ⟨1, _⟩ => rfl⟩
  rw [rows_at m' c r0 r7 r8 (by rw [r1, r2, r3, r4, r5, r6]; exact hW) 8 le_rfl r j,
    ← flow_eq Ls (orderW O) (backW O) P (start fun l => x (ix2 r l)) j]
  rfl

end
end Flow
-- ==== Proof.Arctan.lean ====
module

public import proofs.«01_k».proof.Proof.Start
public import Mathlib.Analysis.SpecialFunctions.Trigonometric.Arctan
public import Mathlib.Analysis.SpecialFunctions.ExpDeriv
public import Mathlib.Analysis.Calculus.Deriv.Inverse
public import Mathlib.Analysis.Calculus.MeanValue

/-!
How near the polynomial arctangent of the chart is to the arctangent (`arctan_near`).

A longer polynomial `long` stands between the two. The derivative of `r · long (r²)` differs from `1 / (1 + r²)` by less
than `10⁻⁹` on `[0, 1]`, and its coefficients differ from those of the chart's polynomial by a polynomial that stays
below `9 · 10⁻⁹` there. Both bounds are computed: a polynomial with rational coefficients is expanded around the middles of
32 intervals, and the magnitudes of the new coefficients bound it on each (`ev_le`).
-/

@[expose] public section

namespace Flow
open scoped BigOperators
noncomputable section

/-- The polynomial with the coefficients `l`, constant term first. -/
def ev (l : List ℚ) (t : ℝ) : ℝ := l.foldr (fun a r => (a : ℝ) + t * r) 0
/-- The sum of two lists of coefficients. -/
def addL : List ℚ → List ℚ → List ℚ
  | [], m => m
  | a :: l, [] => a :: l
  | a :: l, b :: m => (a + b) :: addL l m
/-- The coefficients of a multiple. -/
def mulL (c : ℚ) (l : List ℚ) : List ℚ := l.map (c * ·)
/-- The coefficients around the point `c`. -/
def around (c : ℚ) : List ℚ → List ℚ
  | [] => []
  | a :: l => addL [a] (addL (mulL c (around c l)) (0 :: around c l))
/-- The magnitudes of the coefficients, at `h`. -/
def size (h : ℚ) : List ℚ → ℚ
  | [] => 0
  | a :: l => |a| + h * size h l
/-- The coefficients of the derivative of `r ^ (2 n + 1)` times the polynomial of `r²`, over `r ^ (2 n)`. -/
def oddL : ℕ → List ℚ → List ℚ
  | _, [] => []
  | n, a :: l => (2 * n + 1) * a :: oddL (n + 1) l

/-- The polynomial of no coefficients. -/
theorem ev_nil (t : ℝ) : ev [] t = 0 := rfl
/-- A polynomial by its constant term and the rest. -/
theorem ev_cons (a : ℚ) (l : List ℚ) (t : ℝ) : ev (a :: l) t = a + t * ev l t := rfl
/-- The polynomial of a sum of coefficients. -/
theorem ev_add (l m : List ℚ) (t : ℝ) : ev (addL l m) t = ev l t + ev m t := by
  induction l generalizing m with
  | nil => simp [addL, ev_nil]
  | cons a l ih =>
    cases m with
    | nil => simp [addL, ev_nil]
    | cons b m => simp only [addL, ev_cons, ih]; push_cast; ring
/-- The polynomial of a multiple. -/
theorem ev_mul (c : ℚ) (l : List ℚ) (t : ℝ) : ev (mulL c l) t = c * ev l t := by
  induction l with
  | nil => simp [mulL, ev_nil]
  | cons a l ih =>
    have : mulL c (a :: l) = c * a :: mulL c l := rfl
    rw [this, ev_cons, ih, ev_cons]; push_cast; ring
/-- The polynomial around a point. -/
theorem ev_around (c : ℚ) (l : List ℚ) (t : ℝ) : ev (around c l) t = ev l (c + t) := by
  induction l with
  | nil => rfl
  | cons a l ih => simp only [around, ev_add, ev_mul, ev_cons, ev_nil, ih]; push_cast; ring
/-- Near zero the magnitudes of the coefficients bound a polynomial. -/
theorem abs_ev_le (h : ℚ) (l : List ℚ) (t : ℝ) (ht : |t| ≤ h) : |ev l t| ≤ size h l := by
  induction l with
  | nil => simp [ev_nil, size]
  | cons a l ih =>
    have h0 : (0 : ℝ) ≤ h := (abs_nonneg t).trans ht
    rw [ev_cons, size]
    push_cast
    refine (abs_add_le _ _).trans (add_le_add le_rfl ?_)
    rw [abs_mul]
    exact mul_le_mul ht ih (abs_nonneg _) h0

/-- On `[0, 1]` a polynomial is bounded by its coefficients around the middles of 32 intervals. -/
theorem ev_le (l : List ℚ) (e : ℚ) (he : ∀ i : Fin 32, size (1 / 64) (around ((2 * i.val + 1 : ℕ) / 64) l) ≤ e)
    {s : ℝ} (h0 : 0 ≤ s) (h1 : s ≤ 1) : |ev l s| ≤ e := by
  obtain ⟨n, hn, hl, hu⟩ : ∃ n : ℕ, n < 32 ∧ (n : ℝ) ≤ 32 * s ∧ 32 * s ≤ n + 1 := by
    by_cases h : ⌊32 * s⌋₊ < 32
    · exact ⟨_, h, Nat.floor_le (by linarith), (Nat.lt_floor_add_one _).le⟩
    · exact ⟨31, by norm_num, by
        have := (Nat.le_floor_iff (by linarith : 0 ≤ 32 * s)).1 (not_lt.1 h)
        push_cast at this ⊢; linarith, by push_cast; linarith⟩
  have h := abs_ev_le (1 / 64) (around ((2 * n + 1 : ℕ) / 64) l) (s - (((2 * n + 1 : ℕ) / 64 : ℚ) : ℝ)) (by
    rw [abs_le]; push_cast; constructor <;> linarith)
  rw [ev_around, add_sub_cancel] at h
  exact h.trans (by exact_mod_cast he ⟨n, hn⟩)

/-- The derivative of an odd polynomial. -/
theorem hasDerivAt_odd (n : ℕ) (l : List ℚ) (r : ℝ) :
    HasDerivAt (fun r : ℝ => r ^ (2 * n + 1) * ev l (r ^ 2)) (r ^ (2 * n) * ev (oddL n l) (r ^ 2)) r := by
  induction l generalizing n with
  | nil => simpa [ev_nil, oddL] using hasDerivAt_const r (0 : ℝ)
  | cons a l ih =>
    have h := ((hasDerivAt_pow (2 * n + 1) r).mul_const (a : ℝ)).add (ih (n + 1))
    refine (h.congr_deriv ?_).congr_of_eventuallyEq (Filter.Eventually.of_forall fun x => ?_)
    · simp only [oddL, ev_cons, Nat.add_sub_cancel]; push_cast; ring
    · simp only [ev_cons, Pi.add_apply]; ring

/-- The derivative of the sine. -/
theorem hasDerivAt_sin (x : ℝ) : HasDerivAt Real.sin (Real.cos x) x := by
  have h : HasDerivAt Complex.sin (Complex.cos x) (x : ℂ) := by
    have k := ((((hasDerivAt_id (x : ℂ)).neg.mul_const Complex.I).cexp.sub
      ((hasDerivAt_id (x : ℂ)).mul_const Complex.I).cexp).mul_const Complex.I).mul_const (2 : ℂ)⁻¹
    refine (k.congr_deriv ?_).congr_of_eventuallyEq (Filter.Eventually.of_forall fun y => ?_)
    · simp only [Pi.neg_apply, id, Complex.cos, div_eq_mul_inv]
      linear_combination (-(Complex.exp (-(x : ℂ) * Complex.I) + Complex.exp ((x : ℂ) * Complex.I)) * 2⁻¹) * Complex.I_mul_I
    · simp only [Complex.sin, div_eq_mul_inv]; rfl
  exact h.real_of_complex

/-- The derivative of the cosine. -/
theorem hasDerivAt_cos (x : ℝ) : HasDerivAt Real.cos (-Real.sin x) x := by
  have h := (hasDerivAt_sin (Real.pi / 2 - x)).comp x ((hasDerivAt_id x).const_sub (Real.pi / 2))
  rw [Real.cos_pi_div_two_sub, mul_neg_one] at h
  exact h.congr_of_eventuallyEq (Filter.Eventually.of_forall fun y => (Real.sin_pi_div_two_sub y).symm)

/-- The derivative of the arctangent. -/
theorem hasDerivAt_arctan (r : ℝ) : HasDerivAt Real.arctan (1 / (1 + r ^ 2)) r := by
  have hc := (Real.cos_arctan_pos r).ne'
  have ht := (hasDerivAt_sin (Real.arctan r)).div (hasDerivAt_cos (Real.arctan r)) hc
  have e : (Real.cos (Real.arctan r) * Real.cos (Real.arctan r) - Real.sin (Real.arctan r) * -Real.sin (Real.arctan r))
      / Real.cos (Real.arctan r) ^ 2 = 1 + r ^ 2 := by
    rw [show Real.cos (Real.arctan r) * Real.cos (Real.arctan r) - Real.sin (Real.arctan r) * -Real.sin (Real.arctan r)
      = Real.sin (Real.arctan r) ^ 2 + Real.cos (Real.arctan r) ^ 2 by ring, Real.sin_sq_add_cos_sq, Real.cos_sq_arctan, one_div_one_div]
  rw [e] at ht
  have h := HasDerivAt.of_local_left_inverse Real.continuousAt_arctan ht (by positivity) (Filter.Eventually.of_forall fun y => by
    rw [Pi.div_apply, ← Real.tan_eq_sin_div_cos, Real.tan_arctan])
  rwa [← one_div] at h

/-- The coefficients of the chart's polynomial. -/
def short : List ℚ := [1, -5592399 / 16777216, 13420787 / 67108864, -9572751 / 67108864, 7351775 / 67108864,
  -11293761 / 134217728, 15618543 / 268435456, -8437541 / 268435456, 5940071 / 536870912, -15715825 / 8589934592]
/-- The coefficients of a longer polynomial, nearer to the arctangent. -/
def long : List ℚ := [49999999989 / 50000000000, -3333333081 / 10000000000, 19999913959 / 100000000000, -7142162271 / 50000000000,
  5549111607 / 50000000000, -360586987 / 4000000000, 1477050959 / 20000000000, -5786102127 / 100000000000,
  4021057121 / 100000000000, -283269771 / 12500000000, 934301001 / 100000000000, -30539049 / 12500000000, 29968987 / 100000000000]

/-- The chart's polynomial by its coefficients. -/
theorem arctan1_eq (r : ℝ) : arctan1 r = r * ev short (r ^ 2) := by
  simp only [arctan1, poly, short, ev_cons, ev_nil]; push_cast; ring

/-- On `[0, 1]` the two polynomials are near. -/
theorem short_near {s : ℝ} (h0 : 0 ≤ s) (h1 : s ≤ 1) : |ev short s - ev long s| ≤ 9 / 1000000000 := by
  have h := ev_le (addL short (mulL (-1) long)) (9 / 1000000000) (by decide +kernel) h0 h1
  rw [ev_add, ev_mul] at h
  push_cast at h
  simpa [sub_eq_add_neg] using h

/-- On `[0, 1]` the longer polynomial has nearly the derivative of the arctangent. -/
theorem long_near {s : ℝ} (h0 : 0 ≤ s) (h1 : s ≤ 1) : |ev (oddL 0 long) s - 1 / (1 + s)| ≤ 1 / 1000000000 := by
  have h := ev_le (addL (addL (oddL 0 long) (0 :: oddL 0 long)) [-1]) (1 / 1000000000) (by decide +kernel) h0 h1
  rw [ev_add, ev_add, ev_cons, ev_cons, ev_nil] at h
  push_cast at h
  have e : ev (oddL 0 long) s - 1 / (1 + s) = (ev (oddL 0 long) s + (0 + s * ev (oddL 0 long) s) + (-1 + s * 0)) / (1 + s) := by
    have : (1 + s) ≠ 0 := by linarith
    field_simp; ring
  rw [e, abs_div, abs_of_pos (by linarith : 0 < 1 + s)]
  exact (div_le_self (abs_nonneg _) (by linarith)).trans h

/-- On `[0, 1]` the longer polynomial is near the arctangent. -/
theorem long_arctan_near {r : ℝ} (h0 : 0 ≤ r) (h1 : r ≤ 1) : |r * ev long (r ^ 2) - Real.arctan r| ≤ 1 / 1000000000 := by
  have hd : ∀ x ∈ Set.Icc (0 : ℝ) 1, HasDerivWithinAt (fun r => r * ev long (r ^ 2) - Real.arctan r)
      (ev (oddL 0 long) (x ^ 2) - 1 / (1 + x ^ 2)) (Set.Icc 0 1) x := fun x _ => by
    have h := (hasDerivAt_odd 0 long x).sub (hasDerivAt_arctan x)
    simp only [mul_zero, zero_add, pow_one, pow_zero, one_mul] at h
    exact h.hasDerivWithinAt
  have hb := Convex.norm_image_sub_le_of_norm_hasDerivWithin_le hd (C := 1 / 1000000000)
    (fun x hx => long_near (sq_nonneg x) (by nlinarith [hx.1, hx.2])) (convex_Icc 0 1) (Set.left_mem_Icc.2 zero_le_one) (y := r) ⟨h0, h1⟩
  simp only [Real.norm_eq_abs, zero_mul, Real.arctan_zero, sub_zero, abs_of_nonneg h0] at hb
  exact hb.trans (by linarith)

/-- On `[0, 1]` the polynomial arctangent is near the arctangent. -/
theorem arctan1_near {r : ℝ} (h0 : 0 ≤ r) (h1 : r ≤ 1) : |arctan1 r - Real.arctan r| ≤ 1 / 100000000 := by
  have hb := long_arctan_near h0 h1
  have hs := short_near (sq_nonneg r) (by nlinarith : r ^ 2 ≤ 1)
  have e : arctan1 r - Real.arctan r = r * (ev short (r ^ 2) - ev long (r ^ 2)) + (r * ev long (r ^ 2) - Real.arctan r) := by
    rw [arctan1_eq]; ring
  rw [e]
  refine (abs_add_le _ _).trans ?_
  rw [abs_mul, abs_of_nonneg h0]
  nlinarith [abs_nonneg (ev short (r ^ 2) - ev long (r ^ 2))]

/-- The single-precision `π` is near `π`, which is four times the arctangent of one. -/
theorem pif_near : |pif - Real.pi| ≤ 1 / 10000000 := by
  have h := long_arctan_near zero_le_one le_rfl
  rw [Real.arctan_one] at h
  simp only [long, ev_cons, ev_nil] at h
  unfold pif
  rw [abs_le] at h ⊢
  push_cast at h
  constructor <;> linarith

/-- The magnitude of the polynomial arctangent is near the arctangent of the magnitude. -/
theorem arctanMag_near {a : ℝ} (h : 0 ≤ a) : |arctanMag a - Real.arctan a| ≤ 6 / 100000000 := by
  unfold arctanMag
  split
  · next h1 =>
    have hi := Real.arctan_inv_of_pos (by linarith : 0 < a)
    have hn := arctan1_near (r := 1 / a) (by positivity) ((div_le_one (by linarith)).2 h1.le)
    rw [one_div, hi] at hn
    have hp := pif_near
    rw [one_div]
    rw [abs_le] at hn hp ⊢
    constructor <;> linarith
  · next h1 => exact (arctan1_near h (not_lt.1 h1)).trans (by norm_num)

/-- The polynomial arctangent is near the arctangent, everywhere. -/
theorem arctan_near (t : ℝ) : |arctan t - Real.arctan t| ≤ 6 / 100000000 := by
  have h := arctanMag_near (abs_nonneg t)
  unfold arctan
  split
  · next ht =>
    rw [abs_of_neg ht, Real.arctan_neg] at h
    rw [abs_of_neg ht, show -arctanMag (-t) - Real.arctan t = -(arctanMag (-t) - -Real.arctan t) by ring, abs_neg]
    exact h
  · next ht =>
    rw [abs_of_nonneg (not_lt.1 ht)] at h ⊢
    exact h

end
end Flow
-- ==== Proof.Chart.lean ====
module

public import proofs.«01_k».proof.Proof.REntry
public import proofs.«01_k».proof.Proof.Arctan
public import proofs.«01_k».proof.Proof.Gen.ChartIdeal.Run
public import proofs.«01_k».proof.Post_near_arctan

/-!
The reference's chart is near the chart with the true arctangent.

`chart_at`: the program of the chart alone computes the last three coordinates of `start`. `near_of_chart`: an array of
these coordinates meets the postcondition, which computes the chart with the arctangent and compares.
-/

@[expose] public section

namespace Flow
open Idealize.ShloMosaic Cert.ChartIdeal Cert.ChartIdeal.Gen Cert.ChartIdeal.Value
open Idealize.ShloMosaic.StableHlo
open scoped BigOperators
noncomputable section

set_option maxRecDepth 16384

/-- The side conditions of the postcondition's operations. -/
theorem near_facts : Cert.Post_near_arctan.Facts := by
  constructor <;> decide

/-- A row of the input whose first three coordinates are zero and whose vector is row `r` of `x`. -/
def padded (x : FVec Ideal S262144x3 .f32) (r : Fin 262144) (k : Fin 6) : EReal :=
  if h : 3 ≤ k.val then x (ix2 r ⟨k.val - 3, by omega⟩) else 0

/-- The padded row's vector. -/
theorem padded_hi (x : FVec Ideal S262144x3 .f32) (r : Fin 262144) (g : Fin 3) : padded x r (hi g) = x (ix2 r g) := by
  have h : 3 ≤ (hi g).val := by simp only [hi]; omega
  rw [padded, dif_pos h]
  congr 2
  exact Fin.ext (by simp only [hi]; omega)

/-- The scaled vectors, as an array of extended reals. -/
def cScaled (V : Valuation τ sig (Elt Ideal)) : FVec Ideal S262144x3 .f32 := res_main_v1 V
/-- The squared lengths, as an array of extended reals. -/
def cNorm (V : Valuation τ sig (Elt Ideal)) : FVec Ideal S262144 .f32 := res_main_v3 V
/-- The stretched vectors, as an array of extended reals. -/
def cStretched (V : Valuation τ sig (Elt Ideal)) : FVec Ideal S262144x3 .f32 := res_main_v14 V
/-- The polynomial arctangents of the magnitudes, as an array of extended reals. -/
def cMag (V : Valuation τ sig (Elt Ideal)) : FVec Ideal S262144x3 .f32 := res_main_v64 V
/-- The program's result. -/
def cResult (V : Valuation τ sig (Elt Ideal)) : FVec Ideal S262144x3 .f32 :=
  select (broadcastInDim S262144x3 ![0, 1] bcast_S262144x1_S262144x3_0_1 (broadcastInDim S262144x1 ![0] bcast_S262144_S262144x1_0
      (cmpf .olt (cNorm V) (broadcastInDim S262144 ![] bcast_S_S262144 (constant S_ .f32 0x3F800000#32)))))
    (Host.divf (select (cmpf .olt (cStretched V) (broadcastInDim S262144x3 ![] bcast_S_S262144x3 (constant S_ .f32 0x00000000#32)))
      (Host.negf (cMag V)) (cMag V)) (broadcastInDim S262144x3 ![] bcast_S_S262144x3 (constant S_ .f32 0x3FC90FDB#32)))
    (broadcastInDim S262144x3 ![] bcast_S_S262144x3 (id (constant S_ .f32 0x00000000#32)))

/-- The chart with the true arctangent. -/
def cTrue (V : Valuation τ sig (Elt Ideal)) : FVec Ideal S262144x3 .f32 :=
  select (broadcastInDim S262144x3 ![0, 1] bcast_S262144x1_S262144x3_0_1 (broadcastInDim S262144x1 ![0] bcast_S262144_S262144x1_0
      (cmpf .olt (cNorm V) (broadcastInDim S262144 ![] bcast_S_S262144 (constant S_ .f32 0x3F800000#32)))))
    (Host.divf (Host.atan (cStretched V)) (broadcastInDim S262144x3 ![] bcast_S_S262144x3 (constant S_ .f32 0x3FC90FDB#32)))
    (broadcastInDim S262144x3 ![] bcast_S_S262144x3 (id (constant S_ .f32 0x00000000#32)))

variable (V : Valuation τ sig (Elt Ideal)) (x : FVec Ideal S262144x3 .f32) (hx : V (Proc.devRef .tc main_arg0) = x) (r : Fin 262144)
include hx

/-- The vectors in units of the single-precision `π`. -/
theorem scaled_at (g : Fin 3) : cScaled V (ix2 r g) = padded x r (hi g) * ((1 / pif : ℝ) : EReal) := by
  rw [padded_hi, cScaled, res_main_v1, hx]
  pointwise
  rw [bits_pif, Ideal.div_coe pif_pos.ne', one_div]

/-- Their squared lengths. -/
theorem norm_at : cNorm V (ix1 r) = ball (padded x r) := by
  rw [cNorm, res_main_v3, show res_main_v1 V = cScaled V from rfl]
  pointwise
  simp only [scaled_at V x hx]
  rfl

/-- In the open ball, the stretched vectors. -/
theorem stretched_at (hb : ball (padded x r) < 1) (g : Fin 3) : cStretched V (ix2 r g)
    = (((padded x r (hi g)).toReal / pif * (√(max (1 - (ball (padded x r)).toReal) eps))⁻¹ : ℝ) : EReal) := by
  have hu : 0 < max (1 - (ball (padded x r)).toReal) eps := lt_max_of_lt_right eps_pos
  rw [cStretched, res_main_v14, show res_main_v1 V = cScaled V from rfl, show res_main_v3 V = cNorm V from rfl]
  simp only [id_eq]
  pointwise
  rw [scaled_at V x hx, norm_at V x hx, real_of_ball hb g, ball_real hb, bits_eps]
  simp only [EReal.toReal_coe]
  simp only [← EReal.coe_one, ← EReal.coe_sub, ← coe_max]
  rw [max_comm eps, Ideal.sqrt_coe, if_neg hu.not_gt, div_coe_coe _ (Real.sqrt_pos.2 hu).ne', ← EReal.coe_mul, ← EReal.coe_mul]
  congr 1; ring

/-- In the open ball, the polynomial arctangent of the magnitude. -/
theorem mag_at (hb : ball (padded x r) < 1) (g : Fin 3) (τ : ℝ) (hτ : cStretched V (ix2 r g) = (τ : EReal)) :
    cMag V (ix2 r g) = ((arctanMag |τ| : ℝ) : EReal) := by
  have em : (res_main_v15 V : FVec Ideal S262144x3 .f32) (ix2 r g) = ((|τ| : ℝ) : EReal) := by
    show max (cStretched V (ix2 r g)) (-cStretched V (ix2 r g)) = _
    rw [hτ, ← EReal.coe_neg, ← coe_max]; rfl
  obtain ⟨q, hq⟩ : ∃ q, q = (if 1 < |τ| then 1 / |τ| else |τ| : ℝ) := ⟨_, rfl⟩
  have ea : (res_main_v20 V : FVec Ideal S262144x3 .f32) (ix2 r g) = (q : EReal) := by
    rw [res_main_v20]
    pointwise
    rw [em, hq]
    simp only [← EReal.coe_one, EReal.coe_lt_coe_iff]
    split
    · next h1 => rw [div_coe_coe _ (by linarith)]
    · rfl
  rw [cMag, res_main_v64, res_main_v57]
  pointwise
  simp only [ea, em, bits_a9, bits_a8, bits_a7, bits_a6, bits_a5, bits_a4, bits_a3, bits_a2, bits_a1, bits_half]
  simp only [← EReal.coe_one, ← EReal.coe_mul, ← EReal.coe_add, ← EReal.coe_sub, EReal.coe_lt_coe_iff]
  simp only [rpoly]
  unfold arctanMag
  split
  · next h1 => rw [hq, if_pos h1]
  · next h1 => rw [hq, if_neg h1]

/-- The program's result is the last three coordinates of `start`. -/
theorem chart_at (g : Fin 3) :
    cResult V (ix2 r g) = ((start (padded x r) (hi g) : ℝ) : EReal) := by
  have hj : ¬(hi g).val < 3 := by simp only [hi]; omega
  rw [cResult]
  simp only [id_eq]
  pointwise
  rw [norm_at V x hx]
  unfold start
  rw [if_neg hj]
  split
  · next hb =>
    have es := stretched_at V x hx r hb g
    have ey := mag_at V x hx r hb g _ es
    have hp : pif / 2 ≠ 0 := by have := pif_pos; positivity
    rw [es, ey, bits_half]
    simp only [← EReal.coe_zero, EReal.coe_lt_coe_iff]
    unfold chart arctan
    split
    · rw [← EReal.coe_neg, div_coe_coe _ hp]
    · rw [div_coe_coe _ hp]
  · simp

/-- A coordinate of the chart with the true arctangent. -/
def trueChart (X : Fin 6 → EReal) (g : Fin 3) : ℝ :=
  if ball X < 1 then Real.arctan ((X (hi g)).toReal / pif * (√(max (1 - (ball X).toReal) eps))⁻¹) / (pif / 2) else 0

/-- The array that the postcondition compares with holds these coordinates. -/
theorem true_at (g : Fin 3) : cTrue V (ix2 r g) = ((trueChart (padded x r) g : ℝ) : EReal) := by
  rw [cTrue]
  simp only [id_eq]
  pointwise
  rw [norm_at V x hx]
  unfold trueChart
  split
  · next hb =>
    have hp : pif / 2 ≠ 0 := by have := pif_pos; positivity
    rw [stretched_at V x hx r hb g, bits_half, Ideal.atan_coe, div_coe_coe _ hp]
  · simp

omit hx in
/-- The two charts are near. -/
theorem start_near (X : Fin 6 → EReal) (g : Fin 3) : |start X (hi g) - trueChart X g| ≤ 4 / 100000000 := by
  have hj : ¬(hi g).val < 3 := by simp only [hi]; omega
  unfold start trueChart
  rw [if_neg hj]
  split
  · have h := arctan_near ((X (hi g)).toReal / pif * (√(max (1 - (ball X).toReal) eps))⁻¹)
    unfold chart
    rw [← sub_div, abs_div, abs_of_pos (by have := pif_pos; positivity : 0 < pif / 2), div_le_iff₀ (by have := pif_pos; positivity)]
    exact h.trans (by unfold pif; norm_num)
  · norm_num

omit hx in
/-- The word of the distance that is claimed. -/
theorem bits_near : Ideal.ofBits .f32 0x33D6BF95#32 = ((14073749 / 140737488355328 : ℝ) : EReal) := by
  simp [Ideal.ofBits, Ideal.ieee, -EReal.coe_mul]; norm_num

omit hx in
/-- Where two arrays hold real numbers that are near, the comparison says so. -/
theorem near_word {s : Shape} (Y T : FVec Ideal s .f32) (hb : S_.BroadcastsInDim s ![]) (i : s.Idx) (a b : ℝ)
    (hY : Y i = ((a : ℝ) : EReal)) (hT : T i = ((b : ℝ) : EReal)) (h : |a - b| ≤ 4 / 100000000) :
    cmpf .ole (Host.absf (subf Y T)) (broadcastInDim s ![] hb (constant S_ .f32 0x33D6BF95#32)) i = 1#1 := by
  show BitVec.ofBool (decide (max ((Y i : EReal) - (T i : EReal)) (-((Y i : EReal) - (T i : EReal))) ≤ Ideal.ofBits .f32 0x33D6BF95#32)) = 1#1
  rw [hY, hT, bits_near, ← EReal.coe_sub, ← EReal.coe_neg, ← coe_max, decide_eq_true]
  · rfl
  · rw [EReal.coe_le_coe_iff]
    exact h.trans (by norm_num)

variable [Cert.Post_near_arctan.Facts]

/-- What the postcondition computes of an array. -/
theorem near_eq (y : FVec Ideal S262144x3 .f32) : Cert.Post_near_arctan.fn x y =
    cmpf .ole (Host.absf (subf y (cTrue V))) (broadcastInDim S262144x3 ![] bcast_S_S262144x3 (constant S_ .f32 0x33D6BF95#32)) := by
  subst hx
  rfl

/-- The program's result is everywhere near the chart with the true arctangent. -/
theorem near_of_chart : Cert.Post_near_arctan.fn x (cResult V) = fun _ => 1#1 := by
  rw [near_eq V x hx]
  refine funext fun i => ?_
  obtain ⟨r, g, rfl⟩ : ∃ (r : Fin 262144) (g : Fin 3), i = ix2 r g := ⟨i 0, i 1, by funext k; fin_cases k <;> rfl⟩
  exact near_word _ _ _ _ _ _ (chart_at V x hx r g) (true_at V x hx r g) (start_near _ g)

end
end Flow
-- ==== Proof.Tame.lean ====
module

public import proofs.«01_k».proof.Proof.Flow
public import proofs.«01_k».proof.Pre_tame
public import Idealize.ShloMosaic.Lib.Pointwise

/-!
What the precondition says: the weights are real numbers, and they keep every logit within sixty.
-/

@[expose] public section

namespace Flow
open Idealize.ShloMosaic Cert.Pre_tame Cert.Pre_tame.Facts
open scoped BigOperators
noncomputable section

/-- The side conditions of the precondition's operations. -/
theorem tame_facts : Cert.Pre_tame.Facts := by
  constructor <;> decide

variable [Cert.Pre_tame.Facts]

/-- The bound of the first hidden row. -/
def pB1 (w : FVec Ideal S8x3x128 .f32) (b : FVec Ideal S8x128 .f32) : FVec Ideal S8x128 .f32 :=
  addf (Host.reduceAdd (Host.absf w) (constant S_ .f32 0x00000000#32) reducesTo_S8x3x128_S8x128_d1 h_S_) (Host.absf b)
/-- The bound of the second hidden row. -/
def pB2 (B : FVec Ideal S8x128 .f32) (w : FVec Ideal S8x128x128 .f32) (b : FVec Ideal S8x128 .f32) : FVec Ideal S8x128 .f32 :=
  addf (Host.reduceAdd (mulf (broadcastInDim S8x128x128 ![0, 1, 2] bcast_S8x128x1_S8x128x128_0_1_2
      (broadcastInDim S8x128x1 ![0, 1] bcast_S8x128_S8x128x1_0_1 B : FVec Ideal S8x128x1 .f32)) (Host.absf w))
    (constant S_ .f32 0x00000000#32) reducesTo_S8x128x128_S8x128_d1 h_S_) (Host.absf b)
/-- The bound of the logits. -/
def pB3 (B : FVec Ideal S8x128 .f32) (w : FVec Ideal S8x128x120 .f32) (b : FVec Ideal S8x120 .f32) : FVec Ideal S8x120 .f32 :=
  addf (Host.reduceAdd (mulf (broadcastInDim S8x128x120 ![0, 1, 2] bcast_S8x128x1_S8x128x120_0_1_2
      (broadcastInDim S8x128x1 ![0, 1] bcast_S8x128_S8x128x1_0_1 B : FVec Ideal S8x128x1 .f32)) (Host.absf w))
    (constant S_ .f32 0x00000000#32) reducesTo_S8x128x120_S8x120_d1 h_S_) (Host.absf b)

/-- The bound of the first hidden row at an index. -/
theorem pB1_at (w : FVec Ideal S8x3x128 .f32) (b : FVec Ideal S8x128 .f32) (i : Fin 8) (h : Fin 128) :
    pB1 w b (ix2 i h) = (∑ j : Fin 3, FloatOps.absf (w (ix3 i j h))) + FloatOps.absf (b (ix2 i h)) := by
  pointwise [pB1]
/-- The bound of the second hidden row at an index. -/
theorem pB2_at (B : FVec Ideal S8x128 .f32) (w : FVec Ideal S8x128x128 .f32) (b : FVec Ideal S8x128 .f32) (i : Fin 8) (h : Fin 128) :
    pB2 B w b (ix2 i h) = (∑ j : Fin 128, B (ix2 i j) * FloatOps.absf (w (ix3 i j h))) + FloatOps.absf (b (ix2 i h)) := by
  pointwise [pB2]
/-- The bound of the logits at an index. -/
theorem pB3_at (B : FVec Ideal S8x128 .f32) (w : FVec Ideal S8x128x120 .f32) (b : FVec Ideal S8x120 .f32) (i : Fin 8) (h : Fin 120) :
    pB3 B w b (ix2 i h) = (∑ j : Fin 128, B (ix2 i j) * FloatOps.absf (w (ix3 i j h))) + FloatOps.absf (b (ix2 i h)) := by
  pointwise [pB3]

variable (x : FVec Ideal S262144x6 .f32) (w1 : FVec Ideal S8x3x128 .f32) (b1 : FVec Ideal S8x128 .f32) (w2 : FVec Ideal S8x128x128 .f32)
  (b2 : FVec Ideal S8x128 .f32) (w3 : FVec Ideal S8x128x120 .f32) (b3 : FVec Ideal S8x120 .f32) (o : IVec S8x6 32) (p : IVec S7x6 32)

/-- The precondition's seven arrays. -/
theorem fn_eq : fn x w1 b1 w2 b2 w3 b3 o p =
    (cmpf .olt (Host.absf w1) (broadcastInDim S8x3x128 ![] bcast_S_S8x3x128 (constant S_ .f32 0x7F800000#32)),
     cmpf .olt (Host.absf b1) (broadcastInDim S8x128 ![] bcast_S_S8x128 (constant S_ .f32 0x7F800000#32)),
     cmpf .olt (Host.absf w2) (broadcastInDim S8x128x128 ![] bcast_S_S8x128x128 (constant S_ .f32 0x7F800000#32)),
     cmpf .olt (Host.absf b2) (broadcastInDim S8x128 ![] bcast_S_S8x128 (constant S_ .f32 0x7F800000#32)),
     cmpf .olt (Host.absf w3) (broadcastInDim S8x128x120 ![] bcast_S_S8x128x120 (constant S_ .f32 0x7F800000#32)),
     cmpf .olt (Host.absf b3) (broadcastInDim S8x120 ![] bcast_S_S8x120 (constant S_ .f32 0x7F800000#32)),
     cmpf .ole (pB3 (pB2 (pB1 w1 b1) w2 b2) w3 b3) (broadcastInDim S8x120 ![] bcast_S_S8x120 (constant S_ .f32 0x42700000#32))) := by
  unfold fn fn_part1 pB3 pB2 pB1
  rfl

/-- The word of infinity. -/
theorem word_top : Ideal.ofBits .f32 0x7F800000#32 = ⊤ := by
  simp [Ideal.ofBits, Ideal.ieee]
/-- The word of sixty. -/
theorem word_sixty : Ideal.ofBits .f32 0x42700000#32 = ((60 : ℝ) : EReal) := by
  simp [Ideal.ofBits, Ideal.ieee, -EReal.coe_mul]; norm_num

/-- The magnitude of a real number. -/
theorem absf_real (r : ℝ) : (FloatOps.absf ((r : EReal) : Ideal .f32) : Ideal .f32) = ((|r| : ℝ) : EReal) := by
  show max (r : EReal) (-(r : EReal)) = _
  rw [abs_eq_max_neg, ← EReal.coe_neg]
  exact (EReal.coe_strictMono.monotone.map_max).symm

/-- An array whose magnitudes lie below infinity holds real numbers. -/
theorem real_of_ones {s : Shape} (X : FVec Ideal s .f32) (hb : S_.BroadcastsInDim s ![])
    (h : cmpf .olt (Host.absf X) (broadcastInDim s ![] hb (constant S_ .f32 0x7F800000#32)) = fun _ => 1#1) (i : s.Idx) :
    X i = (((X i : EReal).toReal : ℝ) : EReal) := by
  have e : BitVec.ofBool (decide (max (X i : EReal) (-(X i : EReal)) < Ideal.ofBits .f32 0x7F800000#32)) = 1#1 := congrFun h i
  rw [word_top] at e
  have lt : max (X i : EReal) (-(X i : EReal)) < ⊤ := by
    by_contra hn
    rw [decide_eq_false hn] at e
    exact absurd e (by decide)
  rw [max_lt_iff] at lt
  refine (EReal.coe_toReal lt.1.ne fun hbot => ?_).symm
  rw [hbot] at lt
  exact absurd lt.2 (by simp)

/-- Under the precondition the arrays are the weights of eight layers that keep every logit within sixty. -/
theorem weights_of_tame
    (h1 : (fn x w1 b1 w2 b2 w3 b3 o p).1 = fun _ => 1#1) (h2 : (fn x w1 b1 w2 b2 w3 b3 o p).2.1 = fun _ => 1#1)
    (h3 : (fn x w1 b1 w2 b2 w3 b3 o p).2.2.1 = fun _ => 1#1) (h4 : (fn x w1 b1 w2 b2 w3 b3 o p).2.2.2.1 = fun _ => 1#1)
    (h5 : (fn x w1 b1 w2 b2 w3 b3 o p).2.2.2.2.1 = fun _ => 1#1) (h6 : (fn x w1 b1 w2 b2 w3 b3 o p).2.2.2.2.2.1 = fun _ => 1#1)
    (h7 : (fn x w1 b1 w2 b2 w3 b3 o p).2.2.2.2.2.2 = fun _ => 1#1) :
    ∃ Ls : Fin 8 → Layer, Weights Ls w1 b1 w2 b2 w3 b3 ∧ ∀ i, (Ls i).Tame := by
  rw [fn_eq] at h1 h2 h3 h4 h5 h6 h7
  have r1 := real_of_ones w1 _ h1
  have r2 := real_of_ones b1 _ h2
  have r3 := real_of_ones w2 _ h3
  have r4 := real_of_ones b2 _ h4
  have r5 := real_of_ones w3 _ h5
  have r6 := real_of_ones b3 _ h6
  let Ls : Fin 8 → Layer := fun i =>
    { w1 := fun j h => (w1 (ix3 i j h) : EReal).toReal, b1 := fun h => (b1 (ix2 i h) : EReal).toReal
      w2 := fun j h => (w2 (ix3 i j h) : EReal).toReal, b2 := fun h => (b2 (ix2 i h) : EReal).toReal
      w3 := fun j h => (w3 (ix3 i j h) : EReal).toReal, b3 := fun h => (b3 (ix2 i h) : EReal).toReal }
  have hW : Weights Ls w1 b1 w2 b2 w3 b3 :=
    ⟨fun i j h => r1 _, fun i h => r2 _, fun i j h => r3 _, fun i h => r4 _, fun i j h => r5 _, fun i h => r6 _⟩
  refine ⟨Ls, hW, fun i q => ?_⟩
  have e1 : ∀ h, pB1 w1 b1 (ix2 i h) = (((Ls i).bnd1 h : ℝ) : EReal) := fun h => by
    rw [pB1_at, Layer.bnd1, EReal.coe_add, coe_sum, hW.b1, absf_real]
    simp only [hW.w1, absf_real]
  have e2 : ∀ h, pB2 (pB1 w1 b1) w2 b2 (ix2 i h) = (((Ls i).bnd2 h : ℝ) : EReal) := fun h => by
    rw [pB2_at, Layer.bnd2, EReal.coe_add, coe_sum, hW.b2, absf_real]
    simp only [hW.w2, absf_real, e1, EReal.coe_mul]
  have e3 : pB3 (pB2 (pB1 w1 b1) w2 b2) w3 b3 (ix2 i q) = (((Ls i).bnd3 q : ℝ) : EReal) := by
    rw [pB3_at, Layer.bnd3, EReal.coe_add, coe_sum, hW.b3, absf_real]
    simp only [hW.w3, absf_real, e2, EReal.coe_mul]
  have e : BitVec.ofBool (decide (pB3 (pB2 (pB1 w1 b1) w2 b2) w3 b3 (ix2 i q) ≤ Ideal.ofBits .f32 0x42700000#32)) = 1#1 := congrFun h7 (ix2 i q)
  rw [e3, word_sixty] at e
  by_contra hn
  rw [decide_eq_false (fun hle => hn (EReal.coe_le_coe_iff.1 hle))] at e
  exact absurd e (by decide)

end
end Flow
-- ==== Proof.lean ====
/-
The certificate: the claims of `Defs.lean`, put together from the modules under `Proof/`.
-/
module

public import proofs.«01_k».proof.Defs
public import proofs.«01_k».proof.Proof.Gen.Kernel
public import proofs.«01_k».proof.Proof.Gen.Kernel.Frame
public import proofs.«01_k».proof.Proof.Same
public import proofs.«01_k».proof.Proof.Chart
public import proofs.«01_k».proof.Proof.Gen.ChartIdeal.Run
public import proofs.«01_k».proof.Proof.Tame
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and leaves every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The constants that the idealized kernel names are within a rounding of the words they stand for. -/
theorem preserves : preserves_Kernel_KernelIdeal :=
  ⟨IdealRules.named_const.statement Cert.KernelIdeal.κ "inv_pi" .f32 0x3EA2F983#32 _ rfl,
    IdealRules.named_const.statement Cert.KernelIdeal.κ "two_over_pi" .f32 0x3F22F983#32 _ rfl⟩

/-- Under the precondition the kernel and the reference end with the same array. -/
theorem algebraic : algebraic_KernelIdeal_ReferenceIdeal_pre_tame (hKernelIdeal := Cert.KernelIdeal.Gen.facts)
    (hReferenceIdeal := Cert.ReferenceIdeal.Gen.facts) (hPre_tame := Flow.tame_facts) := by
  intro m ρ m' ρ' hpre hagree
  refine ⟨_, Cert.KernelIdeal.Value.run_blocks (F := Ideal) m ρ, ?_⟩
  refine (θ_run Cert.ReferenceIdeal.defs _ _).mono (fun r h c => ⟨(h c).1.trans ?_, (h c).2⟩) (Cert.ReferenceIdeal.Value.run (F := Ideal) m' ρ')
  obtain ⟨p1, p2, p3, p4, p5, p6, p7⟩ := hpre c
  obtain ⟨Ls, hW, hL⟩ := @Flow.weights_of_tame Flow.tame_facts _ _ _ _ _ _ _ _ _ p1 p2 p3 p4 p5 p6 p7
  obtain ⟨g0, g1, g2, g3, g4, g5, g6, g7, g8⟩ := hagree c
  exact Flow.same_result m m' c hL _ _ _ _ _ _ _ _ _ hW rfl rfl rfl rfl rfl rfl rfl rfl rfl g0 g1 g2 g3 g4 g5 g6 g7 g8

/-- The reference's chart runs, keeps its arguments and leaves every counter at zero. -/
theorem chart_frame : quiescent_ChartIdeal (hChartIdeal := Cert.ChartIdeal.Gen.facts) := fun m ρ _ =>
  (θ_run Cert.ChartIdeal.defs _ _).mono
    (fun r h => ⟨fun c => (h c).2, Idealize.ShloMosaic.sem_eq_zero_of_no_sems (by decide) r.2⟩)
    (Cert.ChartIdeal.Value.run (F := Ideal) m ρ)

/-- The reference's chart is within `10⁻⁷` of the chart with the true arctangent. -/
theorem near : holds_ChartIdeal_near_arctan (hChartIdeal := Cert.ChartIdeal.Gen.facts) (hPost_near_arctan := Flow.near_facts) := by
  intro m ρ _
  refine (θ_run Cert.ChartIdeal.defs _ _).mono (fun r h c => ⟨(h c).2, ?_⟩) (Cert.ChartIdeal.Value.run (F := Ideal) m ρ)
  rw [(h c).1]
  exact @Flow.near_of_chart (StableHlo.launchContents m c) _ rfl Flow.near_facts

/-- All the claims. -/
theorem claim : Cert.Claim :=
  ⟨Cert.Kernel.Gen.facts, Cert.KernelIdeal.Gen.facts, Cert.ReferenceIdeal.Gen.facts, Cert.ChartIdeal.Gen.facts, Flow.tame_facts, Flow.near_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    chart_frame, preserves, algebraic, near⟩

end Cert.Proof

end
